-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_scheduled : Cert.Pre_scheduled.Facts] (m : (ℓ : Loc Cert.Kernel4.nD Cert.Kernel4.τ Cert.Kernel4.sig) → Buf (Elt Bits) ℓ) : Prop :=
  ∀ c : Dev Cert.Kernel4.nD,
    (Cert.Pre_scheduled.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5)) (m ((c.tc : Thread Cert.Kernel4.nD Cert.Kernel4.τ).loc Cert.Kernel4.main_arg6)) (m ((c.tc : Thread Cert.Kernel4.nD Cert.Kernel4.τ).loc Cert.Kernel4.main_arg7))) = (fun _ => 1#1)

def Pre_Kernel4Ideal [hPre_scheduled : Cert.Pre_scheduled.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_scheduled.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_scheduled [hPre_scheduled : Cert.Pre_scheduled.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_scheduled.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] [hPre_scheduled : Cert.Pre_scheduled.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] [hPre_scheduled : Cert.Pre_scheduled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_scheduled [hReference4Ideal : Cert.Reference4Ideal.Facts] [hPre_scheduled : Cert.Pre_scheduled.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_scheduled m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  IdealRules.named_const.Statement Cert.KernelIdeal.κ "neg_big" .f32 0xF149F2CA#32 ⊥
  ∧ IdealRules.named_const.Statement Cert.KernelIdeal.κ "exp_scale" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.bf16_pair.BufferStatement Cert.Kernel3Ideal.S131072x2x128 Cert.Kernel3Ideal.S131072x1x128
  ∧ IdealRules.bf16_pair.BufferStatement Cert.Kernel3Ideal.S4096x2x128 Cert.Kernel3Ideal.S4096x1x128
  ∧ IdealRules.bf16_pair.HalfStatement Cert.Kernel3Ideal.S512x2048
  ∧ IdealRules.bf16_pair.Statement Cert.Kernel3Ideal.S512x2x128 Cert.Kernel3Ideal.S512x1x128

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v7_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] [hPre_scheduled : Cert.Pre_scheduled.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v40) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_scheduled : Cert.Pre_scheduled.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_scheduled := hPre_scheduled)
    ∧ quiescent_Kernel4Ideal (hKernel4Ideal := hKernel4Ideal) (hPre_scheduled := hPre_scheduled)
    ∧ quiescent_Reference4Ideal (hReference4Ideal := hReference4Ideal)
    ∧ quiescent_Reference4Ideal_pre_scheduled (hReference4Ideal := hReference4Ideal) (hPre_scheduled := hPre_scheduled)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal) (hPre_scheduled := hPre_scheduled)
-- ==== Pre_finite.lean ====
abbrev S16384x6656 : Shape := ⟨2, ![16384, 6656]⟩
abbrev S_ : Shape := ⟨0, ![]⟩

class Facts : Prop where
  bcast_S_S16384x6656 : S_.BroadcastsInDim S16384x6656 (![] : Fin 0 → Fin S16384x6656.rank)
  reducesTo_S16384x6656_S_d0_1 : S16384x6656.ReducesTo [0, 1] S_
  h_S_ : 0 < S_.numel

variable [Facts]

def fn {F : FTy → Type} [FloatOps F] (main_arg0 : FVec F S16384x6656 .f32) : IVec S_ 1 :=
  let main_v0 : FVec F S16384x6656 .f32 := Host.absf main_arg0
  let main_cst : FVec F S_ .f32 := constant S_ .f32 0x7F800000#32
  let main_v1 : FVec F S16384x6656 .f32 := broadcastInDim S16384x6656 ![] bcast_S_S16384x6656 main_cst
  let main_v2 : IVec S16384x6656 1 := cmpf .olt main_v0 main_v1
  let main_c : IVec S_ 1 := constantI S_ 1 1#1
  let main_v3 : IVec S_ 1 := (fun x v => Host.reduce IntOp.andi x v reducesTo_S16384x6656_S_d0_1 h_S_) main_v2 main_c
  main_v3
-- ==== Pre_scheduled.lean ====
abbrev S160 : Shape := ⟨1, ![160]⟩
abbrev S1 : Shape := ⟨1, ![1]⟩
abbrev S327680x128 : Shape := ⟨2, ![327680, 128]⟩
abbrev S32x2048x1024 : Shape := ⟨3, ![32, 2048, 1024]⟩
abbrev S32x1024x2048 : Shape := ⟨3, ![32, 1024, 2048]⟩
abbrev S_ : Shape := ⟨0, ![]⟩
abbrev S159 : Shape := ⟨1, ![159]⟩

class Facts : Prop where
  shapeCasts_S1_S_ : S1.ShapeCasts S_
  bcast_S_S160 : S_.BroadcastsInDim S160 (![] : Fin 0 → Fin S160.rank)
  slices_S160_S159_1 : S160.Slices ![1] S159
  bcast_S_S159 : S_.BroadcastsInDim S159 (![] : Fin 0 → Fin S159.rank)
  slices_S160_S159_0 : S160.Slices ![0] S159
  slices_S160_S1_0 : S160.Slices ![0] S1
  reducesTo_S160_S_d0 : S160.ReducesTo [0] S_
  h_S_ : 0 < S_.numel
  reducesTo_S159_S_d0 : S159.ReducesTo [0] S_

variable [Facts]

def fn_where {F : FTy → Type} [FloatOps F] (arg0 : IVec S159 1) (arg1 : IVec S159 1) (arg2 : IVec S159 1) : IVec S159 1 :=
  let v0 : IVec S159 1 := select arg0 arg1 arg2
  v0

def fn_part2 {F : FTy → Type} [FloatOps F] (main_arg2 : IVec S160 32) (main_v0 : IVec S160 32) (main_v1 : IVec S_ 32) (main_v35 : IVec S_ 1) (main_v38 : IVec S_ 1) : IVec S_ 1 :=
  let main_v39 : IVec S_ 1 := andi main_v35 main_v38
  let main_c_8 : IVec S_ 32 := constantI S_ 32 1#32
  let main_v40 : IVec S160 32 := broadcastInDim S160 ![] bcast_S_S160 main_c_8
  let main_v41 : IVec S160 32 := addi main_v0 main_v40
  let main_v42 : IVec S160 32 := broadcastInDim S160 ![] bcast_S_S160 main_v1
  let main_v43 : IVec S160 1 := cmpi .ne main_v41 main_v42
  let main_c_9 : IVec S_ 32 := constantI S_ 32 0#32
  let main_v44 : IVec S160 32 := broadcastInDim S160 ![] bcast_S_S160 main_c_9
  let main_v45 : IVec S160 1 := cmpi .slt main_arg2 main_v44
  let main_v46 : IVec S160 1 := ori main_v43 main_v45
  let main_c_10 : IVec S_ 1 := constantI S_ 1 1#1
  let main_v47 : IVec S_ 1 := (fun x v => Host.reduce IntOp.andi x v reducesTo_S160_S_d0 h_S_) main_v46 main_c_10
  let main_v48 : IVec S_ 1 := andi main_v39 main_v47
  main_v48

def fn_part1 {F : FTy → Type} [FloatOps F] (main_arg1 : IVec S160 32) (main_arg2 : IVec S160 32) (main_v0 : IVec S160 32) (main_v1 : IVec S_ 32) (main_v3 : IVec S160 1) (main_v11 : IVec S160 1) (main_v14 : IVec S159 1) (main_v17 : IVec S159 1) (main_v18 : IVec S159 32) (main_v19 : IVec S159 32) : IVec S_ 1 :=
  let main_v20 : IVec S159 1 := cmpi .eq main_v18 main_v19
  let main_v21 : IVec S159 32 := (extractStridedSlice S159 ![1] · slices_S160_S159_1) main_arg2
  let main_v22 : IVec S159 32 := (extractStridedSlice S159 ![0] · slices_S160_S159_0) main_arg2
  let main_v23 : IVec S159 1 := cmpi .eq main_v21 main_v22
  let main_v24 : IVec S159 1 := andi main_v20 main_v23
  let main_v25 : IVec S159 1 := fn_where (F := F) main_v14 main_v17 main_v24
  let main_c_3 : IVec S_ 32 := constantI S_ 32 1#32
  let main_v26 : IVec S_ 1 := cmpi .sge main_v1 main_c_3
  let main_c_4 : IVec S_ 32 := constantI S_ 32 160#32
  let main_v27 : IVec S_ 1 := cmpi .sle main_v1 main_c_4
  let main_v28 : IVec S_ 1 := andi main_v26 main_v27
  let main_v29 : IVec S1 32 := (extractStridedSlice S1 ![0] · slices_S160_S1_0) main_arg1
  let main_v30 : IVec S_ 32 := shapeCast S_ main_v29 shapeCasts_S1_S_
  let main_c_5 : IVec S_ 32 := constantI S_ 32 1#32
  let main_v31 : IVec S_ 1 := cmpi .eq main_v30 main_c_5
  let main_v32 : IVec S_ 1 := andi main_v28 main_v31
  let main_v33 : IVec S160 1 := ori main_v3 main_v11
  let main_c_6 : IVec S_ 1 := constantI S_ 1 1#1
  let main_v34 : IVec S_ 1 := (fun x v => Host.reduce IntOp.andi x v reducesTo_S160_S_d0 h_S_) main_v33 main_c_6
  let main_v35 : IVec S_ 1 := andi main_v32 main_v34
  let main_v36 : IVec S159 1 := (extractStridedSlice S159 ![1] · slices_S160_S159_1) main_v3
  let main_v37 : IVec S159 1 := ori main_v36 main_v25
  let main_c_7 : IVec S_ 1 := constantI S_ 1 1#1
  let main_v38 : IVec S_ 1 := (fun x v => Host.reduce IntOp.andi x v reducesTo_S159_S_d0 h_S_) main_v37 main_c_7
  fn_part2 (F := F) main_arg2 main_v0 main_v1 main_v35 main_v38

def fn {F : FTy → Type} [FloatOps F] (main_arg0 : IVec S160 32) (main_arg1 : IVec S160 32) (main_arg2 : IVec S160 32) (main_arg3 : IVec S1 32) (main_arg4 : IVec S327680x128 32) (main_arg5 : FVec F S32x2048x1024 .f32) (main_arg6 : FVec F S32x2048x1024 .f32) (main_arg7 : FVec F S32x1024x2048 .f32) : IVec S_ 1 :=
  let main_v0 : IVec S160 32 := iotaInDim S160 32 0
  let main_v1 : IVec S_ 32 := shapeCast S_ main_arg3 shapeCasts_S1_S_
  let main_v2 : IVec S160 32 := broadcastInDim S160 ![] bcast_S_S160 main_v1
  let main_v3 : IVec S160 1 := cmpi .sge main_v0 main_v2
  let main_c : IVec S_ 32 := constantI S_ 32 0#32
  let main_v4 : IVec S160 32 := broadcastInDim S160 ![] bcast_S_S160 main_c
  let main_v5 : IVec S160 1 := cmpi .sge main_arg0 main_v4
  let main_c_0 : IVec S_ 32 := constantI S_ 32 32#32
  let main_v6 : IVec S160 32 := broadcastInDim S160 ![] bcast_S_S160 main_c_0
  let main_v7 : IVec S160 1 := cmpi .slt main_arg0 main_v6
  let main_v8 : IVec S160 1 := andi main_v5 main_v7
  let main_c_1 : IVec S_ 32 := constantI S_ 32 32#32
  let main_v9 : IVec S160 32 := broadcastInDim S160 ![] bcast_S_S160 main_c_1
  let main_v10 : IVec S160 1 := cmpi .slt main_arg2 main_v9
  let main_v11 : IVec S160 1 := andi main_v8 main_v10
  let main_v12 : IVec S159 32 := (extractStridedSlice S159 ![1] · slices_S160_S159_1) main_arg1
  let main_c_2 : IVec S_ 32 := constantI S_ 32 1#32
  let main_v13 : IVec S159 32 := broadcastInDim S159 ![] bcast_S_S159 main_c_2
  let main_v14 : IVec S159 1 := cmpi .eq main_v12 main_v13
  let main_v15 : IVec S159 32 := (extractStridedSlice S159 ![1] · slices_S160_S159_1) main_arg0
  let main_v16 : IVec S159 32 := (extractStridedSlice S159 ![0] · slices_S160_S159_0) main_arg2
  let main_v17 : IVec S159 1 := cmpi .eq main_v15 main_v16
  let main_v18 : IVec S159 32 := (extractStridedSlice S159 ![1] · slices_S160_S159_1) main_arg0
  let main_v19 : IVec S159 32 := (extractStridedSlice S159 ![0] · slices_S160_S159_0) main_arg0
  fn_part1 (F := F) main_arg1 main_arg2 main_v0 main_v1 main_v3 main_v11 main_v14 main_v17 main_v18 main_v19
-- ==== Kernel.lean ====
abbrev S16384x6656 : Shape := ⟨2, ![16384, 6656]⟩
abbrev S16384x1024 : Shape := ⟨2, ![16384, 1024]⟩
abbrev S2048x128 : Shape := ⟨2, ![2048, 128]⟩
abbrev S128x2048 : Shape := ⟨2, ![128, 2048]⟩
abbrev S16x2048 : Shape := ⟨2, ![16, 2048]⟩
abbrev S144x2048 : Shape := ⟨2, ![144, 2048]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S8x2048 : Shape := ⟨2, ![8, 2048]⟩
abbrev S256x256 : Shape := ⟨2, ![256, 256]⟩
abbrev S128x256 : Shape := ⟨2, ![128, 256]⟩
abbrev S512x128 : Shape := ⟨2, ![512, 128]⟩
abbrev S512x256 : Shape := ⟨2, ![512, 256]⟩
abbrev S256 : Shape := ⟨1, ![256]⟩
abbrev S1x256 : Shape := ⟨2, ![1, 256]⟩
abbrev S144x256 : Shape := ⟨2, ![144, 256]⟩
abbrev S768x128 : Shape := ⟨2, ![768, 128]⟩
abbrev S768x256 : Shape := ⟨2, ![768, 256]⟩
abbrev S144x512 : Shape := ⟨2, ![144, 512]⟩
abbrev S1024x128 : Shape := ⟨2, ![1024, 128]⟩
abbrev S1024x256 : Shape := ⟨2, ![1024, 256]⟩
abbrev S144x768 : Shape := ⟨2, ![144, 768]⟩
abbrev S1280x128 : Shape := ⟨2, ![1280, 128]⟩
abbrev S1280x256 : Shape := ⟨2, ![1280, 256]⟩
abbrev S144x1024 : Shape := ⟨2, ![144, 1024]⟩
abbrev S1536x128 : Shape := ⟨2, ![1536, 128]⟩
abbrev S1536x256 : Shape := ⟨2, ![1536, 256]⟩
abbrev S4x256 : Shape := ⟨2, ![4, 256]⟩
abbrev S144x1280 : Shape := ⟨2, ![144, 1280]⟩
abbrev S1792x128 : Shape := ⟨2, ![1792, 128]⟩
abbrev S1792x256 : Shape := ⟨2, ![1792, 256]⟩
abbrev S5x256 : Shape := ⟨2, ![5, 256]⟩
abbrev S144x1536 : Shape := ⟨2, ![144, 1536]⟩
abbrev S2048x256 : Shape := ⟨2, ![2048, 256]⟩
abbrev S6x256 : Shape := ⟨2, ![6, 256]⟩
abbrev S144x1792 : Shape := ⟨2, ![144, 1792]⟩
abbrev S7x256 : Shape := ⟨2, ![7, 256]⟩

abbrev nBuf : Space → Nat
  | .hbm => 2
  | .vmem => 8
  | .smem => 0
  | _ => 0

abbrev bufTy : (tb : Table) → Fin (tcTables nBuf tb) → BufTy
  | .hbm, ⟨0, _⟩ => ⟨S16384x6656, .f32⟩
  | .hbm, ⟨1, _⟩ => ⟨S16384x1024, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S16384x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c28_i32 : BitVec 32 := 28#32
  let v0 : BitVec 32 := Scalar.addi c28_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "exp_scale" => some (((Real.sqrt 128)⁻¹ * (Real.log 2)⁻¹ : ℝ) : EReal)
  | "neg_big" => some ⊥
  | _ => none
-- ==== ReferenceIdeal.lean ====
abbrev S16384x6656 : Shape := ⟨2, ![16384, 6656]⟩
abbrev S16384x1024 : Shape := ⟨2, ![16384, 1024]⟩
abbrev S8x8x256x8x128 : Shape := ⟨5, ![8, 8, 256, 8, 128]⟩
abbrev S8x8x8x256x128 : Shape := ⟨5, ![8, 8, 8, 256, 128]⟩
abbrev S_ : Shape := ⟨0, ![]⟩
abbrev S8x8x8x128 : Shape := ⟨4, ![8, 8, 8, 128]⟩
abbrev S8 : Shape := ⟨1, ![8]⟩
abbrev S8x8x8x256x8 : Shape := ⟨5, ![8, 8, 8, 256, 8]⟩
abbrev S1x8 : Shape := ⟨2, ![1, 8]⟩
abbrev S8x1 : Shape := ⟨2, ![8, 1]⟩
abbrev S8x8 : Shape := ⟨2, ![8, 8]⟩
abbrev S1x1x8x1x8 : Shape := ⟨5, ![1, 1, 8, 1, 8]⟩
abbrev S8x8x8x256x3 : Shape := ⟨5, ![8, 8, 8, 256, 3]⟩
abbrev S8x1x1x1x1 : Shape := ⟨5, ![8, 1, 1, 1, 1]⟩
abbrev S1x8x1x1x1 : Shape := ⟨5, ![1, 8, 1, 1, 1]⟩
abbrev S8x8x8x256x3x1 : Shape := ⟨6, ![8, 8, 8, 256, 3, 1]⟩
abbrev S8x8x8x256x3x3 : Shape := ⟨6, ![8, 8, 8, 256, 3, 3]⟩
abbrev S8x8x8x256x3x256x128 : Shape := ⟨7, ![8, 8, 8, 256, 3, 256, 128]⟩
abbrev S8x8x8x256x3x256 : Shape := ⟨6, ![8, 8, 8, 256, 3, 256]⟩
abbrev S8x8x8x256x256 : Shape := ⟨5, ![8, 8, 8, 256, 256]⟩
abbrev S256 : Shape := ⟨1, ![256]⟩
abbrev S1x256 : Shape := ⟨2, ![1, 256]⟩
abbrev S256x1 : Shape := ⟨2, ![256, 1]⟩
abbrev S256x256 : Shape := ⟨2, ![256, 256]⟩
abbrev S8x8x8x256x768 : Shape := ⟨5, ![8, 8, 8, 256, 768]⟩
abbrev S8x8x8x256x1024 : Shape := ⟨5, ![8, 8, 8, 256, 1024]⟩
abbrev S8x8x8x256 : Shape := ⟨4, ![8, 8, 8, 256]⟩
abbrev S8x8x8x256x1 : Shape := ⟨5, ![8, 8, 8, 256, 1]⟩

abbrev nBuf : Space → Nat
  | .hbm => 146
  | .vmem => 0
  | .smem => 0
  | _ => 0

abbrev hbmTy0_0 (i : Nat) : BufTy := match i % 128 with
  | 0 => ⟨S16384x6656, .f32⟩
  | 1 => ⟨S16384x1024, .f32⟩
  | 2 => ⟨S8x8x256x8x128, .f32⟩
  | 3 => ⟨S8x8x8x256x128, .f32⟩
  | 4 => ⟨S16384x1024, .f32⟩
  | 5 => ⟨S8x8x256x8x128, .f32⟩
  | 6 => ⟨S8x8x8x256x128, .f32⟩
  | 7 => ⟨S16384x1024, .f32⟩
  | 8 => ⟨S8x8x256x8x128, .f32⟩
  | 9 => ⟨S8x8x8x256x128, .f32⟩
  | 10 => ⟨S_, .f32⟩
  | 11 => ⟨S8x8x8x128, .f32⟩
  | 12 => ⟨S_, .f32⟩
  | 13 => ⟨S8x8x8x128, .f32⟩
  | 14 => ⟨S8x8x8x128, .f32⟩
  | 15 => ⟨S_, .f32⟩
  | 16 => ⟨S_, .f32⟩
  | 17 => ⟨S_, .f32⟩
  | 18 => ⟨S_, .f32⟩
  | 19 => ⟨S8, .i32⟩
  | 20 => ⟨S8x8x8x256x8, .f32⟩
  | 21 => ⟨S8, .i32⟩
  | 22 => ⟨S1x8, .i32⟩
  | 23 => ⟨S8x1, .i32⟩
  | 24 => ⟨S8x8, .i32⟩
  | 25 => ⟨S8x8, .i32⟩
  | 26 => ⟨S8x8, .i1⟩
  | 27 => ⟨S1x1x8x1x8, .i1⟩
  | 28 => ⟨S_, .f32⟩
  | 29 => ⟨S_, .f32⟩
  | 30 => ⟨S8x8x8x256x8, .i1⟩
  | 31 => ⟨S8x8x8x256x8, .f32⟩
  | 32 => ⟨S8x8x8x256x8, .f32⟩
  | 33 => ⟨S8x8x8x256x3, .f32⟩
  | 34 => ⟨S8x8x8x256x3, .i32⟩
  | 35 => ⟨S8, .i32⟩
  | 36 => ⟨S8x1x1x1x1, .i32⟩
  | 37 => ⟨S8, .i32⟩
  | 38 => ⟨S1x8x1x1x1, .i32⟩
  | 39 => ⟨S_, .i32⟩
  | 40 => ⟨S8x1x1x1x1, .i32⟩
  | 41 => ⟨S8x1x1x1x1, .i1⟩
  | 42 => ⟨S_, .i32⟩
  | 43 => ⟨S8x1x1x1x1, .i32⟩
  | 44 => ⟨S8x1x1x1x1, .i32⟩
  | 45 => ⟨S8x1x1x1x1, .i32⟩
  | 46 => ⟨S_, .i32⟩
  | 47 => ⟨S1x8x1x1x1, .i32⟩
  | 48 => ⟨S1x8x1x1x1, .i1⟩
  | 49 => ⟨S_, .i32⟩
  | 50 => ⟨S1x8x1x1x1, .i32⟩
  | 51 => ⟨S1x8x1x1x1, .i32⟩
  | 52 => ⟨S1x8x1x1x1, .i32⟩
  | 53 => ⟨S_, .i32⟩
  | 54 => ⟨S8x8x8x256x3, .i32⟩
  | 55 => ⟨S8x8x8x256x3, .i1⟩
  | 56 => ⟨S_, .i32⟩
  | 57 => ⟨S8x8x8x256x3, .i32⟩
  | 58 => ⟨S8x8x8x256x3, .i32⟩
  | 59 => ⟨S8x8x8x256x3, .i32⟩
  | 60 => ⟨S8x8x8x256x3, .i32⟩
  | 61 => ⟨S8x8x8x256x3, .i32⟩
  | 62 => ⟨S8x8x8x256x3x1, .i32⟩
  | 63 => ⟨S8x8x8x256x3x1, .i32⟩
  | 64 => ⟨S8x8x8x256x3x1, .i32⟩
  | 65 => ⟨S8x8x8x256x3x3, .i32⟩
  | 66 => ⟨S8x8x8x256x3x256x128, .f32⟩
  | 67 => ⟨S_, .i32⟩
  | 68 => ⟨S8x1x1x1x1, .i32⟩
  | 69 => ⟨S8x1x1x1x1, .i1⟩
  | 70 => ⟨S_, .i32⟩
  | 71 => ⟨S8x1x1x1x1, .i32⟩
  | 72 => ⟨S8x1x1x1x1, .i32⟩
  | 73 => ⟨S8x1x1x1x1, .i32⟩
  | 74 => ⟨S_, .i32⟩
  | 75 => ⟨S1x8x1x1x1, .i32⟩
  | 76 => ⟨S1x8x1x1x1, .i1⟩
  | 77 => ⟨S_, .i32⟩
  | 78 => ⟨S1x8x1x1x1, .i32⟩
  | 79 => ⟨S1x8x1x1x1, .i32⟩
  | 80 => ⟨S1x8x1x1x1, .i32⟩
  | 81 => ⟨S_, .i32⟩
  | 82 => ⟨S8x8x8x256x3, .i32⟩
  | 83 => ⟨S8x8x8x256x3, .i1⟩
  | 84 => ⟨S_, .i32⟩
  | 85 => ⟨S8x8x8x256x3, .i32⟩
  | 86 => ⟨S8x8x8x256x3, .i32⟩
  | 87 => ⟨S8x8x8x256x3, .i32⟩
  | 88 => ⟨S8x8x8x256x3, .i32⟩
  | 89 => ⟨S8x8x8x256x3, .i32⟩
  | 90 => ⟨S8x8x8x256x3x1, .i32⟩
  | 91 => ⟨S8x8x8x256x3x1, .i32⟩
  | 92 => ⟨S8x8x8x256x3x1, .i32⟩
  | 93 => ⟨S8x8x8x256x3x3, .i32⟩
  | 94 => ⟨S8x8x8x256x3x256x128, .f32⟩
  | 95 => ⟨S8x8x8x256x3x256, .f32⟩
  | 96 => ⟨S8x8x8x256x3x256, .f32⟩
  | 97 => ⟨S8x8x8x256x3x256, .f32⟩
  | 98 => ⟨S8x8x8x256x3, .f32⟩
  | 99 => ⟨S_, .f32⟩
  | 100 => ⟨S8x8x8x256x3, .f32⟩
  | 101 => ⟨S8x8x8x256x3, .i1⟩
  | 102 => ⟨S8x8x8x256x3x1, .i1⟩
  | 103 => ⟨S_, .f32⟩
  | 104 => ⟨S_, .f32⟩
  | 105 => ⟨S8x8x8x256x3x256, .i1⟩
  | 106 => ⟨S8x8x8x256x3x256, .f32⟩
  | 107 => ⟨S8x8x8x256x3x256, .f32⟩
  | 108 => ⟨S8x8x8x256x256, .f32⟩
  | 109 => ⟨S8x8x8x256x256, .f32⟩
  | 110 => ⟨S8x8x8x256x256, .f32⟩
  | 111 => ⟨S256, .i32⟩
  | 112 => ⟨S1x256, .i32⟩
  | 113 => ⟨S256x1, .i32⟩
  | 114 => ⟨S256x256, .i32⟩
  | 115 => ⟨S256x256, .i32⟩
  | 116 => ⟨S256x256, .i1⟩
  | 117 => ⟨S_, .f32⟩
  | 118 => ⟨S_, .f32⟩
  | 119 => ⟨S8x8x8x256x256, .i1⟩
  | 120 => ⟨S8x8x8x256x256, .f32⟩
  | 121 => ⟨S8x8x8x256x256, .f32⟩
  | 122 => ⟨S8x8x8x256x768, .f32⟩
  | 123 => ⟨S8x8x8x256x1024, .f32⟩
  | 124 => ⟨S_, .f32⟩
  | 125 => ⟨S8x8x8x256, .f32⟩
  | 126 => ⟨S_, .f32⟩
  | 127 => ⟨S8x8x8x256, .f32⟩
  | _ => ⟨S16384x6656, .f32⟩

abbrev hbmTy0_1 (i : Nat) : BufTy := match i % 128 with
  | 0 => ⟨S8x8x8x256, .f32⟩
  | 1 => ⟨S8x8x8x256x1, .f32⟩
  | 2 => ⟨S8x8x8x256x1024, .f32⟩
  | 3 => ⟨S8x8x8x256x1024, .f32⟩
  | 4 => ⟨S8x8x8x256x1024, .f32⟩
  | 5 => ⟨S_, .f32⟩
  | 6 => ⟨S8x8x8x256, .f32⟩
  | 7 => ⟨S8x8x8x256x1, .f32⟩
  | 8 => ⟨S8x8x8x256x1024, .f32⟩
  | 9 => ⟨S8x8x8x256x1024, .f32⟩
  | 10 => ⟨S8x8x8x256x768, .f32⟩
  | 11 => ⟨S8x8x8x256x3x256, .f32⟩
  | 12 => ⟨S8x8x8x256x256, .f32⟩
  | 13 => ⟨S8x8x8x256x128, .f32⟩
  | 14 => ⟨S8x8x8x256x128, .f32⟩
  | 15 => ⟨S8x8x8x256x128, .f32⟩
  | 16 => ⟨S8x8x256x8x128, .f32⟩
  | 17 => ⟨S16384x1024, .f32⟩
  | _ => ⟨S16384x6656, .f32⟩

abbrev hbmTy (i : Nat) : BufTy := match i / 128 with
  | 0 => hbmTy0_0 i
  | 1 => hbmTy0_1 i
  | _ => ⟨S16384x6656, .f32⟩

abbrev bufTy : (tb : Table) → Fin (tcTables nBuf tb) → BufTy
  | .hbm, ⟨i, _⟩ => hbmTy i
  | _, _ => ⟨S16384x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_cst_0 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_cst_2 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_v23 : Ref sig .tc := ⟨.hbm, 32, rfl⟩
abbrev main_values : Ref sig .tc := ⟨.hbm, 33, rfl⟩
abbrev main_indices : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c : Ref sig .tc := ⟨.hbm, 39, rfl⟩
abbrev main_v28 : Ref sig .tc := ⟨.hbm, 40, rfl⟩
abbrev main_v29 : Ref sig .tc := ⟨.hbm, 41, rfl⟩
abbrev main_c_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_5 : Ref sig .tc := ⟨.hbm, 46, rfl⟩
abbrev main_v33 : Ref sig .tc := ⟨.hbm, 47, rfl⟩
abbrev main_v34 : Ref sig .tc := ⟨.hbm, 48, rfl⟩
abbrev main_c_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_c_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_9 : Ref sig .tc := ⟨.hbm, 67, rfl⟩
abbrev main_v50 : Ref sig .tc := ⟨.hbm, 68, rfl⟩
abbrev main_v51 : Ref sig .tc := ⟨.hbm, 69, rfl⟩
abbrev main_c_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_c_11 : Ref sig .tc := ⟨.hbm, 74, rfl⟩
abbrev main_v55 : Ref sig .tc := ⟨.hbm, 75, rfl⟩
abbrev main_v56 : Ref sig .tc := ⟨.hbm, 76, rfl⟩
abbrev main_c_12 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_c_14 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_15 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_17 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_18 : Ref sig .tc := ⟨.hbm, 124, rfl⟩
abbrev main_v92 : Ref sig .tc := ⟨.hbm, 125, rfl⟩
abbrev main_cst_19 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_20 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x6656 : Shape := ⟨2, ![2048, 6656]⟩
abbrev S16384x6656 : Shape := ⟨2, ![16384, 6656]⟩
abbrev S512x2048 : Shape := ⟨2, ![512, 2048]⟩
abbrev S2048x3328 : Shape := ⟨2, ![2048, 3328]⟩
abbrev S512x3328 : Shape := ⟨2, ![512, 3328]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6656, .f32⟩
  | .hbm, ⟨3, _⟩ => ⟨S2048x6656, .bf16⟩
  | .hbm, ⟨4, _⟩ => ⟨S16384x6656, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x3328, .bf16⟩
  | .local _ .vmem, ⟨4, _⟩ => ⟨S2048x3328, .bf16⟩
  | .local _ .vmem, ⟨5, _⟩ => ⟨S512x3328, .f32⟩
  | .local _ .vmem, ⟨6, _⟩ => ⟨S512x3328, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x3328 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x3328 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S16384x2048 : Shape := ⟨2, ![16384, 2048]⟩
abbrev S1x2048 : Shape := ⟨2, ![1, 2048]⟩
abbrev S2048x6656 : Shape := ⟨2, ![2048, 6656]⟩
abbrev S_ : Shape := ⟨0, ![]⟩
abbrev S16384 : Shape := ⟨1, ![16384]⟩
abbrev S16384x1 : Shape := ⟨2, ![16384, 1]⟩
abbrev S16384x6656 : Shape := ⟨2, ![16384, 6656]⟩

abbrev nBuf : Space → Nat
  | .hbm => 19
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x6656, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x6656, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S1x1024 : Shape := ⟨2, ![1, 1024]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S1024x2048 : Shape := ⟨2, ![1024, 2048]⟩
abbrev S131072x128 : Shape := ⟨2, ![131072, 128]⟩
abbrev S16384x128 : Shape := ⟨2, ![16384, 128]⟩
abbrev S512x1024 : Shape := ⟨2, ![512, 1024]⟩
abbrev S512x2048 : Shape := ⟨2, ![512, 2048]⟩
abbrev S4096x128 : Shape := ⟨2, ![4096, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S128 : Shape := ⟨1, ![128]⟩

abbrev nBuf : Space → Nat
  | .hbm => 19
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S1x1024, .f32⟩
  | .hbm, ⟨4, _⟩ => ⟨S2048x2048, .f32⟩
  | .hbm, ⟨5, _⟩ => ⟨S1x2048, .f32⟩
  | .hbm, ⟨6, _⟩ => ⟨S2048x128, .f32⟩
  | .hbm, ⟨7, _⟩ => ⟨S1x128, .f32⟩
  | .hbm, ⟨8, _⟩ => ⟨S2048x128, .bf16⟩
  | .hbm, ⟨9, _⟩ => ⟨S2048x128, .f32⟩
  | .hbm, ⟨10, _⟩ => ⟨S2048x128, .f32⟩
  | .hbm, ⟨11, _⟩ => ⟨S2048x128, .bf16⟩
  | .hbm, ⟨12, _⟩ => ⟨S2048x2048, .bf16⟩
  | .hbm, ⟨13, _⟩ => ⟨S1024x2048, .bf16⟩
  | .hbm, ⟨14, _⟩ => ⟨S1024x2048, .bf16⟩
  | .hbm, ⟨15, _⟩ => ⟨S16384x2048, .f32⟩
  | .hbm, ⟨16, _⟩ => ⟨S131072x128, .i32⟩
  | .hbm, ⟨17, _⟩ => ⟨S16384x128, .f32⟩
  | .hbm, ⟨18, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1x2048, .f32⟩
  | .local _ .vmem, ⟨10, _⟩ => ⟨S2048x128, .bf16⟩
  | .local _ .vmem, ⟨11, _⟩ => ⟨S2048x128, .bf16⟩
  | .local _ .vmem, ⟨12, _⟩ => ⟨S1x128, .f32⟩
  | .local _ .vmem, ⟨13, _⟩ => ⟨S512x2048, .f32⟩
  | .local _ .vmem, ⟨14, _⟩ => ⟨S512x2048, .f32⟩
  | .local _ .vmem, ⟨15, _⟩ => ⟨S4096x128, .i32⟩
  | .local _ .vmem, ⟨16, _⟩ => ⟨S4096x128, .i32⟩
  | .local _ .vmem, ⟨17, _⟩ => ⟨S512x128, .f32⟩
  | .local _ .vmem, ⟨18, _⟩ => ⟨S512x128, .f32⟩
  | .local _ .vmem, ⟨19, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x128 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Kernel3Ideal.lean ====
abbrev S16384x1024 : Shape := ⟨2, ![16384, 1024]⟩
abbrev S16384x2048 : Shape := ⟨2, ![16384, 2048]⟩
abbrev S1x1024 : Shape := ⟨2, ![1, 1024]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S1024x2048 : Shape := ⟨2, ![1024, 2048]⟩
abbrev S131072x2x128 : Shape := ⟨3, ![131072, 2, 128]⟩
abbrev S16384x128 : Shape := ⟨2, ![16384, 128]⟩
abbrev S131072x1x128 : Shape := ⟨3, ![131072, 1, 128]⟩
abbrev S131072x128 : Shape := ⟨2, ![131072, 128]⟩
abbrev S512x1024 : Shape := ⟨2, ![512, 1024]⟩
abbrev S512x2048 : Shape := ⟨2, ![512, 2048]⟩
abbrev S4096x128 : Shape := ⟨2, ![4096, 128]⟩
abbrev S4096x2x128 : Shape := ⟨3, ![4096, 2, 128]⟩
abbrev S4096x1x128 : Shape := ⟨3, ![4096, 1, 128]⟩
abbrev S512x128 : Shape := ⟨2, ![512, 128]⟩
abbrev S512 : Shape := ⟨1, ![512]⟩
abbrev S512x1 : Shape := ⟨2, ![512, 1]⟩
abbrev S512x2x128 : Shape := ⟨3, ![512, 2, 128]⟩
abbrev S512x1x128 : Shape := ⟨3, ![512, 1, 128]⟩
abbrev S512x512 : Shape := ⟨2, ![512, 512]⟩
abbrev S128 : Shape := ⟨1, ![128]⟩

abbrev nBuf : Space → Nat
  | .hbm => 19
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S1x1024, .f32⟩
  | .hbm, ⟨4, _⟩ => ⟨S2048x2048, .f32⟩
  | .hbm, ⟨5, _⟩ => ⟨S1x2048, .f32⟩
  | .hbm, ⟨6, _⟩ => ⟨S2048x128, .f32⟩
  | .hbm, ⟨7, _⟩ => ⟨S1x128, .f32⟩
  | .hbm, ⟨8, _⟩ => ⟨S2048x128, .bf16⟩
  | .hbm, ⟨9, _⟩ => ⟨S2048x128, .f32⟩
  | .hbm, ⟨10, _⟩ => ⟨S2048x128, .f32⟩
  | .hbm, ⟨11, _⟩ => ⟨S2048x128, .bf16⟩
  | .hbm, ⟨12, _⟩ => ⟨S2048x2048, .bf16⟩
  | .hbm, ⟨13, _⟩ => ⟨S1024x2048, .bf16⟩
  | .hbm, ⟨14, _⟩ => ⟨S1024x2048, .bf16⟩
  | .hbm, ⟨15, _⟩ => ⟨S16384x2048, .f32⟩
  | .hbm, ⟨16, _⟩ => ⟨S131072x2x128, .bf16⟩
  | .hbm, ⟨17, _⟩ => ⟨S16384x128, .f32⟩
  | .hbm, ⟨18, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x2048, .f32⟩
  | .local _ .vmem, ⟨5, _⟩ => ⟨S512x2048, .f32⟩
  | .local _ .vmem, ⟨6, _⟩ => ⟨S1x1024, .f32⟩
  | .local _ .vmem, ⟨7, _⟩ => ⟨S1024x2048, .bf16⟩
  | .local _ .vmem, ⟨8, _⟩ => ⟨S1024x2048, .bf16⟩
  | .local _ .vmem, ⟨9, _⟩ => ⟨S1x2048, .f32⟩
  | .local _ .vmem, ⟨10, _⟩ => ⟨S2048x128, .bf16⟩
  | .local _ .vmem, ⟨11, _⟩ => ⟨S2048x128, .bf16⟩
  | .local _ .vmem, ⟨12, _⟩ => ⟨S1x128, .f32⟩
  | .local _ .vmem, ⟨13, _⟩ => ⟨S512x2048, .f32⟩
  | .local _ .vmem, ⟨14, _⟩ => ⟨S512x2048, .f32⟩
  | .local _ .vmem, ⟨15, _⟩ => ⟨S4096x2x128, .bf16⟩
  | .local _ .vmem, ⟨16, _⟩ => ⟨S4096x2x128, .bf16⟩
  | .local _ .vmem, ⟨17, _⟩ => ⟨S512x128, .f32⟩
  | .local _ .vmem, ⟨18, _⟩ => ⟨S512x128, .f32⟩
  | .local _ .vmem, ⟨19, _⟩ => ⟨S1x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4096x2x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference3Ideal.lean ====
abbrev S16384x1024 : Shape := ⟨2, ![16384, 1024]⟩
abbrev S16384x2048 : Shape := ⟨2, ![16384, 2048]⟩
abbrev S1x1024 : Shape := ⟨2, ![1, 1024]⟩
abbrev S2048x2048 : Shape := ⟨2, ![2048, 2048]⟩
abbrev S1x2048 : Shape := ⟨2, ![1, 2048]⟩
abbrev S2048x128 : Shape := ⟨2, ![2048, 128]⟩
abbrev S1x128 : Shape := ⟨2, ![1, 128]⟩
abbrev S_ : Shape := ⟨0, ![]⟩
abbrev S16384 : Shape := ⟨1, ![16384]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x2048, .f32⟩
  | .hbm, ⟨3, _⟩ => ⟨S1x1024, .f32⟩
  | .hbm, ⟨4, _⟩ => ⟨S2048x2048, .f32⟩
  | .hbm, ⟨5, _⟩ => ⟨S1x2048, .f32⟩
  | .hbm, ⟨6, _⟩ => ⟨S2048x128, .f32⟩
  | .hbm, ⟨7, _⟩ => ⟨S1x128, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x2048, .f32⟩
  | .hbm, ⟨24, _⟩ => ⟨S16384x2048, .f32⟩
  | .hbm, ⟨25, _⟩ => ⟨S16384x2048, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel4.lean ====
abbrev S160 : Shape := ⟨1, ![160]⟩
abbrev S1 : Shape := ⟨1, ![1]⟩
abbrev S327680x128 : Shape := ⟨2, ![327680, 128]⟩
abbrev S32x2048x1024 : Shape := ⟨3, ![32, 2048, 1024]⟩
abbrev S32x1024x2048 : Shape := ⟨3, ![32, 1024, 2048]⟩
abbrev S655360x128 : Shape := ⟨2, ![655360, 128]⟩
abbrev S2048x128 : Shape := ⟨2, ![2048, 128]⟩
abbrev S4096x128 : Shape := ⟨2, ![4096, 128]⟩
abbrev S2048x1024 : Shape := ⟨2, ![2048, 1024]⟩
abbrev S1024x2048 : Shape := ⟨2, ![1024, 2048]⟩
abbrev S6 : Shape := ⟨1, ![6]⟩
abbrev S_ : Shape := ⟨0, ![]⟩
abbrev S1024x1024 : Shape := ⟨2, ![1024, 1024]⟩
abbrev S1x1024x1024 : Shape := ⟨3, ![1, 1024, 1024]⟩
abbrev S512x2048 : Shape := ⟨2, ![512, 2048]⟩
abbrev S1x512x2048 : Shape := ⟨3, ![1, 512, 2048]⟩
abbrev S128x1024 : Shape := ⟨2, ![128, 1024]⟩
abbrev S256x128 : Shape := ⟨2, ![256, 128]⟩
abbrev S256x1024 : Shape := ⟨2, ![256, 1024]⟩
abbrev S256x2048 : Shape := ⟨2, ![256, 2048]⟩
abbrev S64x2048 : Shape := ⟨2, ![64, 2048]⟩

abbrev nBuf : Space → Nat
  | .hbm => 5
  | .vmem => 10
  | .smem => 4
  | _ => 0

abbrev bufTy : (tb : Table) → Fin (tcTables nBuf tb) → BufTy
  | .hbm, ⟨0, _⟩ => ⟨S327680x128, .i32⟩
  | .hbm, ⟨1, _⟩ => ⟨S32x2048x1024, .f32⟩
  | .hbm, ⟨2, _⟩ => ⟨S32x2048x1024, .f32⟩
  | .hbm, ⟨3, _⟩ => ⟨S32x1024x2048, .f32⟩
  | .hbm, ⟨4, _⟩ => ⟨S655360x128, .f32⟩
  | .local _ .vmem, ⟨0, _⟩ => ⟨S2048x128, .i32⟩
  | .local _ .vmem, ⟨1, _⟩ => ⟨S2048x128, .i32⟩
  | .local _ .vmem, ⟨2, _⟩ => ⟨S4096x128, .f32⟩
  | .local _ .vmem, ⟨3, _⟩ => ⟨S4096x128, .f32⟩
  | .local _ .vmem, ⟨4, _⟩ => ⟨S2048x1024, .f32⟩
  | .local _ .vmem, ⟨5, _⟩ => ⟨S2048x1024, .f32⟩
  | .local _ .vmem, ⟨6, _⟩ => ⟨S1024x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x2048, .bf16⟩
  | .local _ .smem, ⟨0, _⟩ => ⟨S160, .i32⟩
  | .local _ .smem, ⟨1, _⟩ => ⟨S160, .i32⟩
  | .local _ .smem, ⟨2, _⟩ => ⟨S160, .i32⟩
  | .local _ .smem, ⟨3, _⟩ => ⟨S1, .i32⟩
  | _, _ => ⟨S327680x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![160], ![false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v2 : BitVec 1 := Scalar.cmpi .eq arg0 c0_i32
  let v3 : BitVec 32 := Scalar.extui v2
  let c0_i32_0 : BitVec 32 := 0#32
  let v4 : BitVec 1 := Scalar.cmpi .ne v3 c0_i32_0
  v4

def k0_off1 (v18 : BitVec 32) : Fin 3 → Nat :=
  let c0_i32_9 : BitVec 32 := 0#32
  let c0_i32_10 : BitVec 32 := 0#32
  ![v18.toNat, 0, 0]

def k0_off2 (v18 : BitVec 32) : Fin 3 → Nat :=
  let c1024_i32_13 : BitVec 32 := 1024#32
  let c0_i32_14 : BitVec 32 := 0#32
  ![v18.toNat, 1024, 0]
def k0_off3 (v18 : BitVec 32) : Fin 3 → Nat :=
  let c0_i32_25 : BitVec 32 := 0#32
  let c0_i32_26 : BitVec 32 := 0#32
  ![v18.toNat, 0, 0]
def k0_off4 (v18 : BitVec 32) : Fin 3 → Nat :=
  let c512_i32_28 : BitVec 32 := 512#32
  let c0_i32_29 : BitVec 32 := 0#32
  ![v18.toNat, 512, 0]

def k0_chk1 (i : grid0.Coords) (v18 : BitVec 32) : Prop :=
  (∀ (k0_h1 : k0_cond1 i = 1#1), ∀ a, (k0_off1 v18) a + S1x1024x1024.size a ≤ S32x2048x1024.size a) ∧
  (∀ (k0_h1 : k0_cond1 i = 1#1), ∀ a, (k0_off2 v18) a + S1x1024x1024.size a ≤ S32x2048x1024.size a) ∧
  (∀ (k0_h1 : k0_cond1 i = 1#1), ∀ a, (k0_off3 v18) a + S1x512x2048.size a ≤ S32x1024x2048.size a) ∧
  (∀ (k0_h1 : k0_cond1 i = 1#1), ∀ a, (k0_off4 v18) a + S1x512x2048.size a ≤ S32x1024x2048.size a)
theorem k0_off1_inb : ∀ (i : grid0.Coords) (v18 : BitVec 32) (k0_hw1 : k0_chk1 i v18), ∀ (k0_h1 : k0_cond1 i = 1#1), ∀ a, (k0_off1 v18) a + S1x1024x1024.size a ≤ S32x2048x1024.size a := fun i v18 k0_hw1 k0_h1 => k0_hw1.1 k0_h1
theorem k0_off2_inb : ∀ (i : grid0.Coords) (v18 : BitVec 32) (k0_hw1 : k0_chk1 i v18), ∀ (k0_h1 : k0_cond1 i = 1#1), ∀ a, (k0_off2 v18) a + S1x1024x1024.size a ≤ S32x2048x1024.size a := fun i v18 k0_hw1 k0_h1 => k0_hw1.2.1 k0_h1
theorem k0_off3_inb : ∀ (i : grid0.Coords) (v18 : BitVec 32) (k0_hw1 : k0_chk1 i v18), ∀ (k0_h1 : k0_cond1 i = 1#1), ∀ a, (k0_off3 v18) a + S1x512x2048.size a ≤ S32x1024x2048.size a := fun i v18 k0_hw1 k0_h1 => k0_hw1.2.2.1 k0_h1
theorem k0_off4_inb : ∀ (i : grid0.Coords) (v18 : BitVec 32) (k0_hw1 : k0_chk1 i v18), ∀ (k0_h1 : k0_cond1 i = 1#1), ∀ a, (k0_off4 v18) a + S1x512x2048.size a ≤ S32x1024x2048.size a := fun i v18 k0_hw1 k0_h1 => k0_hw1.2.2.2 k0_h1

def k0_off5 (i : grid0.Coords) : Fin 1 → Nat :=
  let arg0 : BitVec 32 := BitVec.ofNat 32 (i 0).val
  let v5 : Index := Scalar.indexCast arg0
  ![v5.toNat]
def k0_off6 (i : grid0.Coords) : Fin 1 → Nat :=
  let arg0 : BitVec 32 := BitVec.ofNat 32 (i 0).val
  let v18 : Index := Scalar.indexCast arg0
  ![v18.toNat]
def k0_off7 (v19 : BitVec 32) : Fin 3 → Nat :=
  let c0_i32_8 : BitVec 32 := 0#32
  let c0_i32_9 : BitVec 32 := 0#32
  ![v19.toNat, 0, 0]
def k0_cond2 (i : grid0.Coords) (v0 : BitVec 32) (v6 : BitVec 32) : BitVec 1 :=
  let arg0 : BitVec 32 := BitVec.ofNat 32 (i 0).val
  let v1 : BitVec 1 := Scalar.cmpi .slt arg0 v0
  let c1_i32 : BitVec 32 := 1#32
  let v7 : BitVec 1 := Scalar.cmpi .eq v6 c1_i32
  let v8 : BitVec 1 := Scalar.andi v1 v7
  let v9 : BitVec 32 := Scalar.extui v8
  let c0_i32_1 : BitVec 32 := 0#32
  let v10 : BitVec 1 := Scalar.cmpi .ne v9 c0_i32_1
  v10

def k0_off8 (v19 : BitVec 32) : Fin 3 → Nat :=
  let c1024_i32_12 : BitVec 32 := 1024#32
  let c0_i32_13 : BitVec 32 := 0#32
  ![v19.toNat, 1024, 0]
def k0_off9 (v19 : BitVec 32) : Fin 3 → Nat :=
  let c0_i32_24 : BitVec 32 := 0#32
  let c0_i32_25 : BitVec 32 := 0#32
  ![v19.toNat, 0, 0]
def k0_off10 (v19 : BitVec 32) : Fin 3 → Nat :=
  let c512_i32_27 : BitVec 32 := 512#32
  let c0_i32_28 : BitVec 32 := 0#32
  ![v19.toNat, 512, 0]

def k0_chk2 (i : grid0.Coords) (v0 : BitVec 32) (v6 : BitVec 32) (v19 : BitVec 32) : Prop :=
  (∀ (k0_h2 : k0_cond2 i v0 v6 = 1#1), ∀ a, (k0_off7 v19) a + S1x1024x1024.size a ≤ S32x2048x1024.size a) ∧
  (∀ (k0_h2 : k0_cond2 i v0 v6 = 1#1), ∀ a, (k0_off8 v19) a + S1x1024x1024.size a ≤ S32x2048x1024.size a) ∧
  (∀ (k0_h2 : k0_cond2 i v0 v6 = 1#1), ∀ a, (k0_off9 v19) a + S1x512x2048.size a ≤ S32x1024x2048.size a) ∧
  (∀ (k0_h2 : k0_cond2 i v0 v6 = 1#1), ∀ a, (k0_off10 v19) a + S1x512x2048.size a ≤ S32x1024x2048.size a)
theorem k0_off7_inb : ∀ (i : grid0.Coords) (v0 : BitVec 32) (v6 : BitVec 32) (v19 : BitVec 32) (k0_hw2 : k0_chk2 i v0 v6 v19), ∀ (k0_h2 : k0_cond2 i v0 v6 = 1#1), ∀ a, (k0_off7 v19) a + S1x1024x1024.size a ≤ S32x2048x1024.size a := fun i v0 v6 v19 k0_hw2 k0_h2 => k0_hw2.1 k0_h2
theorem k0_off8_inb : ∀ (i : grid0.Coords) (v0 : BitVec 32) (v6 : BitVec 32) (v19 : BitVec 32) (k0_hw2 : k0_chk2 i v0 v6 v19), ∀ (k0_h2 : k0_cond2 i v0 v6 = 1#1), ∀ a, (k0_off8 v19) a + S1x1024x1024.size a ≤ S32x2048x1024.size a := fun i v0 v6 v19 k0_hw2 k0_h2 => k0_hw2.2.1 k0_h2
theorem k0_off9_inb : ∀ (i : grid0.Coords) (v0 : BitVec 32) (v6 : BitVec 32) (v19 : BitVec 32) (k0_hw2 : k0_chk2 i v0 v6 v19), ∀ (k0_h2 : k0_cond2 i v0 v6 = 1#1), ∀ a, (k0_off9 v19) a + S1x512x2048.size a ≤ S32x1024x2048.size a := fun i v0 v6 v19 k0_hw2 k0_h2 => k0_hw2.2.2.1 k0_h2
theorem k0_off10_inb : ∀ (i : grid0.Coords) (v0 : BitVec 32) (v6 : BitVec 32) (v19 : BitVec 32) (k0_hw2 : k0_chk2 i v0 v6 v19), ∀ (k0_h2 : k0_cond2 i v0 v6 = 1#1), ∀ a, (k0_off10 v19) a + S1x512x2048.size a ≤ S32x1024x2048.size a := fun i v0 v6 v19 k0_hw2 k0_h2 => k0_hw2.2.2.2 k0_h2

def k0_off11 (i : grid0.Coords) : Fin 1 → Nat :=
  let arg0 : BitVec 32 := BitVec.ofNat 32 (i 0).val
  let v311 : Index := Scalar.indexCast arg0
  ![v311.toNat]
def k0_off12 (i : grid0.Coords) : Fin 1 → Nat :=
  let arg0 : BitVec 32 := BitVec.ofNat 32 (i 0).val
  let v360 : Index := Scalar.indexCast arg0
  ![v360.toNat]
def k0_off13 (v361 : BitVec 32) : Fin 3 → Nat :=
  let c0_i32_247 : BitVec 32 := 0#32
  let c0_i32_248 : BitVec 32 := 0#32
  ![v361.toNat, 0, 0]
def k0_cond3 (v312 : BitVec 32) : BitVec 1 :=
  let c0_i32_212 : BitVec 32 := 0#32
  let v313 : BitVec 1 := Scalar.cmpi .sge v312 c0_i32_212
  let v314 : BitVec 32 := Scalar.extui v313
  let c0_i32_213 : BitVec 32 := 0#32
  let v315 : BitVec 1 := Scalar.cmpi .ne v314 c0_i32_213
  v315

def k0_off14 (v361 : BitVec 32) : Fin 3 → Nat :=
  let c1024_i32_252 : BitVec 32 := 1024#32
  let c0_i32_253 : BitVec 32 := 0#32
  ![v361.toNat, 1024, 0]
def k0_off15 (v361 : BitVec 32) : Fin 3 → Nat :=
  let c0_i32_267 : BitVec 32 := 0#32
  let c0_i32_268 : BitVec 32 := 0#32
  ![v361.toNat, 0, 0]
def k0_off16 (v361 : BitVec 32) : Fin 3 → Nat :=
  let c512_i32_272 : BitVec 32 := 512#32
  let c0_i32_273 : BitVec 32 := 0#32
  ![v361.toNat, 512, 0]

def k0_chk3 (i : grid0.Coords) (v0 : BitVec 32) (v6 : BitVec 32) (v312 : BitVec 32) (v361 : BitVec 32) : Prop :=
  (∀ (k0_h2 : k0_cond2 i v0 v6 = 1#1), ∀ (k0_h3 : k0_cond3 v312 = 1#1), ∀ a, (k0_off13 v361) a + S1x1024x1024.size a ≤ S32x2048x1024.size a) ∧
  (∀ (k0_h2 : k0_cond2 i v0 v6 = 1#1), ∀ (k0_h3 : k0_cond3 v312 = 1#1), ∀ a, (k0_off14 v361) a + S1x1024x1024.size a ≤ S32x2048x1024.size a) ∧
  (∀ (k0_h2 : k0_cond2 i v0 v6 = 1#1), ∀ (k0_h3 : k0_cond3 v312 = 1#1), ∀ a, (k0_off15 v361) a + S1x512x2048.size a ≤ S32x1024x2048.size a) ∧
  (∀ (k0_h2 : k0_cond2 i v0 v6 = 1#1), ∀ (k0_h3 : k0_cond3 v312 = 1#1), ∀ a, (k0_off16 v361) a + S1x512x2048.size a ≤ S32x1024x2048.size a)
theorem k0_off13_inb : ∀ (i : grid0.Coords) (v0 : BitVec 32) (v6 : BitVec 32) (v312 : BitVec 32) (v361 : BitVec 32) (k0_hw3 : k0_chk3 i v0 v6 v312 v361), ∀ (k0_h2 : k0_cond2 i v0 v6 = 1#1), ∀ (k0_h3 : k0_cond3 v312 = 1#1), ∀ a, (k0_off13 v361) a + S1x1024x1024.size a ≤ S32x2048x1024.size a := fun i v0 v6 v312 v361 k0_hw3 k0_h2 k0_h3 => k0_hw3.1 k0_h2 k0_h3
theorem k0_off14_inb : ∀ (i : grid0.Coords) (v0 : BitVec 32) (v6 : BitVec 32) (v312 : BitVec 32) (v361 : BitVec 32) (k0_hw3 : k0_chk3 i v0 v6 v312 v361), ∀ (k0_h2 : k0_cond2 i v0 v6 = 1#1), ∀ (k0_h3 : k0_cond3 v312 = 1#1), ∀ a, (k0_off14 v361) a + S1x1024x1024.size a ≤ S32x2048x1024.size a := fun i v0 v6 v312 v361 k0_hw3 k0_h2 k0_h3 => k0_hw3.2.1 k0_h2 k0_h3
theorem k0_off15_inb : ∀ (i : grid0.Coords) (v0 : BitVec 32) (v6 : BitVec 32) (v312 : BitVec 32) (v361 : BitVec 32) (k0_hw3 : k0_chk3 i v0 v6 v312 v361), ∀ (k0_h2 : k0_cond2 i v0 v6 = 1#1), ∀ (k0_h3 : k0_cond3 v312 = 1#1), ∀ a, (k0_off15 v361) a + S1x512x2048.size a ≤ S32x1024x2048.size a := fun i v0 v6 v312 v361 k0_hw3 k0_h2 k0_h3 => k0_hw3.2.2.1 k0_h2 k0_h3
theorem k0_off16_inb : ∀ (i : grid0.Coords) (v0 : BitVec 32) (v6 : BitVec 32) (v312 : BitVec 32) (v361 : BitVec 32) (k0_hw3 : k0_chk3 i v0 v6 v312 v361), ∀ (k0_h2 : k0_cond2 i v0 v6 = 1#1), ∀ (k0_h3 : k0_cond3 v312 = 1#1), ∀ a, (k0_off16 v361) a + S1x512x2048.size a ≤ S32x1024x2048.size a := fun i v0 v6 v312 v361 k0_hw3 k0_h2 k0_h3 => k0_hw3.2.2.2 k0_h2 k0_h3

def k0_cond4 (i : grid0.Coords) (v0 : BitVec 32) (v6 : BitVec 32) : BitVec 1 :=
  let arg0 : BitVec 32 := BitVec.ofNat 32 (i 0).val
  let v1 : BitVec 1 := Scalar.cmpi .slt arg0 v0
  let c1_i32 : BitVec 32 := 1#32
  let v7 : BitVec 1 := Scalar.cmpi .eq v6 c1_i32
  let v_true : BitVec 1 := 1#1
  let v11 : BitVec 1 := Scalar.xori v7 v_true
  let v12 : BitVec 1 := Scalar.andi v1 v11
  let v13 : BitVec 32 := Scalar.extui v12
  let c0_i32_2 : BitVec 32 := 0#32
  let v14 : BitVec 1 := Scalar.cmpi .ne v13 c0_i32_2
  v14

def k0_cond5 (i : grid0.Coords) (v0 : BitVec 32) : BitVec 1 :=
  let arg0 : BitVec 32 := BitVec.ofNat 32 (i 0).val
  let v1 : BitVec 1 := Scalar.cmpi .slt arg0 v0
  let true_3 : BitVec 1 := 1#1
  let v15 : BitVec 1 := Scalar.xori v1 true_3
  let v16 : BitVec 32 := Scalar.extui v15
  let c0_i32_4 : BitVec 32 := 0#32
  let v17 : BitVec 1 := Scalar.cmpi .ne v16 c0_i32_4
  v17

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference4Ideal.lean ====
abbrev S160 : Shape := ⟨1, ![160]⟩
abbrev S1 : Shape := ⟨1, ![1]⟩
abbrev S327680x128 : Shape := ⟨2, ![327680, 128]⟩
abbrev S32x2048x1024 : Shape := ⟨3, ![32, 2048, 1024]⟩
abbrev S32x1024x2048 : Shape := ⟨3, ![32, 1024, 2048]⟩
abbrev S160x256x1024 : Shape := ⟨3, ![160, 256, 1024]⟩
abbrev S_ : Shape := ⟨0, ![]⟩
abbrev S160x256x2048 : Shape := ⟨3, ![160, 256, 2048]⟩
abbrev S160x1 : Shape := ⟨2, ![160, 1]⟩
abbrev S160x2048x1024 : Shape := ⟨3, ![160, 2048, 1024]⟩
abbrev S160x1024x2048 : Shape := ⟨3, ![160, 1024, 2048]⟩
abbrev S160x1x1 : Shape := ⟨3, ![160, 1, 1]⟩
abbrev S655360x128 : Shape := ⟨2, ![655360, 128]⟩

abbrev nBuf : Space → Nat
  | .hbm => 69
  | .vmem => 0
  | .smem => 0
  | _ => 0

abbrev bufTy : (tb : Table) → Fin (tcTables nBuf tb) → BufTy
  | .hbm, ⟨0, _⟩ => ⟨S160, .i32⟩
  | .hbm, ⟨1, _⟩ => ⟨S160, .i32⟩
  | .hbm, ⟨2, _⟩ => ⟨S160, .i32⟩
  | .hbm, ⟨3, _⟩ => ⟨S1, .i32⟩
  | .hbm, ⟨4, _⟩ => ⟨S327680x128, .i32⟩
  | .hbm, ⟨5, _⟩ => ⟨S32x2048x1024, .f32⟩
  | .hbm, ⟨6, _⟩ => ⟨S32x2048x1024, .f32⟩
  | .hbm, ⟨7, _⟩ => ⟨S32x1024x2048, .f32⟩
  | .hbm, ⟨8, _⟩ => ⟨S160x256x1024, .i32⟩
  | .hbm, ⟨9, _⟩ => ⟨S_, .i32⟩
  | .hbm, ⟨10, _⟩ => ⟨S160x256x1024, .i32⟩
  | .hbm, ⟨11, _⟩ => ⟨S160x256x1024, .i32⟩
  | .hbm, ⟨12, _⟩ => ⟨S160x256x1024, .f32⟩
  | .hbm, ⟨13, _⟩ => ⟨S_, .i32⟩
  | .hbm, ⟨14, _⟩ => ⟨S160x256x1024, .i32⟩
  | .hbm, ⟨15, _⟩ => ⟨S160x256x1024, .i32⟩
  | .hbm, ⟨16, _⟩ => ⟨S160x256x1024, .f32⟩
  | .hbm, ⟨17, _⟩ => ⟨S160x256x2048, .f32⟩
  | .hbm, ⟨18, _⟩ => ⟨S_, .i32⟩
  | .hbm, ⟨19, _⟩ => ⟨S160, .i32⟩
  | .hbm, ⟨20, _⟩ => ⟨S160, .i1⟩
  | .hbm, ⟨21, _⟩ => ⟨S_, .i32⟩
  | .hbm, ⟨22, _⟩ => ⟨S160, .i32⟩
  | .hbm, ⟨23, _⟩ => ⟨S160, .i32⟩
  | .hbm, ⟨24, _⟩ => ⟨S160, .i32⟩
  | .hbm, ⟨25, _⟩ => ⟨S160x1, .i32⟩
  | .hbm, ⟨26, _⟩ => ⟨S160x2048x1024, .f32⟩
  | .hbm, ⟨27, _⟩ => ⟨S160x256x1024, .f32⟩
  | .hbm, ⟨28, _⟩ => ⟨S160x256x1024, .f32⟩
  | .hbm, ⟨29, _⟩ => ⟨S160x256x1024, .f32⟩
  | .hbm, ⟨30, _⟩ => ⟨S_, .f32⟩
  | .hbm, ⟨31, _⟩ => ⟨S160x256x1024, .f32⟩
  | .hbm, ⟨32, _⟩ => ⟨S160x256x1024, .f32⟩
  | .hbm, ⟨33, _⟩ => ⟨S_, .f32⟩
  | .hbm, ⟨34, _⟩ => ⟨S160x256x1024, .f32⟩
  | .hbm, ⟨35, _⟩ => ⟨S160x256x1024, .f32⟩
  | .hbm, ⟨36, _⟩ => ⟨S160x256x1024, .f32⟩
  | .hbm, ⟨37, _⟩ => ⟨S_, .i32⟩
  | .hbm, ⟨38, _⟩ => ⟨S160, .i32⟩
  | .hbm, ⟨39, _⟩ => ⟨S160, .i1⟩
  | .hbm, ⟨40, _⟩ => ⟨S_, .i32⟩
  | .hbm, ⟨41, _⟩ => ⟨S160, .i32⟩
  | .hbm, ⟨42, _⟩ => ⟨S160, .i32⟩
  | .hbm, ⟨43, _⟩ => ⟨S160, .i32⟩
  | .hbm, ⟨44, _⟩ => ⟨S160x1, .i32⟩
  | .hbm, ⟨45, _⟩ => ⟨S160x2048x1024, .f32⟩
  | .hbm, ⟨46, _⟩ => ⟨S160x256x1024, .f32⟩
  | .hbm, ⟨47, _⟩ => ⟨S160x256x1024, .f32⟩
  | .hbm, ⟨48, _⟩ => ⟨S_, .i32⟩
  | .hbm, ⟨49, _⟩ => ⟨S160, .i32⟩
  | .hbm, ⟨50, _⟩ => ⟨S160, .i1⟩
  | .hbm, ⟨51, _⟩ => ⟨S_, .i32⟩
  | .hbm, ⟨52, _⟩ => ⟨S160, .i32⟩
  | .hbm, ⟨53, _⟩ => ⟨S160, .i32⟩
  | .hbm, ⟨54, _⟩ => ⟨S160, .i32⟩
  | .hbm, ⟨55, _⟩ => ⟨S160x1, .i32⟩
  | .hbm, ⟨56, _⟩ => ⟨S160x1024x2048, .f32⟩
  | .hbm, ⟨57, _⟩ => ⟨S160x256x2048, .f32⟩
  | .hbm, ⟨58, _⟩ => ⟨S160, .i32⟩
  | .hbm, ⟨59, _⟩ => ⟨S_, .i32⟩
  | .hbm, ⟨60, _⟩ => ⟨S160, .i32⟩
  | .hbm, ⟨61, _⟩ => ⟨S160, .i1⟩
  | .hbm, ⟨62, _⟩ => ⟨S160x1x1, .i1⟩
  | .hbm, ⟨63, _⟩ => ⟨S_, .f32⟩
  | .hbm, ⟨64, _⟩ => ⟨S_, .f32⟩
  | .hbm, ⟨65, _⟩ => ⟨S160x256x2048, .i1⟩
  | .hbm, ⟨66, _⟩ => ⟨S160x256x2048, .f32⟩
  | .hbm, ⟨67, _⟩ => ⟨S160x256x2048, .f32⟩
  | .hbm, ⟨68, _⟩ => ⟨S655360x128, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_c_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_c_6 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v39 : Ref sig .tc := ⟨.hbm, 67, rfl⟩
abbrev main_v40 : Ref sig .tc := ⟨.hbm, 68, rfl⟩

abbrev nD : Nat := 1
abbrev τ : Topo := Topo.v7x

variable {F : FTy → Type} [FloatOps F]
-- ==== Proof.ExpertRun.lean ====
module

public import proofs.«01_k».proof.Proof.Gen.Kernel4Ideal.Launch
public import Idealize.ShloMosaic.Lib.Pipeline.FrameBody
public import Idealize.ShloMosaic.Lib.Claim
public import Idealize.ShloMosaic.Lib.VecWindow
public import Idealize.ShloMosaic.Lib.Tactic

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-- The first weights' array. -/
abbrev W1 : Memref sig .tc .hbm S32x2048x1024 .f32 := Memref.whole main_arg5
abbrev W3 : Memref sig .tc .hbm S32x2048x1024 .f32 := Memref.whole main_arg6
abbrev W2 : Memref sig .tc .hbm S32x1024x2048 .f32 := Memref.whole main_arg7
abbrev T1 : Memref sig .tc .smem S160 .i32 := Memref.whole main_arg0
abbrev T2 : Memref sig .tc .smem S160 .i32 := Memref.whole main_arg1
abbrev T3 : Memref sig .tc .smem S160 .i32 := Memref.whole main_arg2
abbrev T4 : Memref sig .tc .smem S1 .i32 := Memref.whole main_arg3
abbrev B1 : Memref sig .tc .vmem S2048x1024 .f32 := Memref.whole cc0_scratch0
abbrev B3 : Memref sig .tc .vmem S2048x1024 .f32 := Memref.whole cc0_scratch1
abbrev B2 : Memref sig .tc .vmem S1024x2048 .f32 := Memref.whole cc0_scratch2
abbrev C1 : Memref sig .tc .vmem S2048x1024 .bf16 := Memref.whole cc0_scratch3
abbrev C3 : Memref sig .tc .vmem S2048x1024 .bf16 := Memref.whole cc0_scratch4
abbrev C2 : Memref sig .tc .vmem S1024x2048 .bf16 := Memref.whole cc0_scratch5

abbrev At (c : Dev nD) {sp : Space} {S : Shape} {e : EltTy} (M : Memref sig .tc sp S e) (q : PosShare TreeShare) (f : Buf (Elt F) (M.view.loc (c : Thread nD τ))) : sProp 𝕄 :=
  M.view.loc (c : Thread nD τ) ↦{q} f

/-- Rows 0 to 1023 of expert `e`'s matrix in an array of 2048-row matrices. -/
abbrev upper (M : Memref sig .tc .hbm S32x2048x1024 .f32) (e : ℕ) (h : ∀ a, (![e, 0, 0] : Fin 3 → ℕ) a + S1x1024x1024.size a ≤ S32x2048x1024.size a) : Memref sig .tc .hbm S1024x1024 .f32 :=
  (M.slice (Rect.unit (s := S32x2048x1024) ![e, 0, 0] S1x1024x1024.size h) (fun _ => rfl)).squeeze S1024x1024 squeezes_S1x1024x1024_S1024x1024
/-- Rows 1024 to 2047. -/
abbrev lower (M : Memref sig .tc .hbm S32x2048x1024 .f32) (e : ℕ) (h : ∀ a, (![e, 1024, 0] : Fin 3 → ℕ) a + S1x1024x1024.size a ≤ S32x2048x1024.size a) : Memref sig .tc .hbm S1024x1024 .f32 :=
  (M.slice (Rect.unit (s := S32x2048x1024) ![e, 1024, 0] S1x1024x1024.size h) (fun _ => rfl)).squeeze S1024x1024 squeezes_S1x1024x1024_S1024x1024
/-- Rows 0 to 511 of expert `e`'s matrix in an array of 1024-row matrices. -/
abbrev upper2 (M : Memref sig .tc .hbm S32x1024x2048 .f32) (e : ℕ) (h : ∀ a, (![e, 0, 0] : Fin 3 → ℕ) a + S1x512x2048.size a ≤ S32x1024x2048.size a) : Memref sig .tc .hbm S512x2048 .f32 :=
  (M.slice (Rect.unit (s := S32x1024x2048) ![e, 0, 0] S1x512x2048.size h) (fun _ => rfl)).squeeze S512x2048 squeezes_S1x512x2048_S512x2048
/-- Rows 512 to 1023. -/
abbrev lower2 (M : Memref sig .tc .hbm S32x1024x2048 .f32) (e : ℕ) (h : ∀ a, (![e, 512, 0] : Fin 3 → ℕ) a + S1x512x2048.size a ≤ S32x1024x2048.size a) : Memref sig .tc .hbm S512x2048 .f32 :=
  (M.slice (Rect.unit (s := S32x1024x2048) ![e, 512, 0] S1x512x2048.size h) (fun _ => rfl)).squeeze S512x2048 squeezes_S1x512x2048_S512x2048

abbrev top : Rect S2048x1024 := Rect.unit (s := S2048x1024) ![0, 0] S1024x1024.size inb_S2048x1024_S1024x1024_0_0
abbrev bot : Rect S2048x1024 := Rect.unit (s := S2048x1024) ![1024, 0] S1024x1024.size inb_S2048x1024_S1024x1024_1024_0
abbrev top2 : Rect S1024x2048 := Rect.unit (s := S1024x2048) ![0, 0] S512x2048.size inb_S1024x2048_S512x2048_0_0
abbrev bot2 : Rect S1024x2048 := Rect.unit (s := S1024x2048) ![512, 0] S512x2048.size inb_S1024x2048_S512x2048_512_0

abbrev In1 (e : ℕ) : Prop := ∀ a, (![e, 0, 0] : Fin 3 → ℕ) a + S1x1024x1024.size a ≤ S32x2048x1024.size a
abbrev In2 (e : ℕ) : Prop := ∀ a, (![e, 1024, 0] : Fin 3 → ℕ) a + S1x1024x1024.size a ≤ S32x2048x1024.size a
abbrev In3 (e : ℕ) : Prop := ∀ a, (![e, 0, 0] : Fin 3 → ℕ) a + S1x512x2048.size a ≤ S32x1024x2048.size a
abbrev In4 (e : ℕ) : Prop := ∀ a, (![e, 512, 0] : Fin 3 → ℕ) a + S1x512x2048.size a ≤ S32x1024x2048.size a

theorem in1 {e : ℕ} (h : e < 32) : In1 e := by
  intro a; match a with | 0 => exact h | 1 => exact (by decide : 0 + 1024 ≤ 2048) | 2 => exact (by decide : 0 + 1024 ≤ 1024)
theorem in2 {e : ℕ} (h : e < 32) : In2 e := by
  intro a; match a with | 0 => exact h | 1 => exact (by decide : 1024 + 1024 ≤ 2048) | 2 => exact (by decide : 0 + 1024 ≤ 1024)
theorem in3 {e : ℕ} (h : e < 32) : In3 e := by
  intro a; match a with | 0 => exact h | 1 => exact (by decide : 0 + 512 ≤ 1024) | 2 => exact (by decide : 0 + 2048 ≤ 2048)
theorem in4 {e : ℕ} (h : e < 32) : In4 e := by
  intro a; match a with | 0 => exact h | 1 => exact (by decide : 512 + 512 ≤ 1024) | 2 => exact (by decide : 0 + 2048 ≤ 2048)

/-- The words of the tables a grid point reads. -/
abbrev word1 (c : Dev nD) (i : grid0.Coords) (t : Buf (Elt F) (T1.view.loc (c : Thread nD τ))) : BitVec 32 :=
  View.readAt (Elt F) T1.view (Rect.unit (s := S160) (k0_off6 i) S1.size (k0_off6_inb i)).toLoadRect t (Shape.Idx.first (numel1_S1.symm ▸ Nat.one_pos))
/-- The first tile's expert. -/
abbrev word0 (c : Dev nD) (t : Buf (Elt F) (T1.view.loc (c : Thread nD τ))) : BitVec 32 :=
  View.readAt (Elt F) T1.view (Rect.unit (s := S160) ![0] S1.size inb_S160_S1_0).toLoadRect t (Shape.Idx.first (numel1_S1.symm ▸ Nat.one_pos))
abbrev word2 (c : Dev nD) (i : grid0.Coords) (t : Buf (Elt F) (T2.view.loc (c : Thread nD τ))) : BitVec 32 :=
  View.readAt (Elt F) T2.view (Rect.unit (s := S160) (k0_off5 i) S1.size (k0_off5_inb i)).toLoadRect t (Shape.Idx.first (numel1_S1.symm ▸ Nat.one_pos))
abbrev word3 (c : Dev nD) (i : grid0.Coords) (t : Buf (Elt F) (T3.view.loc (c : Thread nD τ))) : BitVec 32 :=
  View.readAt (Elt F) T3.view (Rect.unit (s := S160) (k0_off11 i) S1.size (k0_off11_inb i)).toLoadRect t (Shape.Idx.first (numel1_S1.symm ▸ Nat.one_pos))
abbrev word3' (c : Dev nD) (i : grid0.Coords) (t : Buf (Elt F) (T3.view.loc (c : Thread nD τ))) : BitVec 32 :=
  View.readAt (Elt F) T3.view (Rect.unit (s := S160) (k0_off12 i) S1.size (k0_off12_inb i)).toLoadRect t (Shape.Idx.first (numel1_S1.symm ▸ Nat.one_pos))
abbrev word4 (c : Dev nD) (t : Buf (Elt F) (T4.view.loc (c : Thread nD τ))) : BitVec 32 :=
  View.readAt (Elt F) T4.view (Rect.unit (s := S1) ![0] S1.size inb_S1_S1_0).toLoadRect t (Shape.Idx.first (numel1_S1.symm ▸ Nat.one_pos))

/-- A half of an expert's matrix as a copy moves it. -/
abbrev half (c : Dev nD) {S : Shape} (M : Memref sig .tc .hbm S .f32) (w : Buf (Elt F) (M.view.loc (c : Thread nD τ))) : S.Idx → Elt F .f32 :=
  ReadAs.same.apply (View.read (Elt F) M.view w)

/-- A copy in flight, on cell `k`, of the first half of expert `e`'s matrix into that half of the buffer `B`, and the rest of the share it reads by. -/
abbrev Fly0 (c : Dev nD) (k : DmaSem sig) (B : Memref sig .tc .vmem S2048x1024 .f32) (M : Memref sig .tc .hbm S32x2048x1024 .f32) (q : PosShare TreeShare)
    (w : Buf (Elt F) (M.view.loc (c : Thread nD τ))) (b : Buf (Elt F) (B.view.loc (c : Thread nD τ))) (e : ℕ) (h : In1 e) : sProp 𝕄 :=
  iprop(Transfers.Flight countersEmb (c : Thread nD τ) (SemLoc.dma k) default 131072
      iprop((B.view.loc (c : Thread nD τ) ↦[(B.slice top (fun _ => rfl)).view.set]{fullShare} b)
        ∗ (M.view.loc (c : Thread nD τ) ↦[(upper M e h).view.set]{q} w))
    ∗ (M.view.loc (c : Thread nD τ) ↦[Finset.univ \ (upper M e h).view.set]{q} w))

/-- A copy in flight, on cell `k`, of the second half of expert `e`'s matrix into that half of the buffer `B`, and the rest of the share it reads by. -/
abbrev Fly1 (c : Dev nD) (k : DmaSem sig) (B : Memref sig .tc .vmem S2048x1024 .f32) (M : Memref sig .tc .hbm S32x2048x1024 .f32) (q : PosShare TreeShare)
    (w : Buf (Elt F) (M.view.loc (c : Thread nD τ))) (b : Buf (Elt F) (B.view.loc (c : Thread nD τ))) (e : ℕ) (h : In2 e) : sProp 𝕄 :=
  iprop(Transfers.Flight countersEmb (c : Thread nD τ) (SemLoc.dma k) default 131072
      iprop((B.view.loc (c : Thread nD τ) ↦[(B.slice bot (fun _ => rfl)).view.set]{fullShare} b)
        ∗ (M.view.loc (c : Thread nD τ) ↦[(lower M e h).view.set]{q} w))
    ∗ (M.view.loc (c : Thread nD τ) ↦[Finset.univ \ (lower M e h).view.set]{q} w))

/-- A copy in flight, on cell `k`, of the first half of expert `e`'s matrix into that half of the buffer `B`, and the rest of the share it reads by. -/
abbrev Fly20 (c : Dev nD) (k : DmaSem sig) (B : Memref sig .tc .vmem S1024x2048 .f32) (M : Memref sig .tc .hbm S32x1024x2048 .f32) (q : PosShare TreeShare)
    (w : Buf (Elt F) (M.view.loc (c : Thread nD τ))) (b : Buf (Elt F) (B.view.loc (c : Thread nD τ))) (e : ℕ) (h : In3 e) : sProp 𝕄 :=
  iprop(Transfers.Flight countersEmb (c : Thread nD τ) (SemLoc.dma k) default 131072
      iprop((B.view.loc (c : Thread nD τ) ↦[(B.slice top2 (fun _ => rfl)).view.set]{fullShare} b)
        ∗ (M.view.loc (c : Thread nD τ) ↦[(upper2 M e h).view.set]{q} w))
    ∗ (M.view.loc (c : Thread nD τ) ↦[Finset.univ \ (upper2 M e h).view.set]{q} w))

/-- A copy in flight, on cell `k`, of the second half of expert `e`'s matrix into that half of the buffer `B`, and the rest of the share it reads by. -/
abbrev Fly21 (c : Dev nD) (k : DmaSem sig) (B : Memref sig .tc .vmem S1024x2048 .f32) (M : Memref sig .tc .hbm S32x1024x2048 .f32) (q : PosShare TreeShare)
    (w : Buf (Elt F) (M.view.loc (c : Thread nD τ))) (b : Buf (Elt F) (B.view.loc (c : Thread nD τ))) (e : ℕ) (h : In4 e) : sProp 𝕄 :=
  iprop(Transfers.Flight countersEmb (c : Thread nD τ) (SemLoc.dma k) default 131072
      iprop((B.view.loc (c : Thread nD τ) ↦[(B.slice bot2 (fun _ => rfl)).view.set]{fullShare} b)
        ∗ (M.view.loc (c : Thread nD τ) ↦[(lower2 M e h).view.set]{q} w))
    ∗ (M.view.loc (c : Thread nD τ) ↦[Finset.univ \ (lower2 M e h).view.set]{q} w))

/-- A weights buffer with both its copies of expert `e` in flight: the two flights, the rests of the shares they read by, and what of the buffer neither writes. -/
abbrev Fill (c : Dev nD) (k k' : DmaSem sig) (B : Memref sig .tc .vmem S2048x1024 .f32) (M : Memref sig .tc .hbm S32x2048x1024 .f32) (q q' : PosShare TreeShare)
    (w : Buf (Elt F) (M.view.loc (c : Thread nD τ))) (b : Buf (Elt F) (B.view.loc (c : Thread nD τ))) (e : ℕ) (h : In1 e) (h' : In2 e) : sProp 𝕄 :=
  iprop(Fly0 c k B M q w (B.view.writes (Elt F) b [⟨top, half c (upper M e h) w⟩]) e h
    ∗ Fly1 c k' B M q' w (B.view.writes (Elt F) b [⟨bot, half c (lower M e h') w⟩, ⟨top, half c (upper M e h) w⟩]) e h'
    ∗ (B.view.loc (c : Thread nD τ) ↦[(Finset.univ \ (B.slice top (fun _ => rfl)).view.set) \ (B.slice bot (fun _ => rfl)).view.set]{fullShare}
        B.view.writes (Elt F) b [⟨bot, half c (lower M e h') w⟩, ⟨top, half c (upper M e h) w⟩]))
abbrev Fill2 (c : Dev nD) (k k' : DmaSem sig) (B : Memref sig .tc .vmem S1024x2048 .f32) (M : Memref sig .tc .hbm S32x1024x2048 .f32) (q q' : PosShare TreeShare)
    (w : Buf (Elt F) (M.view.loc (c : Thread nD τ))) (b : Buf (Elt F) (B.view.loc (c : Thread nD τ))) (e : ℕ) (h : In3 e) (h' : In4 e) : sProp 𝕄 :=
  iprop(Fly20 c k B M q w (B.view.writes (Elt F) b [⟨top2, half c (upper2 M e h) w⟩]) e h
    ∗ Fly21 c k' B M q' w (B.view.writes (Elt F) b [⟨bot2, half c (lower2 M e h') w⟩, ⟨top2, half c (upper2 M e h) w⟩]) e h'
    ∗ (B.view.loc (c : Thread nD τ) ↦[(Finset.univ \ (B.slice top2 (fun _ => rfl)).view.set) \ (B.slice bot2 (fun _ => rfl)).view.set]{fullShare}
        B.view.writes (Elt F) b [⟨bot2, half c (lower2 M e h') w⟩, ⟨top2, half c (upper2 M e h) w⟩]))

/-- The sixteen stores that leave a buffer of these sizes narrowed, slab by slab. -/
def narrow (X : S2048x1024.Idx → Elt F .f32) : List (View.Piece (Elt F) S2048x1024 .bf16) :=
  [⟨Rect.unit (s := S2048x1024) ![1920, 0] S128x1024.size inb_S2048x1024_S128x1024_1920_0, shapeCast S128x1024 (truncf .bf16 (View.ld X (Rect.unit (s := S2048x1024) ![1920, 0] S128x1024.size inb_S2048x1024_S128x1024_1920_0)) bitsLt_bf16_f32) shapeCasts_S128x1024_S128x1024⟩,
    ⟨Rect.unit (s := S2048x1024) ![1792, 0] S128x1024.size inb_S2048x1024_S128x1024_1792_0, shapeCast S128x1024 (truncf .bf16 (View.ld X (Rect.unit (s := S2048x1024) ![1792, 0] S128x1024.size inb_S2048x1024_S128x1024_1792_0)) bitsLt_bf16_f32) shapeCasts_S128x1024_S128x1024⟩,
    ⟨Rect.unit (s := S2048x1024) ![1664, 0] S128x1024.size inb_S2048x1024_S128x1024_1664_0, shapeCast S128x1024 (truncf .bf16 (View.ld X (Rect.unit (s := S2048x1024) ![1664, 0] S128x1024.size inb_S2048x1024_S128x1024_1664_0)) bitsLt_bf16_f32) shapeCasts_S128x1024_S128x1024⟩,
    ⟨Rect.unit (s := S2048x1024) ![1536, 0] S128x1024.size inb_S2048x1024_S128x1024_1536_0, shapeCast S128x1024 (truncf .bf16 (View.ld X (Rect.unit (s := S2048x1024) ![1536, 0] S128x1024.size inb_S2048x1024_S128x1024_1536_0)) bitsLt_bf16_f32) shapeCasts_S128x1024_S128x1024⟩,
    ⟨Rect.unit (s := S2048x1024) ![1408, 0] S128x1024.size inb_S2048x1024_S128x1024_1408_0, shapeCast S128x1024 (truncf .bf16 (View.ld X (Rect.unit (s := S2048x1024) ![1408, 0] S128x1024.size inb_S2048x1024_S128x1024_1408_0)) bitsLt_bf16_f32) shapeCasts_S128x1024_S128x1024⟩,
    ⟨Rect.unit (s := S2048x1024) ![1280, 0] S128x1024.size inb_S2048x1024_S128x1024_1280_0, shapeCast S128x1024 (truncf .bf16 (View.ld X (Rect.unit (s := S2048x1024) ![1280, 0] S128x1024.size inb_S2048x1024_S128x1024_1280_0)) bitsLt_bf16_f32) shapeCasts_S128x1024_S128x1024⟩,
    ⟨Rect.unit (s := S2048x1024) ![1152, 0] S128x1024.size inb_S2048x1024_S128x1024_1152_0, shapeCast S128x1024 (truncf .bf16 (View.ld X (Rect.unit (s := S2048x1024) ![1152, 0] S128x1024.size inb_S2048x1024_S128x1024_1152_0)) bitsLt_bf16_f32) shapeCasts_S128x1024_S128x1024⟩,
    ⟨Rect.unit (s := S2048x1024) ![1024, 0] S128x1024.size inb_S2048x1024_S128x1024_1024_0, shapeCast S128x1024 (truncf .bf16 (View.ld X (Rect.unit (s := S2048x1024) ![1024, 0] S128x1024.size inb_S2048x1024_S128x1024_1024_0)) bitsLt_bf16_f32) shapeCasts_S128x1024_S128x1024⟩,
    ⟨Rect.unit (s := S2048x1024) ![896, 0] S128x1024.size inb_S2048x1024_S128x1024_896_0, shapeCast S128x1024 (truncf .bf16 (View.ld X (Rect.unit (s := S2048x1024) ![896, 0] S128x1024.size inb_S2048x1024_S128x1024_896_0)) bitsLt_bf16_f32) shapeCasts_S128x1024_S128x1024⟩,
    ⟨Rect.unit (s := S2048x1024) ![768, 0] S128x1024.size inb_S2048x1024_S128x1024_768_0, shapeCast S128x1024 (truncf .bf16 (View.ld X (Rect.unit (s := S2048x1024) ![768, 0] S128x1024.size inb_S2048x1024_S128x1024_768_0)) bitsLt_bf16_f32) shapeCasts_S128x1024_S128x1024⟩,
    ⟨Rect.unit (s := S2048x1024) ![640, 0] S128x1024.size inb_S2048x1024_S128x1024_640_0, shapeCast S128x1024 (truncf .bf16 (View.ld X (Rect.unit (s := S2048x1024) ![640, 0] S128x1024.size inb_S2048x1024_S128x1024_640_0)) bitsLt_bf16_f32) shapeCasts_S128x1024_S128x1024⟩,
    ⟨Rect.unit (s := S2048x1024) ![512, 0] S128x1024.size inb_S2048x1024_S128x1024_512_0, shapeCast S128x1024 (truncf .bf16 (View.ld X (Rect.unit (s := S2048x1024) ![512, 0] S128x1024.size inb_S2048x1024_S128x1024_512_0)) bitsLt_bf16_f32) shapeCasts_S128x1024_S128x1024⟩,
    ⟨Rect.unit (s := S2048x1024) ![384, 0] S128x1024.size inb_S2048x1024_S128x1024_384_0, shapeCast S128x1024 (truncf .bf16 (View.ld X (Rect.unit (s := S2048x1024) ![384, 0] S128x1024.size inb_S2048x1024_S128x1024_384_0)) bitsLt_bf16_f32) shapeCasts_S128x1024_S128x1024⟩,
    ⟨Rect.unit (s := S2048x1024) ![256, 0] S128x1024.size inb_S2048x1024_S128x1024_256_0, shapeCast S128x1024 (truncf .bf16 (View.ld X (Rect.unit (s := S2048x1024) ![256, 0] S128x1024.size inb_S2048x1024_S128x1024_256_0)) bitsLt_bf16_f32) shapeCasts_S128x1024_S128x1024⟩,
    ⟨Rect.unit (s := S2048x1024) ![128, 0] S128x1024.size inb_S2048x1024_S128x1024_128_0, shapeCast S128x1024 (truncf .bf16 (View.ld X (Rect.unit (s := S2048x1024) ![128, 0] S128x1024.size inb_S2048x1024_S128x1024_128_0)) bitsLt_bf16_f32) shapeCasts_S128x1024_S128x1024⟩,
    ⟨Rect.unit (s := S2048x1024) ![0, 0] S128x1024.size inb_S2048x1024_S128x1024_0_0, shapeCast S128x1024 (truncf .bf16 (View.ld X (Rect.unit (s := S2048x1024) ![0, 0] S128x1024.size inb_S2048x1024_S128x1024_0_0)) bitsLt_bf16_f32) shapeCasts_S128x1024_S128x1024⟩]

/-- The sixteen stores that leave a buffer of these sizes narrowed, slab by slab. -/
def narrow2 (X : S1024x2048.Idx → Elt F .f32) : List (View.Piece (Elt F) S1024x2048 .bf16) :=
  [⟨Rect.unit (s := S1024x2048) ![960, 0] S64x2048.size inb_S1024x2048_S64x2048_960_0, shapeCast S64x2048 (truncf .bf16 (View.ld X (Rect.unit (s := S1024x2048) ![960, 0] S64x2048.size inb_S1024x2048_S64x2048_960_0)) bitsLt_bf16_f32) shapeCasts_S64x2048_S64x2048⟩,
    ⟨Rect.unit (s := S1024x2048) ![896, 0] S64x2048.size inb_S1024x2048_S64x2048_896_0, shapeCast S64x2048 (truncf .bf16 (View.ld X (Rect.unit (s := S1024x2048) ![896, 0] S64x2048.size inb_S1024x2048_S64x2048_896_0)) bitsLt_bf16_f32) shapeCasts_S64x2048_S64x2048⟩,
    ⟨Rect.unit (s := S1024x2048) ![832, 0] S64x2048.size inb_S1024x2048_S64x2048_832_0, shapeCast S64x2048 (truncf .bf16 (View.ld X (Rect.unit (s := S1024x2048) ![832, 0] S64x2048.size inb_S1024x2048_S64x2048_832_0)) bitsLt_bf16_f32) shapeCasts_S64x2048_S64x2048⟩,
    ⟨Rect.unit (s := S1024x2048) ![768, 0] S64x2048.size inb_S1024x2048_S64x2048_768_0, shapeCast S64x2048 (truncf .bf16 (View.ld X (Rect.unit (s := S1024x2048) ![768, 0] S64x2048.size inb_S1024x2048_S64x2048_768_0)) bitsLt_bf16_f32) shapeCasts_S64x2048_S64x2048⟩,
    ⟨Rect.unit (s := S1024x2048) ![704, 0] S64x2048.size inb_S1024x2048_S64x2048_704_0, shapeCast S64x2048 (truncf .bf16 (View.ld X (Rect.unit (s := S1024x2048) ![704, 0] S64x2048.size inb_S1024x2048_S64x2048_704_0)) bitsLt_bf16_f32) shapeCasts_S64x2048_S64x2048⟩,
    ⟨Rect.unit (s := S1024x2048) ![640, 0] S64x2048.size inb_S1024x2048_S64x2048_640_0, shapeCast S64x2048 (truncf .bf16 (View.ld X (Rect.unit (s := S1024x2048) ![640, 0] S64x2048.size inb_S1024x2048_S64x2048_640_0)) bitsLt_bf16_f32) shapeCasts_S64x2048_S64x2048⟩,
    ⟨Rect.unit (s := S1024x2048) ![576, 0] S64x2048.size inb_S1024x2048_S64x2048_576_0, shapeCast S64x2048 (truncf .bf16 (View.ld X (Rect.unit (s := S1024x2048) ![576, 0] S64x2048.size inb_S1024x2048_S64x2048_576_0)) bitsLt_bf16_f32) shapeCasts_S64x2048_S64x2048⟩,
    ⟨Rect.unit (s := S1024x2048) ![512, 0] S64x2048.size inb_S1024x2048_S64x2048_512_0, shapeCast S64x2048 (truncf .bf16 (View.ld X (Rect.unit (s := S1024x2048) ![512, 0] S64x2048.size inb_S1024x2048_S64x2048_512_0)) bitsLt_bf16_f32) shapeCasts_S64x2048_S64x2048⟩,
    ⟨Rect.unit (s := S1024x2048) ![448, 0] S64x2048.size inb_S1024x2048_S64x2048_448_0, shapeCast S64x2048 (truncf .bf16 (View.ld X (Rect.unit (s := S1024x2048) ![448, 0] S64x2048.size inb_S1024x2048_S64x2048_448_0)) bitsLt_bf16_f32) shapeCasts_S64x2048_S64x2048⟩,
    ⟨Rect.unit (s := S1024x2048) ![384, 0] S64x2048.size inb_S1024x2048_S64x2048_384_0, shapeCast S64x2048 (truncf .bf16 (View.ld X (Rect.unit (s := S1024x2048) ![384, 0] S64x2048.size inb_S1024x2048_S64x2048_384_0)) bitsLt_bf16_f32) shapeCasts_S64x2048_S64x2048⟩,
    ⟨Rect.unit (s := S1024x2048) ![320, 0] S64x2048.size inb_S1024x2048_S64x2048_320_0, shapeCast S64x2048 (truncf .bf16 (View.ld X (Rect.unit (s := S1024x2048) ![320, 0] S64x2048.size inb_S1024x2048_S64x2048_320_0)) bitsLt_bf16_f32) shapeCasts_S64x2048_S64x2048⟩,
    ⟨Rect.unit (s := S1024x2048) ![256, 0] S64x2048.size inb_S1024x2048_S64x2048_256_0, shapeCast S64x2048 (truncf .bf16 (View.ld X (Rect.unit (s := S1024x2048) ![256, 0] S64x2048.size inb_S1024x2048_S64x2048_256_0)) bitsLt_bf16_f32) shapeCasts_S64x2048_S64x2048⟩,
    ⟨Rect.unit (s := S1024x2048) ![192, 0] S64x2048.size inb_S1024x2048_S64x2048_192_0, shapeCast S64x2048 (truncf .bf16 (View.ld X (Rect.unit (s := S1024x2048) ![192, 0] S64x2048.size inb_S1024x2048_S64x2048_192_0)) bitsLt_bf16_f32) shapeCasts_S64x2048_S64x2048⟩,
    ⟨Rect.unit (s := S1024x2048) ![128, 0] S64x2048.size inb_S1024x2048_S64x2048_128_0, shapeCast S64x2048 (truncf .bf16 (View.ld X (Rect.unit (s := S1024x2048) ![128, 0] S64x2048.size inb_S1024x2048_S64x2048_128_0)) bitsLt_bf16_f32) shapeCasts_S64x2048_S64x2048⟩,
    ⟨Rect.unit (s := S1024x2048) ![64, 0] S64x2048.size inb_S1024x2048_S64x2048_64_0, shapeCast S64x2048 (truncf .bf16 (View.ld X (Rect.unit (s := S1024x2048) ![64, 0] S64x2048.size inb_S1024x2048_S64x2048_64_0)) bitsLt_bf16_f32) shapeCasts_S64x2048_S64x2048⟩,
    ⟨Rect.unit (s := S1024x2048) ![0, 0] S64x2048.size inb_S1024x2048_S64x2048_0_0, shapeCast S64x2048 (truncf .bf16 (View.ld X (Rect.unit (s := S1024x2048) ![0, 0] S64x2048.size inb_S1024x2048_S64x2048_0_0)) bitsLt_bf16_f32) shapeCasts_S64x2048_S64x2048⟩]

/-- A tile's rows of words, from the block that holds each row's eight runs of 128 words one below the other. -/
def words (x : S2048x128.Idx → Elt F .i32) : IVec S256x1024 32 :=
  concatenate S256x1024 1 [⟨S256x128, fun j => x ((⟨![0, 0], S256x128.size, ![8, 1], inb_S2048x128_S256x128_0_0_s_8_1⟩ : LoadRect S2048x128).idx j)⟩,
    ⟨S256x128, fun j => x ((⟨![1, 0], S256x128.size, ![8, 1], inb_S2048x128_S256x128_1_0_s_8_1⟩ : LoadRect S2048x128).idx j)⟩,
    ⟨S256x128, fun j => x ((⟨![2, 0], S256x128.size, ![8, 1], inb_S2048x128_S256x128_2_0_s_8_1⟩ : LoadRect S2048x128).idx j)⟩,
    ⟨S256x128, fun j => x ((⟨![3, 0], S256x128.size, ![8, 1], inb_S2048x128_S256x128_3_0_s_8_1⟩ : LoadRect S2048x128).idx j)⟩,
    ⟨S256x128, fun j => x ((⟨![4, 0], S256x128.size, ![8, 1], inb_S2048x128_S256x128_4_0_s_8_1⟩ : LoadRect S2048x128).idx j)⟩,
    ⟨S256x128, fun j => x ((⟨![5, 0], S256x128.size, ![8, 1], inb_S2048x128_S256x128_5_0_s_8_1⟩ : LoadRect S2048x128).idx j)⟩,
    ⟨S256x128, fun j => x ((⟨![6, 0], S256x128.size, ![8, 1], inb_S2048x128_S256x128_6_0_s_8_1⟩ : LoadRect S2048x128).idx j)⟩,
    ⟨S256x128, fun j => x ((⟨![7, 0], S256x128.size, ![8, 1], inb_S2048x128_S256x128_7_0_s_8_1⟩ : LoadRect S2048x128).idx j)⟩] concatenates_S256x128_S256x128_S256x128_S256x128_S256x128_S256x128_S256x128_S256x128_S256x1024_d1

/-- The tile's activations: each word's low half, then each word's high half. -/
def acts (x : S2048x128.Idx → Elt F .i32) : FVec F S256x2048 .bf16 :=
  truncf .bf16 (concatenate S256x2048 1 [⟨S256x1024, bitcastToFloat .f32 (shli (words x) (broadcast S256x1024 (16#32)))⟩,
    ⟨S256x1024, bitcastToFloat .f32 (andi (words x) (broadcast S256x1024 (4294901760#32)))⟩] concatenates_S256x1024_S256x1024_S256x2048_d1) bitsLt_bf16_f32

/-- The two inner products of a tile. -/
def inner (x : S2048x128.Idx → Elt F .i32) (m : S2048x1024.Idx → Elt F .bf16) : FVec F S256x1024 .f32 :=
  matmul dot_S256x2048_S2048x1024_S256x1024_1_0_0_1_n_n none (acts x) m (constant S256x1024 .f32 0x00000000#32)

/-- The tile's gated product. -/
def gated (x : S2048x128.Idx → Elt F .i32) (m1 m3 : S2048x1024.Idx → Elt F .bf16) : FVec F S256x1024 .bf16 :=
  truncf .bf16 (mulf (mulf (inner x m1) (divf (broadcast S256x1024 (Scalar.ofBits .f32 0x3F800000#32)) (addf (broadcast S256x1024 (Scalar.ofBits .f32 0x3F800000#32))
    (exp (subf (broadcast S256x1024 (Scalar.ofBits .f32 0x00000000#32)) (inner x m1)))))) (inner x m3)) bitsLt_bf16_f32

/-- The tile's result, in rows. -/
def tile (x : S2048x128.Idx → Elt F .i32) (m1 m3 : S2048x1024.Idx → Elt F .bf16) (m2 : S1024x2048.Idx → Elt F .bf16) : FVec F S256x2048 .f32 :=
  matmul dot_S256x1024_S1024x2048_S256x2048_1_0_0_1_n_n none (gated x m1 m3) m2 (constant S256x2048 .f32 0x00000000#32)

/-- The sixteen stores that lay a tile's rows out, each row's sixteen runs of 128 elements one below the other. -/
def laid (y : FVec F S256x2048 .f32) : List (View.Piece (Elt F) S4096x128 .f32) :=
  [⟨⟨(⟨![15, 0], S256x128.size, ![16, 1], inb_S4096x128_S256x128_15_0_s_16_1⟩ : LoadRect S4096x128), spos_16_1⟩, extractStridedSlice S256x128 ![0, 1920] y slices_S256x2048_o0_1920_S256x128⟩,
    ⟨⟨(⟨![14, 0], S256x128.size, ![16, 1], inb_S4096x128_S256x128_14_0_s_16_1⟩ : LoadRect S4096x128), spos_16_1⟩, extractStridedSlice S256x128 ![0, 1792] y slices_S256x2048_o0_1792_S256x128⟩,
    ⟨⟨(⟨![13, 0], S256x128.size, ![16, 1], inb_S4096x128_S256x128_13_0_s_16_1⟩ : LoadRect S4096x128), spos_16_1⟩, extractStridedSlice S256x128 ![0, 1664] y slices_S256x2048_o0_1664_S256x128⟩,
    ⟨⟨(⟨![12, 0], S256x128.size, ![16, 1], inb_S4096x128_S256x128_12_0_s_16_1⟩ : LoadRect S4096x128), spos_16_1⟩, extractStridedSlice S256x128 ![0, 1536] y slices_S256x2048_o0_1536_S256x128⟩,
    ⟨⟨(⟨![11, 0], S256x128.size, ![16, 1], inb_S4096x128_S256x128_11_0_s_16_1⟩ : LoadRect S4096x128), spos_16_1⟩, extractStridedSlice S256x128 ![0, 1408] y slices_S256x2048_o0_1408_S256x128⟩,
    ⟨⟨(⟨![10, 0], S256x128.size, ![16, 1], inb_S4096x128_S256x128_10_0_s_16_1⟩ : LoadRect S4096x128), spos_16_1⟩, extractStridedSlice S256x128 ![0, 1280] y slices_S256x2048_o0_1280_S256x128⟩,
    ⟨⟨(⟨![9, 0], S256x128.size, ![16, 1], inb_S4096x128_S256x128_9_0_s_16_1⟩ : LoadRect S4096x128), spos_16_1⟩, extractStridedSlice S256x128 ![0, 1152] y slices_S256x2048_o0_1152_S256x128⟩,
    ⟨⟨(⟨![8, 0], S256x128.size, ![16, 1], inb_S4096x128_S256x128_8_0_s_16_1⟩ : LoadRect S4096x128), spos_16_1⟩, extractStridedSlice S256x128 ![0, 1024] y slices_S256x2048_o0_1024_S256x128⟩,
    ⟨⟨(⟨![7, 0], S256x128.size, ![16, 1], inb_S4096x128_S256x128_7_0_s_16_1⟩ : LoadRect S4096x128), spos_16_1⟩, extractStridedSlice S256x128 ![0, 896] y slices_S256x2048_o0_896_S256x128⟩,
    ⟨⟨(⟨![6, 0], S256x128.size, ![16, 1], inb_S4096x128_S256x128_6_0_s_16_1⟩ : LoadRect S4096x128), spos_16_1⟩, extractStridedSlice S256x128 ![0, 768] y slices_S256x2048_o0_768_S256x128⟩,
    ⟨⟨(⟨![5, 0], S256x128.size, ![16, 1], inb_S4096x128_S256x128_5_0_s_16_1⟩ : LoadRect S4096x128), spos_16_1⟩, extractStridedSlice S256x128 ![0, 640] y slices_S256x2048_o0_640_S256x128⟩,
    ⟨⟨(⟨![4, 0], S256x128.size, ![16, 1], inb_S4096x128_S256x128_4_0_s_16_1⟩ : LoadRect S4096x128), spos_16_1⟩, extractStridedSlice S256x128 ![0, 512] y slices_S256x2048_o0_512_S256x128⟩,
    ⟨⟨(⟨![3, 0], S256x128.size, ![16, 1], inb_S4096x128_S256x128_3_0_s_16_1⟩ : LoadRect S4096x128), spos_16_1⟩, extractStridedSlice S256x128 ![0, 384] y slices_S256x2048_o0_384_S256x128⟩,
    ⟨⟨(⟨![2, 0], S256x128.size, ![16, 1], inb_S4096x128_S256x128_2_0_s_16_1⟩ : LoadRect S4096x128), spos_16_1⟩, extractStridedSlice S256x128 ![0, 256] y slices_S256x2048_o0_256_S256x128⟩,
    ⟨⟨(⟨![1, 0], S256x128.size, ![16, 1], inb_S4096x128_S256x128_1_0_s_16_1⟩ : LoadRect S4096x128), spos_16_1⟩, extractStridedSlice S256x128 ![0, 128] y slices_S256x2048_o0_128_S256x128⟩,
    ⟨⟨(⟨![0, 0], S256x128.size, ![16, 1], inb_S4096x128_S256x128_0_0_s_16_1⟩ : LoadRect S4096x128), spos_16_1⟩, extractStridedSlice S256x128 ![0, 0] y slices_S256x2048_o0_0_S256x128⟩]

/-- The block a tile leaves. -/
def block (x : S2048x128.Idx → Elt F .i32) (m1 m3 : S2048x1024.Idx → Elt F .bf16) (m2 : S1024x2048.Idx → Elt F .bf16) : S4096x128.Idx → Elt F .f32 :=
  View.canon (laid (tile x m1 m3 m2))

theorem mem_strided (k : ℕ) (hk : ∀ a, S256x128.size a = 0 ∨ (![k, 0] : Fin 2 → ℕ) a + (![16, 1] : Fin 2 → ℕ) a * (S256x128.size a - 1) < S4096x128.size a) (hp : ∀ a, 0 < (![16, 1] : Fin 2 → ℕ) a)
    (y : S4096x128.Idx) (h : (y 0).val % 16 = k) :
    y ∈ (⟨(⟨![k, 0], S256x128.size, ![16, 1], hk⟩ : LoadRect S4096x128), hp⟩ : Rect S4096x128).set := by
  have h0 : (y 0).val < 4096 := (y 0).isLt
  have h1 : (y 1).val < 128 := (y 1).isLt
  rw [LoadRect.mem_set]
  intro a
  match a with
  | 0 => exact ⟨(y 0).val / 16, show (y 0).val / 16 < 256 by omega, show (y 0).val = k + 16 * ((y 0).val / 16) by omega⟩
  | 1 => exact ⟨(y 1).val, h1, show (y 1).val = 0 + 1 * (y 1).val by omega⟩

theorem laid_cover (y : FVec F S256x2048 .f32) (i : S4096x128.Idx) : ∃ p ∈ laid y, i ∈ p.1.set := by
  have h : (i 0).val % 16 < 16 := Nat.mod_lt _ (by decide)
  unfold laid
  generalize hk : (i 0).val % 16 = k at h
  match k, h, hk with
  | 0, _, hk => exact ⟨_, .tail _ (.tail _ (.tail _ (.tail _ (.tail _ (.tail _ (.tail _ (.tail _ (.tail _ (.tail _ (.tail _ (.tail _ (.tail _ (.tail _ (.tail _ (.head _))))))))))))))), mem_strided 0 _ _ i hk⟩
  | 1, _, hk => exact ⟨_, .tail _ (.tail _ (.tail _ (.tail _ (.tail _ (.tail _ (.tail _ (.tail _ (.tail _ (.tail _ (.tail _ (.tail _ (.tail _ (.tail _ (.head _)))))))))))))), mem_strided 1 _ _ i hk⟩
  | 2, _, hk => exact ⟨_, .tail _ (.tail _ (.tail _ (.tail _ (.tail _ (.tail _ (.tail _ (.tail _ (.tail _ (.tail _ (.tail _ (.tail _ (.tail _ (.head _))))))))))))), mem_strided 2 _ _ i hk⟩
  | 3, _, hk => exact ⟨_, .tail _ (.tail _ (.tail _ (.tail _ (.tail _ (.tail _ (.tail _ (.tail _ (.tail _ (.tail _ (.tail _ (.tail _ (.head _)))))))))))), mem_strided 3 _ _ i hk⟩
  | 4, _, hk => exact ⟨_, .tail _ (.tail _ (.tail _ (.tail _ (.tail _ (.tail _ (.tail _ (.tail _ (.tail _ (.tail _ (.tail _ (.head _))))))))))), mem_strided 4 _ _ i hk⟩
  | 5, _, hk => exact ⟨_, .tail _ (.tail _ (.tail _ (.tail _ (.tail _ (.tail _ (.tail _ (.tail _ (.tail _ (.tail _ (.head _)))))))))), mem_strided 5 _ _ i hk⟩
  | 6, _, hk => exact ⟨_, .tail _ (.tail _ (.tail _ (.tail _ (.tail _ (.tail _ (.tail _ (.tail _ (.tail _ (.head _))))))))), mem_strided 6 _ _ i hk⟩
  | 7, _, hk => exact ⟨_, .tail _ (.tail _ (.tail _ (.tail _ (.tail _ (.tail _ (.tail _ (.tail _ (.head _)))))))), mem_strided 7 _ _ i hk⟩
  | 8, _, hk => exact ⟨_, .tail _ (.tail _ (.tail _ (.tail _ (.tail _ (.tail _ (.tail _ (.head _))))))), mem_strided 8 _ _ i hk⟩
  | 9, _, hk => exact ⟨_, .tail _ (.tail _ (.tail _ (.tail _ (.tail _ (.tail _ (.head _)))))), mem_strided 9 _ _ i hk⟩
  | 10, _, hk => exact ⟨_, .tail _ (.tail _ (.tail _ (.tail _ (.tail _ (.head _))))), mem_strided 10 _ _ i hk⟩
  | 11, _, hk => exact ⟨_, .tail _ (.tail _ (.tail _ (.tail _ (.head _)))), mem_strided 11 _ _ i hk⟩
  | 12, _, hk => exact ⟨_, .tail _ (.tail _ (.tail _ (.head _))), mem_strided 12 _ _ i hk⟩
  | 13, _, hk => exact ⟨_, .tail _ (.tail _ (.head _)), mem_strided 13 _ _ i hk⟩
  | 14, _, hk => exact ⟨_, .tail _ (.head _), mem_strided 14 _ _ i hk⟩
  | 15, _, hk => exact ⟨_, .head _, mem_strided 15 _ _ i hk⟩
  | k + 16, h, _ => omega

theorem narrow_cover (X : S2048x1024.Idx → Elt F .f32) : ∀ i : S2048x1024.Idx, ∃ p ∈ narrow X, i ∈ p.1.set :=
  View.cover_of_tiled _ S128x1024.size (by rfl)

theorem narrow2_cover (X : S1024x2048.Idx → Elt F .f32) : ∀ i : S1024x2048.Idx, ∃ p ∈ narrow2 X, i ∈ p.1.set :=
  View.cover_of_tiled _ S64x2048.size (by rfl)

/-- What a buffer holds once both halves of expert `e`'s matrix have landed. -/
abbrev landed (c : Dev nD) (B : Memref sig .tc .vmem S2048x1024 .f32) (M : Memref sig .tc .hbm S32x2048x1024 .f32) (w : Buf (Elt F) (M.view.loc (c : Thread nD τ))) (e : ℕ) (h : e < 32) : S2048x1024.Idx → Elt F .f32 :=
  B.view.read (Elt F) (B.view.writes (Elt F) B.view.junk [⟨bot, half c (lower M e (in2 h)) w⟩, ⟨top, half c (upper M e (in1 h)) w⟩])
abbrev landed2 (c : Dev nD) (B : Memref sig .tc .vmem S1024x2048 .f32) (M : Memref sig .tc .hbm S32x1024x2048 .f32) (w : Buf (Elt F) (M.view.loc (c : Thread nD τ))) (e : ℕ) (h : e < 32) : S1024x2048.Idx → Elt F .f32 :=
  B.view.read (Elt F) (B.view.writes (Elt F) B.view.junk [⟨bot2, half c (lower2 M e (in4 h)) w⟩, ⟨top2, half c (upper2 M e (in3 h)) w⟩])

/-- Expert `e`'s three matrices, narrowed. -/
def cast1 (c : Dev nD) (w : Buf (Elt F) (W1.view.loc (c : Thread nD τ))) (e : ℕ) (h : e < 32) : S2048x1024.Idx → Elt F .bf16 := View.canon (narrow (landed c B1 W1 w e h))
def cast3 (c : Dev nD) (w : Buf (Elt F) (W3.view.loc (c : Thread nD τ))) (e : ℕ) (h : e < 32) : S2048x1024.Idx → Elt F .bf16 := View.canon (narrow (landed c B3 W3 w e h))
def cast2 (c : Dev nD) (w : Buf (Elt F) (W2.view.loc (c : Thread nD τ))) (e : ℕ) (h : e < 32) : S1024x2048.Idx → Elt F .bf16 := View.canon (narrow2 (landed2 c B2 W2 w e h))

/-- No copy in flight: the three buffers, the six shares and the six counters at zero. -/
def Idle (c : Dev nD) (w1 : Buf (Elt F) (W1.view.loc (c : Thread nD τ))) (w3 : Buf (Elt F) (W3.view.loc (c : Thread nD τ))) (w2 : Buf (Elt F) (W2.view.loc (c : Thread nD τ))) : sProp 𝕄 :=
  iprop((∃ b, At c B1 fullShare b) ∗ (∃ b, At c B3 fullShare b) ∗ (∃ b, At c B2 fullShare b)
    ∗ (At c W1 (Transfers.shareTokN fullShare 4) w1 ∗ At c W1 (Transfers.shareTokN fullShare 5) w1)
    ∗ (At c W3 (Transfers.shareTokN fullShare 6) w3 ∗ At c W3 (Transfers.shareTokN fullShare 7) w3)
    ∗ (At c W2 (Transfers.shareTokN fullShare 8) w2 ∗ At c W2 (Transfers.shareTokN fullShare 9) w2)
    ∗ semVal ((c : Thread nD τ), SemLoc.dma 4) 0 ∗ semVal ((c : Thread nD τ), SemLoc.dma 5) 0 ∗ semVal ((c : Thread nD τ), SemLoc.dma 6) 0
    ∗ semVal ((c : Thread nD τ), SemLoc.dma 7) 0 ∗ semVal ((c : Thread nD τ), SemLoc.dma 8) 0 ∗ semVal ((c : Thread nD τ), SemLoc.dma 9) 0)

/-- Expert `e`'s six copies in flight. -/
def Pending (c : Dev nD) (w1 : Buf (Elt F) (W1.view.loc (c : Thread nD τ))) (w3 : Buf (Elt F) (W3.view.loc (c : Thread nD τ))) (w2 : Buf (Elt F) (W2.view.loc (c : Thread nD τ))) (e : ℕ) (h : e < 32) : sProp 𝕄 :=
  iprop((∃ b, Fill c 4 5 B1 W1 (Transfers.shareTokN fullShare 4) (Transfers.shareTokN fullShare 5) w1 b e (in1 h) (in2 h))
    ∗ (∃ b, Fill c 6 7 B3 W3 (Transfers.shareTokN fullShare 6) (Transfers.shareTokN fullShare 7) w3 b e (in1 h) (in2 h))
    ∗ (∃ b, Fill2 c 8 9 B2 W2 (Transfers.shareTokN fullShare 8) (Transfers.shareTokN fullShare 9) w2 b e (in3 h) (in4 h)))

/-- The narrowed matrices' buffers, at three given contents. -/
def Holding (c : Dev nD) (m1 m3 : S2048x1024.Idx → Elt F .bf16) (m2 : S1024x2048.Idx → Elt F .bf16) : sProp 𝕄 :=
  iprop(owns (c : Thread nD τ) C1 fullShare m1 ∗ owns (c : Thread nD τ) C3 fullShare m3 ∗ owns (c : Thread nD τ) C2 fullShare m2)

/-- The four tables. -/
def Tables (c : Dev nD) (q : PosShare TreeShare) (t1 : Buf (Elt F) (T1.view.loc (c : Thread nD τ))) (t2 : Buf (Elt F) (T2.view.loc (c : Thread nD τ))) (t3 : Buf (Elt F) (T3.view.loc (c : Thread nD τ)))
    (t4 : Buf (Elt F) (T4.view.loc (c : Thread nD τ))) : sProp 𝕄 := iprop(At c T1 q t1 ∗ At c T2 q t2 ∗ At c T3 q t3 ∗ At c T4 q t4)

theorem readCov_whole {sp : Space} {S : Shape} {e : EltTy} (v : View sig .tc sp S e) (L : List (View.Piece (Elt F) S e)) {off : Fin S.rank → ℕ} (inb : ∀ a, off a + S.size a ≤ S.size a) :
    v.readCov L (Rect.unit off S.size inb).toLoadRect = View.canon L := by
  rw [View.readCov_eq_canon']
  funext y
  exact congrArg (View.canon L) (funext fun a => Fin.ext (by
    show off a + 1 * (y a).val = (y a).val
    have := inb a; omega))

/-- Two copies in flight over what earlier stores left are two copies in flight over some contents. -/
theorem fill_of (c : Dev nD) (k k' : DmaSem sig) (B : Memref sig .tc .vmem S2048x1024 .f32) (M : Memref sig .tc .hbm S32x2048x1024 .f32) (q q' : PosShare TreeShare)
    (w : Buf (Elt F) (M.view.loc (c : Thread nD τ))) (b : Buf (Elt F) (B.view.loc (c : Thread nD τ))) (L : List (View.Piece (Elt F) S2048x1024 .f32)) (e : ℕ) (h : In1 e) (h' : In2 e) :
    iprop(Fly0 c k B M q w (B.view.writes (Elt F) b (⟨top, half c (upper M e h) w⟩ :: L)) e h
      ∗ Fly1 c k' B M q' w (B.view.writes (Elt F) b (⟨bot, half c (lower M e h') w⟩ :: ⟨top, half c (upper M e h) w⟩ :: L)) e h'
      ∗ (B.view.loc (c : Thread nD τ) ↦[(Finset.univ \ (B.slice top (fun _ => rfl)).view.set) \ (B.slice bot (fun _ => rfl)).view.set]{fullShare}
          B.view.writes (Elt F) b (⟨bot, half c (lower M e h') w⟩ :: ⟨top, half c (upper M e h) w⟩ :: L)))
    ⊢ iprop(∃ b, Fill c k k' B M q q' w b e h h') := by
  iintro H
  iexists (B.view.writes (Elt F) b L)
  iexact H

/-- Two copies in flight over what earlier stores left are two copies in flight over some contents. -/
theorem fill2_of (c : Dev nD) (k k' : DmaSem sig) (B : Memref sig .tc .vmem S1024x2048 .f32) (M : Memref sig .tc .hbm S32x1024x2048 .f32) (q q' : PosShare TreeShare)
    (w : Buf (Elt F) (M.view.loc (c : Thread nD τ))) (b : Buf (Elt F) (B.view.loc (c : Thread nD τ))) (L : List (View.Piece (Elt F) S1024x2048 .f32)) (e : ℕ) (h : In3 e) (h' : In4 e) :
    iprop(Fly20 c k B M q w (B.view.writes (Elt F) b (⟨top2, half c (upper2 M e h) w⟩ :: L)) e h
      ∗ Fly21 c k' B M q' w (B.view.writes (Elt F) b (⟨bot2, half c (lower2 M e h') w⟩ :: ⟨top2, half c (upper2 M e h) w⟩ :: L)) e h'
      ∗ (B.view.loc (c : Thread nD τ) ↦[(Finset.univ \ (B.slice top2 (fun _ => rfl)).view.set) \ (B.slice bot2 (fun _ => rfl)).view.set]{fullShare}
          B.view.writes (Elt F) b (⟨bot2, half c (lower2 M e h') w⟩ :: ⟨top2, half c (upper2 M e h) w⟩ :: L)))
    ⊢ iprop(∃ b, Fill2 c k k' B M q q' w b e h h') := by
  iintro H
  iexists (B.view.writes (Elt F) b L)
  iexact H

set_option sl_exec.dmaWindow true
set_option maxHeartbeats 40000000 in
/-- A tile in use that keeps the expert before it: the matrices stay, the tile's block is left. -/
theorem run_kept (c : Dev nD) (i : grid0.Coords) (q : PosShare TreeShare)
   (arg5 : Memref sig .tc .vmem S2048x128 .i32) (harg5 : arg5.IsWhole) (arg9 : Memref sig .tc .vmem S4096x128 .f32) (harg9 : arg9.IsWhole)
   (t1 : Buf (Elt F) (T1.view.loc (c : Thread nD τ))) (t2 : Buf (Elt F) (T2.view.loc (c : Thread nD τ))) (t3 : Buf (Elt F) (T3.view.loc (c : Thread nD τ))) (t4 : Buf (Elt F) (T4.view.loc (c : Thread nD τ)))
   (m1 m3 : S2048x1024.Idx → Elt F .bf16) (m2 : S1024x2048.Idx → Elt F .bf16)
   (x : S2048x128.Idx → Elt F .i32)
   (hk1 : ¬ k0_cond1 i = 1#1) (hk2 : ¬ k0_cond2 i (word4 c t4) (word2 c i t2) = 1#1) (hk4 : k0_cond4 i (word4 c t4) (word2 c i t2) = 1#1) (hk5 : ¬ k0_cond5 i (word4 c t4) = 1#1)
   (W : Waits sig Unit) (K : PUnit → sProp 𝕄) :
   iprop(Tables c q t1 t2 t3 t4 ∗ Holding c m1 m3 m2 ∗ owns (c : Thread nD τ) arg5 fullShare x ∗ (∃ d, owns (c : Thread nD τ) arg9 fullShare d) ∗ owes (c : Thread nD τ) 0 W
     ∗ (iprop(Tables c q t1 t2 t3 t4 ∗ Holding c m1 m3 m2 ∗ owns (c : Thread nD τ) arg5 fullShare x ∗ owns (c : Thread nD τ) arg9 fullShare (block x m1 m3 m2) ∗ (∃ W', owes (c : Thread nD τ) 0 W')) -∗ K ⟨⟩))
   ⊢ wp frame (wpE (defs₀ (F := F)) Variants.none c none) Set.univ (cc0_experts i T1 (Memref.isWhole_whole _) T2 (Memref.isWhole_whole _) T3 (Memref.isWhole_whole _) T4 (Memref.isWhole_whole _) arg5 harg5
     W1 (Memref.isWhole_whole _) W3 (Memref.isWhole_whole _) W2 (Memref.isWhole_whole _) arg9 harg9 B1 (Memref.isWhole_whole _) B3 (Memref.isWhole_whole _) B2 (Memref.isWhole_whole _)
     C1 (Memref.isWhole_whole _) C3 (Memref.isWhole_whole _) C2 (Memref.isWhole_whole _) cc0_scratch6) K := by
  unfold cc0_experts Holding Tables owns
  iintro ⟨⟨HT1, HT2, HT3, HT4⟩, ⟨⟨%c1, %e1, HC1⟩, ⟨%c3, %e3, HC3⟩, ⟨%c2, %e2, HC2⟩⟩, ⟨%f5, %e5, HX⟩, ⟨%d9, %f9, %e9, HY⟩, HO, Hk⟩
  subst e1 e3 e2 e5
  sl_exec
  sl_step
  iapply Hk
  isplitl [HT1 HT2 HT3 HT4]
  · isplitl [HT1]; · iexact HT1
    isplitl [HT2]; · iexact HT2
    isplitl [HT3]; · iexact HT3
    iexact HT4
  isplitl [HC1 HC3 HC2]
  · isplitl [HC1]; · iexists c1; isplitr; swap; · iexact HC1
                     ipureintro; rfl
    isplitl [HC3]; · iexists c3; isplitr; swap; · iexact HC3
                     ipureintro; rfl
    iexists c2; isplitr; swap; · iexact HC2
    ipureintro; rfl
  isplitl [HX]; · iexists f5; isplitr; swap; · iexact HX
                  ipureintro; rfl
  isplitl [HY]
  · iexists _; isplitr; swap; · iexact HY
    ipureintro
    refine (View.read_writes_eq_canon _ _ _ (laid_cover _)).trans ?_
    change View.canon (laid (tile (View.read (Elt F) arg5.view f5) (View.readAt (Elt F) C1.view (Rect.unit (s := S2048x1024) ![0, 0] S2048x1024.size inb_S2048x1024_S2048x1024_0_0).toLoadRect c1)
      (View.readAt (Elt F) C3.view (Rect.unit (s := S2048x1024) ![0, 0] S2048x1024.size inb_S2048x1024_S2048x1024_0_0).toLoadRect c3)
      (View.readAt (Elt F) C2.view (Rect.unit (s := S1024x2048) ![0, 0] S1024x2048.size inb_S1024x2048_S1024x2048_0_0).toLoadRect c2))) = _
    rw [View.readAt_full C1.view, View.readAt_full C3.view, View.readAt_full C2.view]
    rfl
  iexists _; iexact HO

set_option sl_exec.dmaWindow true
set_option maxHeartbeats 40000000 in
/-- A tile not in use: its block is left at zero. -/
theorem run_unused (c : Dev nD) (i : grid0.Coords) (q : PosShare TreeShare)
   (arg5 : Memref sig .tc .vmem S2048x128 .i32) (harg5 : arg5.IsWhole) (arg9 : Memref sig .tc .vmem S4096x128 .f32) (harg9 : arg9.IsWhole)
   (t1 : Buf (Elt F) (T1.view.loc (c : Thread nD τ))) (t2 : Buf (Elt F) (T2.view.loc (c : Thread nD τ))) (t3 : Buf (Elt F) (T3.view.loc (c : Thread nD τ))) (t4 : Buf (Elt F) (T4.view.loc (c : Thread nD τ)))
   (x : S2048x128.Idx → Elt F .i32)
   (hk1 : ¬ k0_cond1 i = 1#1) (hk2 : ¬ k0_cond2 i (word4 c t4) (word2 c i t2) = 1#1) (hk4 : ¬ k0_cond4 i (word4 c t4) (word2 c i t2) = 1#1) (hk5 : k0_cond5 i (word4 c t4) = 1#1)
   (W : Waits sig Unit) (K : PUnit → sProp 𝕄) :
   iprop(Tables c q t1 t2 t3 t4 ∗ emp ∗ owns (c : Thread nD τ) arg5 fullShare x ∗ (∃ d, owns (c : Thread nD τ) arg9 fullShare d) ∗ owes (c : Thread nD τ) 0 W
     ∗ (iprop(Tables c q t1 t2 t3 t4 ∗ emp ∗ owns (c : Thread nD τ) arg5 fullShare x ∗ owns (c : Thread nD τ) arg9 fullShare (fun _ => Scalar.ofBits (F := F) .f32 0x00000000#32) ∗ (∃ W', owes (c : Thread nD τ) 0 W')) -∗ K ⟨⟩))
   ⊢ wp frame (wpE (defs₀ (F := F)) Variants.none c none) Set.univ (cc0_experts i T1 (Memref.isWhole_whole _) T2 (Memref.isWhole_whole _) T3 (Memref.isWhole_whole _) T4 (Memref.isWhole_whole _) arg5 harg5
     W1 (Memref.isWhole_whole _) W3 (Memref.isWhole_whole _) W2 (Memref.isWhole_whole _) arg9 harg9 B1 (Memref.isWhole_whole _) B3 (Memref.isWhole_whole _) B2 (Memref.isWhole_whole _)
     C1 (Memref.isWhole_whole _) C3 (Memref.isWhole_whole _) C2 (Memref.isWhole_whole _) cc0_scratch6) K := by
  unfold cc0_experts Tables owns
  iintro ⟨⟨HT1, HT2, HT3, HT4⟩, -, ⟨%f5, %e5, HX⟩, ⟨%d9, %f9, %e9, HY⟩, HO, Hk⟩
  subst e5
  sl_exec
  sl_step
  iapply Hk
  isplitl [HT1 HT2 HT3 HT4]
  · isplitl [HT1]; · iexact HT1
    isplitl [HT2]; · iexact HT2
    isplitl [HT3]; · iexact HT3
    iexact HT4
  isplitr; · iempintro
  isplitl [HX]; · iexists f5; isplitr; swap; · iexact HX
                  ipureintro; rfl
  isplitl [HY]
  · iexists _; isplitr; swap; · iexact HY
    ipureintro
    exact View.read_writes_full _ _ _ _ _
  iexists _; iexact HO

set_option sl_exec.dmaWindow true
set_option maxHeartbeats 40000000 in
/-- The first tile, with another expert after it: its expert's matrices are brought and narrowed, the next one's are on their way. -/
theorem run_first_next (c : Dev nD) (i : grid0.Coords) (q : PosShare TreeShare)
   (arg5 : Memref sig .tc .vmem S2048x128 .i32) (harg5 : arg5.IsWhole) (arg9 : Memref sig .tc .vmem S4096x128 .f32) (harg9 : arg9.IsWhole)
   (t1 : Buf (Elt F) (T1.view.loc (c : Thread nD τ))) (t2 : Buf (Elt F) (T2.view.loc (c : Thread nD τ))) (t3 : Buf (Elt F) (T3.view.loc (c : Thread nD τ))) (t4 : Buf (Elt F) (T4.view.loc (c : Thread nD τ)))
   (w1 : Buf (Elt F) (W1.view.loc (c : Thread nD τ))) (w3 : Buf (Elt F) (W3.view.loc (c : Thread nD τ))) (w2 : Buf (Elt F) (W2.view.loc (c : Thread nD τ)))
   (e : ℕ) (he : e < 32)
   (hw : (word0 c t1).toNat = e)
   (x : S2048x128.Idx → Elt F .i32)
   (hk1 : k0_cond1 i = 1#1) (hc1 : k0_chk1 i (word0 c t1)) (hc2 : k0_chk2 i (word4 c t4) (word2 c i t2) (word1 c i t1)) (hc3 : k0_chk3 i (word4 c t4) (word2 c i t2) (word3 c i t3) (word3' c i t3))
   (he' : (word3' c i t3).toNat < 32)
   (hk2 : k0_cond2 i (word4 c t4) (word2 c i t2) = 1#1) (hk3 : k0_cond3 (word3 c i t3) = 1#1) (hk4 : ¬ k0_cond4 i (word4 c t4) (word2 c i t2) = 1#1) (hk5 : ¬ k0_cond5 i (word4 c t4) = 1#1)
   (W : Waits sig Unit) (K : PUnit → sProp 𝕄) :
   iprop(Tables c q t1 t2 t3 t4 ∗ Idle c w1 w3 w2 ∗ (∃ m1, ∃ m3, ∃ m2, Holding c m1 m3 m2) ∗ owns (c : Thread nD τ) arg5 fullShare x ∗ (∃ d, owns (c : Thread nD τ) arg9 fullShare d) ∗ owes (c : Thread nD τ) 0 W
     ∗ (iprop(Tables c q t1 t2 t3 t4 ∗ Pending c w1 w3 w2 (word3' c i t3).toNat he' ∗ Holding c (cast1 c w1 e he) (cast3 c w3 e he) (cast2 c w2 e he) ∗ owns (c : Thread nD τ) arg5 fullShare x ∗ owns (c : Thread nD τ) arg9 fullShare (block x (cast1 c w1 e he) (cast3 c w3 e he) (cast2 c w2 e he)) ∗ (∃ W', owes (c : Thread nD τ) 0 W')) -∗ K ⟨⟩))
   ⊢ wp frame (wpE (defs₀ (F := F)) Variants.none c none) Set.univ (cc0_experts i T1 (Memref.isWhole_whole _) T2 (Memref.isWhole_whole _) T3 (Memref.isWhole_whole _) T4 (Memref.isWhole_whole _) arg5 harg5
     W1 (Memref.isWhole_whole _) W3 (Memref.isWhole_whole _) W2 (Memref.isWhole_whole _) arg9 harg9 B1 (Memref.isWhole_whole _) B3 (Memref.isWhole_whole _) B2 (Memref.isWhole_whole _)
     C1 (Memref.isWhole_whole _) C3 (Memref.isWhole_whole _) C2 (Memref.isWhole_whole _) cc0_scratch6) K := by
  unfold cc0_experts Holding Tables Idle Pending owns
  iintro ⟨⟨HT1, HT2, HT3, HT4⟩, ⟨⟨%b1, HB1⟩, ⟨%b3, HB3⟩, ⟨%b2, HB2⟩, ⟨HW1a, HW1b⟩, ⟨HW3a, HW3b⟩, ⟨HW2a, HW2b⟩, HS0, HS1, HS2, HS3, HS4, HS5⟩, ⟨%m1, %m3, %m2, ⟨%c1, %e1, HC1⟩, ⟨%c3, %e3, HC3⟩, ⟨%c2, %e2, HC2⟩⟩, ⟨%f5, %e5, HX⟩, ⟨%d9, %f9, %e9, HY⟩, HO, Hk⟩
  subst e5 hw
  sl_exec
  sl_step
  iapply Hk
  isplitl [HT1 HT2 HT3 HT4]
  · isplitl [HT1]; · iexact HT1
    isplitl [HT2]; · iexact HT2
    isplitl [HT3]; · iexact HT3
    iexact HT4
  isplitl [HS0 HW1a HS1 HW1b HB1 HS2 HW3a HS3 HW3b HB3 HS4 HW2a HS5 HW2b HB2]
  · isplitl [HS0 HW1a HS1 HW1b HB1]
    · iapply (fill_of c 4 5 B1 W1 (Transfers.shareTokN fullShare 4) (Transfers.shareTokN fullShare 5) w1 b1 [⟨bot, half c (lower W1 _ (in2 he)) w1⟩, ⟨top, half c (upper W1 _ (in1 he)) w1⟩]
        (word3' c i t3).toNat (in1 he') (in2 he'))
      isplitl [HS0 HW1a]
      · isplitl [HS0]; · iexact HS0
        iexact HW1a
      isplitl [HS1 HW1b]
      · isplitl [HS1]; · iexact HS1
        iexact HW1b
      iexact HB1
    isplitl [HS2 HW3a HS3 HW3b HB3]
    · iapply (fill_of c 6 7 B3 W3 (Transfers.shareTokN fullShare 6) (Transfers.shareTokN fullShare 7) w3 b3 [⟨bot, half c (lower W3 _ (in2 he)) w3⟩, ⟨top, half c (upper W3 _ (in1 he)) w3⟩]
        (word3' c i t3).toNat (in1 he') (in2 he'))
      isplitl [HS2 HW3a]
      · isplitl [HS2]; · iexact HS2
        iexact HW3a
      isplitl [HS3 HW3b]
      · isplitl [HS3]; · iexact HS3
        iexact HW3b
      iexact HB3
    iapply (fill2_of c 8 9 B2 W2 (Transfers.shareTokN fullShare 8) (Transfers.shareTokN fullShare 9) w2 b2 [⟨bot2, half c (lower2 W2 _ (in4 he)) w2⟩, ⟨top2, half c (upper2 W2 _ (in3 he)) w2⟩]
      (word3' c i t3).toNat (in3 he') (in4 he'))
    isplitl [HS4 HW2a]
    · isplitl [HS4]; · iexact HS4
      iexact HW2a
    isplitl [HS5 HW2b]
    · isplitl [HS5]; · iexact HS5
      iexact HW2b
    iexact HB2
  isplitl [HC1 HC3 HC2]
  · isplitl [HC1]
    · iexists _; isplitr; swap; · iexact HC1
      ipureintro; exact View.read_writes_eq_canon C1.view _ _ (narrow_cover (landed c B1 W1 w1 _ he))
    isplitl [HC3]
    · iexists _; isplitr; swap; · iexact HC3
      ipureintro; exact View.read_writes_eq_canon C3.view _ _ (narrow_cover (landed c B3 W3 w3 _ he))
    iexists _; isplitr; swap; · iexact HC2
    ipureintro; exact View.read_writes_eq_canon C2.view _ _ (narrow2_cover (landed2 c B2 W2 w2 _ he))
  isplitl [HX]; · iexists f5; isplitr; swap; · iexact HX
                  ipureintro; rfl
  isplitl [HY]
  · iexists _; isplitr; swap; · iexact HY
    ipureintro
    refine (View.read_writes_eq_canon _ _ _ (laid_cover _)).trans ?_
    change View.canon (laid (tile (View.read (Elt F) arg5.view f5)
      (C1.view.readCov (narrow (landed c B1 W1 w1 _ he)) (Rect.unit (s := S2048x1024) ![0, 0] S2048x1024.size inb_S2048x1024_S2048x1024_0_0).toLoadRect)
      (C3.view.readCov (narrow (landed c B3 W3 w3 _ he)) (Rect.unit (s := S2048x1024) ![0, 0] S2048x1024.size inb_S2048x1024_S2048x1024_0_0).toLoadRect)
      (C2.view.readCov (narrow2 (landed2 c B2 W2 w2 _ he)) (Rect.unit (s := S1024x2048) ![0, 0] S1024x2048.size inb_S1024x2048_S1024x2048_0_0).toLoadRect))) = _
    rw [readCov_whole C1.view, readCov_whole C3.view, readCov_whole C2.view]
    rfl
  iexists _; iexact HO

set_option sl_exec.dmaWindow true
set_option maxHeartbeats 40000000 in
/-- The first tile, with no expert after its own. -/
theorem run_first_last (c : Dev nD) (i : grid0.Coords) (q : PosShare TreeShare)
   (arg5 : Memref sig .tc .vmem S2048x128 .i32) (harg5 : arg5.IsWhole) (arg9 : Memref sig .tc .vmem S4096x128 .f32) (harg9 : arg9.IsWhole)
   (t1 : Buf (Elt F) (T1.view.loc (c : Thread nD τ))) (t2 : Buf (Elt F) (T2.view.loc (c : Thread nD τ))) (t3 : Buf (Elt F) (T3.view.loc (c : Thread nD τ))) (t4 : Buf (Elt F) (T4.view.loc (c : Thread nD τ)))
   (w1 : Buf (Elt F) (W1.view.loc (c : Thread nD τ))) (w3 : Buf (Elt F) (W3.view.loc (c : Thread nD τ))) (w2 : Buf (Elt F) (W2.view.loc (c : Thread nD τ)))
   (e : ℕ) (he : e < 32)
   (hw : (word0 c t1).toNat = e)
   (x : S2048x128.Idx → Elt F .i32)
   (hk1 : k0_cond1 i = 1#1) (hc1 : k0_chk1 i (word0 c t1)) (hc2 : k0_chk2 i (word4 c t4) (word2 c i t2) (word1 c i t1))
   (hk2 : k0_cond2 i (word4 c t4) (word2 c i t2) = 1#1) (hk3 : ¬ k0_cond3 (word3 c i t3) = 1#1) (hk4 : ¬ k0_cond4 i (word4 c t4) (word2 c i t2) = 1#1) (hk5 : ¬ k0_cond5 i (word4 c t4) = 1#1)
   (W : Waits sig Unit) (K : PUnit → sProp 𝕄) :
   iprop(Tables c q t1 t2 t3 t4 ∗ Idle c w1 w3 w2 ∗ (∃ m1, ∃ m3, ∃ m2, Holding c m1 m3 m2) ∗ owns (c : Thread nD τ) arg5 fullShare x ∗ (∃ d, owns (c : Thread nD τ) arg9 fullShare d) ∗ owes (c : Thread nD τ) 0 W
     ∗ (iprop(Tables c q t1 t2 t3 t4 ∗ Idle c w1 w3 w2 ∗ Holding c (cast1 c w1 e he) (cast3 c w3 e he) (cast2 c w2 e he) ∗ owns (c : Thread nD τ) arg5 fullShare x ∗ owns (c : Thread nD τ) arg9 fullShare (block x (cast1 c w1 e he) (cast3 c w3 e he) (cast2 c w2 e he)) ∗ (∃ W', owes (c : Thread nD τ) 0 W')) -∗ K ⟨⟩))
   ⊢ wp frame (wpE (defs₀ (F := F)) Variants.none c none) Set.univ (cc0_experts i T1 (Memref.isWhole_whole _) T2 (Memref.isWhole_whole _) T3 (Memref.isWhole_whole _) T4 (Memref.isWhole_whole _) arg5 harg5
     W1 (Memref.isWhole_whole _) W3 (Memref.isWhole_whole _) W2 (Memref.isWhole_whole _) arg9 harg9 B1 (Memref.isWhole_whole _) B3 (Memref.isWhole_whole _) B2 (Memref.isWhole_whole _)
     C1 (Memref.isWhole_whole _) C3 (Memref.isWhole_whole _) C2 (Memref.isWhole_whole _) cc0_scratch6) K := by
  unfold cc0_experts Holding Tables Idle owns
  iintro ⟨⟨HT1, HT2, HT3, HT4⟩, ⟨⟨%b1, HB1⟩, ⟨%b3, HB3⟩, ⟨%b2, HB2⟩, ⟨HW1a, HW1b⟩, ⟨HW3a, HW3b⟩, ⟨HW2a, HW2b⟩, HS0, HS1, HS2, HS3, HS4, HS5⟩, ⟨%m1, %m3, %m2, ⟨%c1, %e1, HC1⟩, ⟨%c3, %e3, HC3⟩, ⟨%c2, %e2, HC2⟩⟩, ⟨%f5, %e5, HX⟩, ⟨%d9, %f9, %e9, HY⟩, HO, Hk⟩
  subst e5 hw
  sl_exec
  sl_step
  iapply Hk
  isplitl [HT1 HT2 HT3 HT4]
  · isplitl [HT1]; · iexact HT1
    isplitl [HT2]; · iexact HT2
    isplitl [HT3]; · iexact HT3
    iexact HT4
  isplitl [HS0 HW1a HS1 HW1b HB1 HS2 HW3a HS3 HW3b HB3 HS4 HW2a HS5 HW2b HB2]
  · isplitl [HB1]; · iexists _; iexact HB1
    isplitl [HB3]; · iexists _; iexact HB3
    isplitl [HB2]; · iexists _; iexact HB2
    isplitl [HW1a HW1b]
    · isplitl [HW1a]; · iexact HW1a
      iexact HW1b
    isplitl [HW3a HW3b]
    · isplitl [HW3a]; · iexact HW3a
      iexact HW3b
    isplitl [HW2a HW2b]
    · isplitl [HW2a]; · iexact HW2a
      iexact HW2b
    isplitl [HS0]; · iexact HS0
    isplitl [HS1]; · iexact HS1
    isplitl [HS2]; · iexact HS2
    isplitl [HS3]; · iexact HS3
    isplitl [HS4]; · iexact HS4
    iexact HS5
  isplitl [HC1 HC3 HC2]
  · isplitl [HC1]
    · iexists _; isplitr; swap; · iexact HC1
      ipureintro; exact View.read_writes_eq_canon C1.view _ _ (narrow_cover (landed c B1 W1 w1 _ he))
    isplitl [HC3]
    · iexists _; isplitr; swap; · iexact HC3
      ipureintro; exact View.read_writes_eq_canon C3.view _ _ (narrow_cover (landed c B3 W3 w3 _ he))
    iexists _; isplitr; swap; · iexact HC2
    ipureintro; exact View.read_writes_eq_canon C2.view _ _ (narrow2_cover (landed2 c B2 W2 w2 _ he))
  isplitl [HX]; · iexists f5; isplitr; swap; · iexact HX
                  ipureintro; rfl
  isplitl [HY]
  · iexists _; isplitr; swap; · iexact HY
    ipureintro
    refine (View.read_writes_eq_canon _ _ _ (laid_cover _)).trans ?_
    change View.canon (laid (tile (View.read (Elt F) arg5.view f5)
      (C1.view.readCov (narrow (landed c B1 W1 w1 _ he)) (Rect.unit (s := S2048x1024) ![0, 0] S2048x1024.size inb_S2048x1024_S2048x1024_0_0).toLoadRect)
      (C3.view.readCov (narrow (landed c B3 W3 w3 _ he)) (Rect.unit (s := S2048x1024) ![0, 0] S2048x1024.size inb_S2048x1024_S2048x1024_0_0).toLoadRect)
      (C2.view.readCov (narrow2 (landed2 c B2 W2 w2 _ he)) (Rect.unit (s := S1024x2048) ![0, 0] S1024x2048.size inb_S1024x2048_S1024x2048_0_0).toLoadRect))) = _
    rw [readCov_whole C1.view, readCov_whole C3.view, readCov_whole C2.view]
    rfl
  iexists _; iexact HO

set_option sl_exec.dmaWindow true
set_option maxHeartbeats 40000000 in
/-- A tile where the next expert's turn begins, with another after it. -/
theorem run_turn_next (c : Dev nD) (i : grid0.Coords) (q : PosShare TreeShare)
   (arg5 : Memref sig .tc .vmem S2048x128 .i32) (harg5 : arg5.IsWhole) (arg9 : Memref sig .tc .vmem S4096x128 .f32) (harg9 : arg9.IsWhole)
   (t1 : Buf (Elt F) (T1.view.loc (c : Thread nD τ))) (t2 : Buf (Elt F) (T2.view.loc (c : Thread nD τ))) (t3 : Buf (Elt F) (T3.view.loc (c : Thread nD τ))) (t4 : Buf (Elt F) (T4.view.loc (c : Thread nD τ)))
   (w1 : Buf (Elt F) (W1.view.loc (c : Thread nD τ))) (w3 : Buf (Elt F) (W3.view.loc (c : Thread nD τ))) (w2 : Buf (Elt F) (W2.view.loc (c : Thread nD τ)))
   (e : ℕ) (he : e < 32)
   (x : S2048x128.Idx → Elt F .i32)
   (hk1 : ¬ k0_cond1 i = 1#1) (hc2 : k0_chk2 i (word4 c t4) (word2 c i t2) (word1 c i t1)) (hc3 : k0_chk3 i (word4 c t4) (word2 c i t2) (word3 c i t3) (word3' c i t3))
   (he' : (word3' c i t3).toNat < 32)
   (hk2 : k0_cond2 i (word4 c t4) (word2 c i t2) = 1#1) (hk3 : k0_cond3 (word3 c i t3) = 1#1) (hk4 : ¬ k0_cond4 i (word4 c t4) (word2 c i t2) = 1#1) (hk5 : ¬ k0_cond5 i (word4 c t4) = 1#1)
   (W : Waits sig Unit) (K : PUnit → sProp 𝕄) :
   iprop(Tables c q t1 t2 t3 t4 ∗ Pending c w1 w3 w2 e he ∗ (∃ m1, ∃ m3, ∃ m2, Holding c m1 m3 m2) ∗ owns (c : Thread nD τ) arg5 fullShare x ∗ (∃ d, owns (c : Thread nD τ) arg9 fullShare d) ∗ owes (c : Thread nD τ) 0 W
     ∗ (iprop(Tables c q t1 t2 t3 t4 ∗ Pending c w1 w3 w2 (word3' c i t3).toNat he' ∗ Holding c (cast1 c w1 e he) (cast3 c w3 e he) (cast2 c w2 e he) ∗ owns (c : Thread nD τ) arg5 fullShare x ∗ owns (c : Thread nD τ) arg9 fullShare (block x (cast1 c w1 e he) (cast3 c w3 e he) (cast2 c w2 e he)) ∗ (∃ W', owes (c : Thread nD τ) 0 W')) -∗ K ⟨⟩))
   ⊢ wp frame (wpE (defs₀ (F := F)) Variants.none c none) Set.univ (cc0_experts i T1 (Memref.isWhole_whole _) T2 (Memref.isWhole_whole _) T3 (Memref.isWhole_whole _) T4 (Memref.isWhole_whole _) arg5 harg5
     W1 (Memref.isWhole_whole _) W3 (Memref.isWhole_whole _) W2 (Memref.isWhole_whole _) arg9 harg9 B1 (Memref.isWhole_whole _) B3 (Memref.isWhole_whole _) B2 (Memref.isWhole_whole _)
     C1 (Memref.isWhole_whole _) C3 (Memref.isWhole_whole _) C2 (Memref.isWhole_whole _) cc0_scratch6) K := by
  unfold cc0_experts Holding Tables Pending owns
  iintro ⟨⟨HT1, HT2, HT3, HT4⟩, ⟨⟨%b1, ⟨HS0, HW1a⟩, ⟨HS1, HW1b⟩, HB1⟩, ⟨%b3, ⟨HS2, HW3a⟩, ⟨HS3, HW3b⟩, HB3⟩, ⟨%b2, ⟨HS4, HW2a⟩, ⟨HS5, HW2b⟩, HB2⟩⟩, ⟨%m1, %m3, %m2, ⟨%c1, %e1, HC1⟩, ⟨%c3, %e3, HC3⟩, ⟨%c2, %e2, HC2⟩⟩, ⟨%f5, %e5, HX⟩, ⟨%d9, %f9, %e9, HY⟩, HO, Hk⟩
  subst e5
  sl_exec
  sl_step
  iapply Hk
  isplitl [HT1 HT2 HT3 HT4]
  · isplitl [HT1]; · iexact HT1
    isplitl [HT2]; · iexact HT2
    isplitl [HT3]; · iexact HT3
    iexact HT4
  isplitl [HS0 HW1a HS1 HW1b HB1 HS2 HW3a HS3 HW3b HB3 HS4 HW2a HS5 HW2b HB2]
  · isplitl [HS0 HW1a HS1 HW1b HB1]
    · iapply (fill_of c 4 5 B1 W1 (Transfers.shareTokN fullShare 4) (Transfers.shareTokN fullShare 5) w1 b1 [⟨bot, half c (lower W1 e (in2 he)) w1⟩, ⟨top, half c (upper W1 e (in1 he)) w1⟩]
        (word3' c i t3).toNat (in1 he') (in2 he'))
      isplitl [HS0 HW1a]
      · isplitl [HS0]; · iexact HS0
        iexact HW1a
      isplitl [HS1 HW1b]
      · isplitl [HS1]; · iexact HS1
        iexact HW1b
      iexact HB1
    isplitl [HS2 HW3a HS3 HW3b HB3]
    · iapply (fill_of c 6 7 B3 W3 (Transfers.shareTokN fullShare 6) (Transfers.shareTokN fullShare 7) w3 b3 [⟨bot, half c (lower W3 e (in2 he)) w3⟩, ⟨top, half c (upper W3 e (in1 he)) w3⟩]
        (word3' c i t3).toNat (in1 he') (in2 he'))
      isplitl [HS2 HW3a]
      · isplitl [HS2]; · iexact HS2
        iexact HW3a
      isplitl [HS3 HW3b]
      · isplitl [HS3]; · iexact HS3
        iexact HW3b
      iexact HB3
    iapply (fill2_of c 8 9 B2 W2 (Transfers.shareTokN fullShare 8) (Transfers.shareTokN fullShare 9) w2 b2 [⟨bot2, half c (lower2 W2 e (in4 he)) w2⟩, ⟨top2, half c (upper2 W2 e (in3 he)) w2⟩]
      (word3' c i t3).toNat (in3 he') (in4 he'))
    isplitl [HS4 HW2a]
    · isplitl [HS4]; · iexact HS4
      iexact HW2a
    isplitl [HS5 HW2b]
    · isplitl [HS5]; · iexact HS5
      iexact HW2b
    iexact HB2
  isplitl [HC1 HC3 HC2]
  · isplitl [HC1]
    · iexists _; isplitr; swap; · iexact HC1
      ipureintro; exact View.read_writes_eq_canon C1.view _ _ (narrow_cover (landed c B1 W1 w1 e he))
    isplitl [HC3]
    · iexists _; isplitr; swap; · iexact HC3
      ipureintro; exact View.read_writes_eq_canon C3.view _ _ (narrow_cover (landed c B3 W3 w3 e he))
    iexists _; isplitr; swap; · iexact HC2
    ipureintro; exact View.read_writes_eq_canon C2.view _ _ (narrow2_cover (landed2 c B2 W2 w2 e he))
  isplitl [HX]; · iexists f5; isplitr; swap; · iexact HX
                  ipureintro; rfl
  isplitl [HY]
  · iexists _; isplitr; swap; · iexact HY
    ipureintro
    refine (View.read_writes_eq_canon _ _ _ (laid_cover _)).trans ?_
    change View.canon (laid (tile (View.read (Elt F) arg5.view f5)
      (C1.view.readCov (narrow (landed c B1 W1 w1 e he)) (Rect.unit (s := S2048x1024) ![0, 0] S2048x1024.size inb_S2048x1024_S2048x1024_0_0).toLoadRect)
      (C3.view.readCov (narrow (landed c B3 W3 w3 e he)) (Rect.unit (s := S2048x1024) ![0, 0] S2048x1024.size inb_S2048x1024_S2048x1024_0_0).toLoadRect)
      (C2.view.readCov (narrow2 (landed2 c B2 W2 w2 e he)) (Rect.unit (s := S1024x2048) ![0, 0] S1024x2048.size inb_S1024x2048_S1024x2048_0_0).toLoadRect))) = _
    rw [readCov_whole C1.view, readCov_whole C3.view, readCov_whole C2.view]
    rfl
  iexists _; iexact HO

set_option sl_exec.dmaWindow true
set_option maxHeartbeats 40000000 in
/-- A tile where the last expert's turn begins. -/
theorem run_turn_last (c : Dev nD) (i : grid0.Coords) (q : PosShare TreeShare)
   (arg5 : Memref sig .tc .vmem S2048x128 .i32) (harg5 : arg5.IsWhole) (arg9 : Memref sig .tc .vmem S4096x128 .f32) (harg9 : arg9.IsWhole)
   (t1 : Buf (Elt F) (T1.view.loc (c : Thread nD τ))) (t2 : Buf (Elt F) (T2.view.loc (c : Thread nD τ))) (t3 : Buf (Elt F) (T3.view.loc (c : Thread nD τ))) (t4 : Buf (Elt F) (T4.view.loc (c : Thread nD τ)))
   (w1 : Buf (Elt F) (W1.view.loc (c : Thread nD τ))) (w3 : Buf (Elt F) (W3.view.loc (c : Thread nD τ))) (w2 : Buf (Elt F) (W2.view.loc (c : Thread nD τ)))
   (e : ℕ) (he : e < 32)
   (x : S2048x128.Idx → Elt F .i32)
   (hk1 : ¬ k0_cond1 i = 1#1) (hc2 : k0_chk2 i (word4 c t4) (word2 c i t2) (word1 c i t1))
   (hk2 : k0_cond2 i (word4 c t4) (word2 c i t2) = 1#1) (hk3 : ¬ k0_cond3 (word3 c i t3) = 1#1) (hk4 : ¬ k0_cond4 i (word4 c t4) (word2 c i t2) = 1#1) (hk5 : ¬ k0_cond5 i (word4 c t4) = 1#1)
   (W : Waits sig Unit) (K : PUnit → sProp 𝕄) :
   iprop(Tables c q t1 t2 t3 t4 ∗ Pending c w1 w3 w2 e he ∗ (∃ m1, ∃ m3, ∃ m2, Holding c m1 m3 m2) ∗ owns (c : Thread nD τ) arg5 fullShare x ∗ (∃ d, owns (c : Thread nD τ) arg9 fullShare d) ∗ owes (c : Thread nD τ) 0 W
     ∗ (iprop(Tables c q t1 t2 t3 t4 ∗ Idle c w1 w3 w2 ∗ Holding c (cast1 c w1 e he) (cast3 c w3 e he) (cast2 c w2 e he) ∗ owns (c : Thread nD τ) arg5 fullShare x ∗ owns (c : Thread nD τ) arg9 fullShare (block x (cast1 c w1 e he) (cast3 c w3 e he) (cast2 c w2 e he)) ∗ (∃ W', owes (c : Thread nD τ) 0 W')) -∗ K ⟨⟩))
   ⊢ wp frame (wpE (defs₀ (F := F)) Variants.none c none) Set.univ (cc0_experts i T1 (Memref.isWhole_whole _) T2 (Memref.isWhole_whole _) T3 (Memref.isWhole_whole _) T4 (Memref.isWhole_whole _) arg5 harg5
     W1 (Memref.isWhole_whole _) W3 (Memref.isWhole_whole _) W2 (Memref.isWhole_whole _) arg9 harg9 B1 (Memref.isWhole_whole _) B3 (Memref.isWhole_whole _) B2 (Memref.isWhole_whole _)
     C1 (Memref.isWhole_whole _) C3 (Memref.isWhole_whole _) C2 (Memref.isWhole_whole _) cc0_scratch6) K := by
  unfold cc0_experts Holding Tables Idle Pending owns
  iintro ⟨⟨HT1, HT2, HT3, HT4⟩, ⟨⟨%b1, ⟨HS0, HW1a⟩, ⟨HS1, HW1b⟩, HB1⟩, ⟨%b3, ⟨HS2, HW3a⟩, ⟨HS3, HW3b⟩, HB3⟩, ⟨%b2, ⟨HS4, HW2a⟩, ⟨HS5, HW2b⟩, HB2⟩⟩, ⟨%m1, %m3, %m2, ⟨%c1, %e1, HC1⟩, ⟨%c3, %e3, HC3⟩, ⟨%c2, %e2, HC2⟩⟩, ⟨%f5, %e5, HX⟩, ⟨%d9, %f9, %e9, HY⟩, HO, Hk⟩
  subst e5
  sl_exec
  sl_step
  iapply Hk
  isplitl [HT1 HT2 HT3 HT4]
  · isplitl [HT1]; · iexact HT1
    isplitl [HT2]; · iexact HT2
    isplitl [HT3]; · iexact HT3
    iexact HT4
  isplitl [HS0 HW1a HS1 HW1b HB1 HS2 HW3a HS3 HW3b HB3 HS4 HW2a HS5 HW2b HB2]
  · isplitl [HB1]; · iexists _; iexact HB1
    isplitl [HB3]; · iexists _; iexact HB3
    isplitl [HB2]; · iexists _; iexact HB2
    isplitl [HW1a HW1b]
    · isplitl [HW1a]; · iexact HW1a
      iexact HW1b
    isplitl [HW3a HW3b]
    · isplitl [HW3a]; · iexact HW3a
      iexact HW3b
    isplitl [HW2a HW2b]
    · isplitl [HW2a]; · iexact HW2a
      iexact HW2b
    isplitl [HS0]; · iexact HS0
    isplitl [HS1]; · iexact HS1
    isplitl [HS2]; · iexact HS2
    isplitl [HS3]; · iexact HS3
    isplitl [HS4]; · iexact HS4
    iexact HS5
  isplitl [HC1 HC3 HC2]
  · isplitl [HC1]
    · iexists _; isplitr; swap; · iexact HC1
      ipureintro; exact View.read_writes_eq_canon C1.view _ _ (narrow_cover (landed c B1 W1 w1 e he))
    isplitl [HC3]
    · iexists _; isplitr; swap; · iexact HC3
      ipureintro; exact View.read_writes_eq_canon C3.view _ _ (narrow_cover (landed c B3 W3 w3 e he))
    iexists _; isplitr; swap; · iexact HC2
    ipureintro; exact View.read_writes_eq_canon C2.view _ _ (narrow2_cover (landed2 c B2 W2 w2 e he))
  isplitl [HX]; · iexists f5; isplitr; swap; · iexact HX
                  ipureintro; rfl
  isplitl [HY]
  · iexists _; isplitr; swap; · iexact HY
    ipureintro
    refine (View.read_writes_eq_canon _ _ _ (laid_cover _)).trans ?_
    change View.canon (laid (tile (View.read (Elt F) arg5.view f5)
      (C1.view.readCov (narrow (landed c B1 W1 w1 e he)) (Rect.unit (s := S2048x1024) ![0, 0] S2048x1024.size inb_S2048x1024_S2048x1024_0_0).toLoadRect)
      (C3.view.readCov (narrow (landed c B3 W3 w3 e he)) (Rect.unit (s := S2048x1024) ![0, 0] S2048x1024.size inb_S2048x1024_S2048x1024_0_0).toLoadRect)
      (C2.view.readCov (narrow2 (landed2 c B2 W2 w2 e he)) (Rect.unit (s := S1024x2048) ![0, 0] S1024x2048.size inb_S1024x2048_S1024x2048_0_0).toLoadRect))) = _
    rw [readCov_whole C1.view, readCov_whole C3.view, readCov_whole C2.view]
    rfl
  iexists _; iexact HO

end Cert.Kernel4Ideal.Run
-- ==== Proof.ExpertStep.lean ====
module

public import proofs.«01_k».proof.Proof.ExpertRun
public import Idealize.ShloMosaic.Lib.Pipeline.FrameBody
public import Idealize.ShloMosaic.Lib.Claim
public import Idealize.ShloMosaic.Lib.VecWindow
public import Idealize.ShloMosaic.Lib.Tactic

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! ## The tables' words -/

/-- The table's place `n`. -/
def pos (n : ℕ) : S160.Idx := fun | ⟨0, _⟩ => ⟨n % 160, Nat.mod_lt _ (by decide)⟩ | ⟨_ + 1, h⟩ => absurd h (Nat.not_lt.2 (Nat.le_add_left _ _))
/-- The one place of the count's array. -/
def only : S1.Idx := Shape.Idx.first (numel1_S1.symm ▸ Nat.one_pos)

/-- How many tiles are in use. -/
def count (t4 : S1.Idx → BitVec 32) : ℕ := (t4 only).toNat

/-- What the schedule's tables satisfy: a tile in use names an expert; the expert of a tile that turns is the one its
    predecessor names as next, one that does not turn keeps its predecessor's; the last in use names none. -/
structure Sched (t1 t2 t3 : S160.Idx → BitVec 32) (t4 : S1.Idx → BitVec 32) : Prop where
  lo : 1 ≤ count t4
  hi : count t4 ≤ 160
  first : t2 (pos 0) = 1#32
  expert : ∀ n < count t4, (t1 (pos n)).toNat < 32
  next : ∀ n < count t4, (t3 (pos n)).toNat < 2 ^ 31 → (t3 (pos n)).toNat < 32
  turn : ∀ n, n + 1 < count t4 → t2 (pos (n + 1)) = 1#32 → t1 (pos (n + 1)) = t3 (pos n)
  keep : ∀ n, n + 1 < count t4 → t2 (pos (n + 1)) ≠ 1#32 → t1 (pos (n + 1)) = t1 (pos n) ∧ t3 (pos (n + 1)) = t3 (pos n)
  last : 2 ^ 31 ≤ (t3 (pos (count t4 - 1))).toNat

theorem bound (i : grid0.Coords) : (i 0).val < 160 := (i 0).isLt

theorem at_pos (o : Fin 1 → ℕ) (h : ∀ a, o a + S1.size a ≤ S160.size a) (n : ℕ) (ho : o 0 = n) (hn : n < 160) :
    (Rect.unit (s := S160) o S1.size h).toLoadRect.idx (Shape.Idx.first (numel1_S1.symm ▸ Nat.one_pos)) = pos n := by
  funext a
  match a with
  | ⟨0, _⟩ =>
    refine Fin.ext ?_
    show o 0 + 1 * 0 = n % 160
    rw [ho, Nat.mod_eq_of_lt hn, Nat.mul_zero, Nat.add_zero]

theorem word0_eq (c : Dev nD) (t : Buf (Elt F) (T1.view.loc (c : Thread nD τ))) : word0 c t = t (pos 0) :=
  congrArg t (at_pos _ _ 0 rfl (by decide))
theorem off_eq (n : ℕ) (h : n < 160) : (Scalar.indexCast (BitVec.ofNat 32 n) : Index).toNat = n := by
  show (BitVec.ofNat 32 n).toNat = n
  rw [BitVec.toNat_ofNat]; exact Nat.mod_eq_of_lt (by omega)
theorem word1_eq (c : Dev nD) (i : grid0.Coords) (t : Buf (Elt F) (T1.view.loc (c : Thread nD τ))) : word1 c i t = t (pos (i 0).val) :=
  congrArg t (at_pos _ _ _ (off_eq _ (bound i)) (bound i))
theorem word2_eq (c : Dev nD) (i : grid0.Coords) (t : Buf (Elt F) (T2.view.loc (c : Thread nD τ))) : word2 c i t = t (pos (i 0).val) :=
  congrArg t (at_pos _ _ _ (off_eq _ (bound i)) (bound i))
theorem word3_eq (c : Dev nD) (i : grid0.Coords) (t : Buf (Elt F) (T3.view.loc (c : Thread nD τ))) : word3 c i t = t (pos (i 0).val) :=
  congrArg t (at_pos _ _ _ (off_eq _ (bound i)) (bound i))
theorem word3'_eq (c : Dev nD) (i : grid0.Coords) (t : Buf (Elt F) (T3.view.loc (c : Thread nD τ))) : word3' c i t = t (pos (i 0).val) :=
  congrArg t (at_pos _ _ _ (off_eq _ (bound i)) (bound i))
theorem word4_eq (c : Dev nD) (t : Buf (Elt F) (T4.view.loc (c : Thread nD τ))) : word4 c t = t only :=
  congrArg t (by
    funext a
    match a with
    | ⟨0, h⟩ => exact Fin.ext (by show 0 + 1 * (only ⟨0, h⟩).val = (only ⟨0, h⟩).val; omega))

/-! ## The conditions -/

theorem bit_cases (b : BitVec 1) : b = 0#1 ∨ b = 1#1 := by
  have h : b.toNat < 2 := b.isLt
  rcases Nat.lt_or_ge b.toNat 1 with h' | h'
  · left; apply BitVec.eq_of_toNat_eq; show b.toNat = 0; omega
  · right; apply BitVec.eq_of_toNat_eq; show b.toNat = 1; omega

theorem slt_iff (n : ℕ) (v : BitVec 32) (hn : n < 160) (hv : v.toNat ≤ 160) : Scalar.cmpi .slt (BitVec.ofNat 32 n) v = 1#1 ↔ n < v.toNat := by
  have h1 : (BitVec.ofNat 32 n).toInt = n := by
    rw [BitVec.toInt_eq_toNat_of_lt] <;> rw [BitVec.toNat_ofNat, Nat.mod_eq_of_lt (by omega)]; omega
  have h2 : v.toInt = v.toNat := BitVec.toInt_eq_toNat_of_lt (by omega)
  show BitVec.ofBool ((BitVec.ofNat 32 n).slt v) = 1#1 ↔ _
  rw [BitVec.slt, h1, h2]
  by_cases h : n < v.toNat
  · simp [h]
  · simp [h]

theorem eq_iff (a b : BitVec 32) : Scalar.cmpi .eq a b = 1#1 ↔ a = b := by
  show BitVec.ofBool (a == b) = 1#1 ↔ _
  by_cases h : a = b
  · simp [h]
  · rw [beq_eq_false_iff_ne.mpr h]
    exact ⟨fun h' => absurd h' (by decide), fun h' => absurd h' h⟩

theorem cond1_iff (i : grid0.Coords) : k0_cond1 i = 1#1 ↔ (i 0).val = 0 := by
  have e : k0_cond1 i = Scalar.cmpi .eq (BitVec.ofNat 32 (i 0).val) 0#32 := by
    unfold k0_cond1
    rcases bit_cases (Scalar.cmpi .eq (BitVec.ofNat 32 (i 0).val) 0#32) with h | h <;> simp only [h] <;> decide
  rw [e, eq_iff]
  have := bound i
  constructor
  · intro h
    have h' := congrArg BitVec.toNat h
    rw [BitVec.toNat_ofNat, Nat.mod_eq_of_lt (by omega)] at h'
    exact h'
  · intro h; rw [h]

theorem cond2_iff (i : grid0.Coords) (v0 v6 : BitVec 32) (hv : v0.toNat ≤ 160) : k0_cond2 i v0 v6 = 1#1 ↔ (i 0).val < v0.toNat ∧ v6 = 1#32 := by
  rw [← slt_iff _ _ (bound i) hv, ← eq_iff v6]
  unfold k0_cond2
  rcases bit_cases (Scalar.cmpi .slt (BitVec.ofNat 32 (i 0).val) v0) with h | h <;> rcases bit_cases (Scalar.cmpi .eq v6 1#32) with h' | h' <;>
    simp only [h, h'] <;> decide

theorem cond4_iff (i : grid0.Coords) (v0 v6 : BitVec 32) (hv : v0.toNat ≤ 160) : k0_cond4 i v0 v6 = 1#1 ↔ (i 0).val < v0.toNat ∧ v6 ≠ 1#32 := by
  rw [← slt_iff _ _ (bound i) hv, ne_eq, ← eq_iff v6]
  unfold k0_cond4
  rcases bit_cases (Scalar.cmpi .slt (BitVec.ofNat 32 (i 0).val) v0) with h | h <;> rcases bit_cases (Scalar.cmpi .eq v6 1#32) with h' | h' <;>
    simp only [h, h'] <;> decide

theorem cond5_iff (i : grid0.Coords) (v0 : BitVec 32) (hv : v0.toNat ≤ 160) : k0_cond5 i v0 = 1#1 ↔ ¬ (i 0).val < v0.toNat := by
  rw [← slt_iff _ _ (bound i) hv]
  unfold k0_cond5
  rcases bit_cases (Scalar.cmpi .slt (BitVec.ofNat 32 (i 0).val) v0) with h | h <;> simp only [h] <;> decide

/-- At every grid point the body stores the output's block, whatever the tables hold. -/
theorem live (i : grid0.Coords) (v0 v6 : BitVec 32) : (!(k0_cond2 i v0 v6 == 1#1) && !(k0_cond4 i v0 v6 == 1#1) && !(k0_cond5 i v0 == 1#1)) = false := by
  unfold k0_cond2 k0_cond4 k0_cond5
  rcases bit_cases (Scalar.cmpi .slt (BitVec.ofNat 32 (i 0).val) v0) with h | h <;> rcases bit_cases (Scalar.cmpi .eq v6 1#32) with h' | h' <;>
    simp only [h, h'] <;> decide

theorem cond3_iff (v : BitVec 32) : k0_cond3 v = 1#1 ↔ v.toNat < 2 ^ 31 := by
  have e : k0_cond3 v = Scalar.cmpi .sge v 0#32 := by
    unfold k0_cond3
    rcases bit_cases (Scalar.cmpi .sge v 0#32) with h | h <;> simp only [h] <;> decide
  rw [e]
  show BitVec.ofBool ((0#32).sle v) = 1#1 ↔ _
  rw [BitVec.sle]
  have h0 : (0#32).toInt = 0 := rfl
  rw [h0]
  have hb := v.isLt
  by_cases h : v.toNat < 2 ^ 31
  · have : v.toInt = v.toNat := BitVec.toInt_eq_toNat_of_lt (by omega)
    rw [this, decide_eq_true (Int.natCast_nonneg _)]
    exact ⟨fun _ => h, fun _ => rfl⟩
  · have : v.toInt < 0 := by rw [BitVec.toInt_eq_toNat_cond]; split <;> omega
    constructor
    · intro h'
      have hd : decide (0 ≤ v.toInt) = true := by
        cases hx : decide (0 ≤ v.toInt) with
        | true => rfl
        | false => rw [hx] at h'; exact absurd h' (by decide)
      exact absurd (of_decide_eq_true hd) (by omega)
    · intro h'; exact absurd h' h

theorem chk1 (i : grid0.Coords) (v : BitVec 32) (h : v.toNat < 32) : k0_chk1 i v :=
  ⟨fun _ => in1 h, fun _ => in2 h, fun _ => in3 h, fun _ => in4 h⟩
theorem chk2 (i : grid0.Coords) (v0 v6 v : BitVec 32) (h : v.toNat < 32) : k0_chk2 i v0 v6 v :=
  ⟨fun _ => in1 h, fun _ => in2 h, fun _ => in3 h, fun _ => in4 h⟩
theorem chk3 (i : grid0.Coords) (v0 v6 v v' : BitVec 32) (h : v.toNat < 2 ^ 31 → v'.toNat < 32) : k0_chk3 i v0 v6 v v' :=
  ⟨fun _ h3 => in1 (h ((cond3_iff v).mp h3)), fun _ h3 => in2 (h ((cond3_iff v).mp h3)), fun _ h3 => in3 (h ((cond3_iff v).mp h3)), fun _ h3 => in4 (h ((cond3_iff v).mp h3))⟩

/-! ## One step of the schedule -/

section Step
variable (c : Dev nD) (w1 : Buf (Elt F) (W1.view.loc (c : Thread nD τ))) (w3 : Buf (Elt F) (W3.view.loc (c : Thread nD τ))) (w2 : Buf (Elt F) (W2.view.loc (c : Thread nD τ)))

theorem mod32 (v : BitVec 32) : v.toNat % 32 < 32 := Nat.mod_lt _ (by decide)

/-- The three narrowed matrices of the expert a word names. -/
def mat1 (v : BitVec 32) : S2048x1024.Idx → Elt F .bf16 := cast1 c w1 (v.toNat % 32) (mod32 v)
def mat3 (v : BitVec 32) : S2048x1024.Idx → Elt F .bf16 := cast3 c w3 (v.toNat % 32) (mod32 v)
def mat2 (v : BitVec 32) : S1024x2048.Idx → Elt F .bf16 := cast2 c w2 (v.toNat % 32) (mod32 v)
/-- The copies of the expert a word names in flight. -/
def Coming (v : BitVec 32) : sProp 𝕄 := Pending c w1 w3 w2 (v.toNat % 32) (mod32 v)
/-- The narrowed matrices of the expert a word names held. -/
def Having (v : BitVec 32) : sProp 𝕄 := Holding c (mat1 c w1 v) (mat3 c w3 v) (mat2 c w2 v)

theorem pending_eq (e e' : ℕ) (h : e < 32) (h' : e' < 32) (ee : e = e') : Pending c w1 w3 w2 e h = Pending c w1 w3 w2 e' h' := by subst ee; rfl

variable (t1 t2 t3 : S160.Idx → BitVec 32) (t4 : S1.Idx → BitVec 32)

open Classical in
/-- Before point `n`: the copies in flight, if the point before started some. -/
def Flying (n : ℕ) : sProp 𝕄 :=
  if 0 < n ∧ n ≤ count t4 ∧ (t3 (pos (n - 1))).toNat < 2 ^ 31 then Coming c w1 w3 w2 (t3 (pos (n - 1))) else Idle c w1 w3 w2
open Classical in
/-- Before point `n`: the narrowed matrices, of the point before's expert if that point is in use. -/
def Held (n : ℕ) : sProp 𝕄 :=
  if 0 < n ∧ n ≤ count t4 then Having c w1 w3 w2 (t1 (pos (n - 1))) else iprop(∃ m1, ∃ m3, ∃ m2, Holding c m1 m3 m2)
open Classical in
/-- The output block of point `n` on the input block `x`. -/
def left (x : S2048x128.Idx → Elt F .i32) (n : ℕ) : S4096x128.Idx → Elt F .f32 :=
  if n < count t4 then block x (mat1 c w1 (t1 (pos n))) (mat3 c w3 (t1 (pos n))) (mat2 c w2 (t1 (pos n)))
  else fun _ => Scalar.ofBits (F := F) .f32 0x00000000#32

theorem held_any (n : ℕ) : Held c w1 w3 w2 t1 t4 n ⊢ iprop(∃ m1, ∃ m3, ∃ m2, Holding (F := F) c m1 m3 m2) := by
  unfold Held
  split
  · unfold Having
    iintro H
    iexists _; iexists _; iexists _; iexact H
  · exact .rfl

set_option maxHeartbeats 1000000 in
/-- The body at point `n` takes the schedule's holdings one step on, and leaves the point's block. -/
theorem step (hS : Sched t1 t2 t3 t4) (q : PosShare TreeShare) (i : grid0.Coords) (n : ℕ) (hn : (i 0).val = n)
    (arg5 : Memref sig .tc .vmem S2048x128 .i32) (harg5 : arg5.IsWhole) (arg9 : Memref sig .tc .vmem S4096x128 .f32) (harg9 : arg9.IsWhole)
    (x : S2048x128.Idx → Elt F .i32) (W : Waits sig Unit) (K : PUnit → sProp 𝕄) :
   iprop(Tables c q t1 t2 t3 t4 ∗ Flying c w1 w3 w2 t3 t4 n ∗ Held c w1 w3 w2 t1 t4 n ∗ owns (c : Thread nD τ) arg5 fullShare x ∗ (∃ d, owns (c : Thread nD τ) arg9 fullShare d) ∗ owes (c : Thread nD τ) 0 W
     ∗ (iprop(Tables c q t1 t2 t3 t4 ∗ Flying c w1 w3 w2 t3 t4 (n + 1) ∗ Held c w1 w3 w2 t1 t4 (n + 1) ∗ owns (c : Thread nD τ) arg5 fullShare x ∗ owns (c : Thread nD τ) arg9 fullShare (left c w1 w3 w2 t1 t4 x n) ∗ (∃ W', owes (c : Thread nD τ) 0 W')) -∗ K ⟨⟩))
   ⊢ wp frame (wpE (defs₀ (F := F)) Variants.none c none) Set.univ (cc0_experts i T1 (Memref.isWhole_whole _) T2 (Memref.isWhole_whole _) T3 (Memref.isWhole_whole _) T4 (Memref.isWhole_whole _) arg5 harg5
     W1 (Memref.isWhole_whole _) W3 (Memref.isWhole_whole _) W2 (Memref.isWhole_whole _) arg9 harg9 B1 (Memref.isWhole_whole _) B3 (Memref.isWhole_whole _) B2 (Memref.isWhole_whole _)
     C1 (Memref.isWhole_whole _) C3 (Memref.isWhole_whole _) C2 (Memref.isWhole_whole _) cc0_scratch6) K := by
  have hlo := hS.lo
  have hhi := hS.hi
  have hlast := hS.last
  have h160 : n < 160 := hn ▸ bound i
  have e4 : (word4 (F := F) c t4) = t4 only := word4_eq c t4
  have e4' : (word4 (F := F) c t4).toNat = count t4 := congrArg BitVec.toNat e4
  have e1 : word1 (F := F) c i t1 = t1 (pos n) := by rw [word1_eq, hn]
  have e2 : word2 (F := F) c i t2 = t2 (pos n) := by rw [word2_eq, hn]
  have e3 : word3 (F := F) c i t3 = t3 (pos n) := by rw [word3_eq, hn]
  have e3' : word3' (F := F) c i t3 = t3 (pos n) := by rw [word3'_eq, hn]
  have hc4 : (word4 (F := F) c t4).toNat ≤ 160 := by rw [e4']; exact hhi
  by_cases hu : n < count t4
  · have hex := hS.expert n hu
    have hnx := hS.next n hu
    have hk5 : ¬ k0_cond5 i (word4 (F := F) c t4) = 1#1 := by rw [cond5_iff i _ hc4, hn, e4']; exact not_not.mpr hu
    have eH : Held c w1 w3 w2 t1 t4 (n + 1) = Having c w1 w3 w2 (t1 (pos n)) := by
      unfold Held; rw [if_pos ⟨Nat.succ_pos _, hu⟩, Nat.add_sub_cancel]
    have eL : left c w1 w3 w2 t1 t4 x n = block x (mat1 c w1 (t1 (pos n))) (mat3 c w3 (t1 (pos n))) (mat2 c w2 (t1 (pos n))) := if_pos hu
    rw [eH, eL]
    by_cases hf : t2 (pos n) = 1#32
    · have hk2 : k0_cond2 i (word4 (F := F) c t4) (word2 (F := F) c i t2) = 1#1 := by rw [cond2_iff i _ _ hc4, hn, e4', e2]; exact ⟨hu, hf⟩
      have hk4 : ¬ k0_cond4 i (word4 (F := F) c t4) (word2 (F := F) c i t2) = 1#1 := by rw [cond4_iff i _ _ hc4, hn, e4', e2]; exact fun h => h.2 hf
      have hc2 : k0_chk2 i (word4 (F := F) c t4) (word2 (F := F) c i t2) (word1 (F := F) c i t1) := chk2 _ _ _ _ (by rw [e1]; exact hex)
      have hc3 : k0_chk3 i (word4 (F := F) c t4) (word2 (F := F) c i t2) (word3 (F := F) c i t3) (word3' (F := F) c i t3) := chk3 _ _ _ _ _ (by rw [e3, e3']; exact hnx)
      by_cases hm : (t3 (pos n)).toNat < 2 ^ 31
      · have hk3 : k0_cond3 (word3 (F := F) c i t3) = 1#1 := by rw [cond3_iff, e3]; exact hm
        have he' : (word3' (F := F) c i t3).toNat < 32 := by rw [e3']; exact hnx hm
        have eF : Flying c w1 w3 w2 t3 t4 (n + 1) = Pending c w1 w3 w2 (word3' (F := F) c i t3).toNat he' := by
          unfold Flying; rw [if_pos ⟨Nat.succ_pos _, hu, by rw [Nat.add_sub_cancel]; exact hm⟩, Nat.add_sub_cancel]
          exact pending_eq c w1 w3 w2 _ _ _ _ (by rw [e3']; exact Nat.mod_eq_of_lt (hnx hm))
        rw [eF]
        cases n with
        | zero =>
          have hk1 : k0_cond1 i = 1#1 := (cond1_iff i).mpr hn
          have e0 : word0 (F := F) c t1 = t1 (pos 0) := word0_eq c t1
          have eI : Flying c w1 w3 w2 t3 t4 0 = Idle c w1 w3 w2 := if_neg fun h => absurd h.1 (Nat.lt_irrefl _)
          rw [eI]
          refine (sep_mono .rfl (sep_mono .rfl (sep_mono (held_any c w1 w3 w2 t1 t4 0) .rfl))).trans ?_
          exact run_first_next c i q arg5 harg5 arg9 harg9 t1 t2 t3 t4 w1 w3 w2 ((t1 (pos 0)).toNat % 32) (mod32 _)
            (by rw [e0]; exact (Nat.mod_eq_of_lt hex).symm) x hk1 (chk1 _ _ (by rw [e0]; exact hex)) hc2 hc3 he' hk2 hk3 hk4 hk5 W K
        | succ k =>
          have hk1 : ¬ k0_cond1 i = 1#1 := by rw [cond1_iff, hn]; exact Nat.succ_ne_zero _
          have et := hS.turn k hu hf
          have eI : Flying c w1 w3 w2 t3 t4 (k + 1) = Coming c w1 w3 w2 (t1 (pos (k + 1))) := by
            unfold Flying; rw [if_pos ⟨Nat.succ_pos _, Nat.le_of_lt hu, by rw [Nat.add_sub_cancel, ← et]; omega⟩, Nat.add_sub_cancel, et]
          rw [eI]
          refine (sep_mono .rfl (sep_mono .rfl (sep_mono (held_any c w1 w3 w2 t1 t4 (k + 1)) .rfl))).trans ?_
          exact run_turn_next c i q arg5 harg5 arg9 harg9 t1 t2 t3 t4 w1 w3 w2 ((t1 (pos (k + 1))).toNat % 32) (mod32 _)
            x hk1 hc2 hc3 he' hk2 hk3 hk4 hk5 W K
      · have hk3 : ¬ k0_cond3 (word3 (F := F) c i t3) = 1#1 := by rw [cond3_iff, e3]; exact hm
        have eF : Flying c w1 w3 w2 t3 t4 (n + 1) = Idle c w1 w3 w2 := by
          unfold Flying; rw [if_neg fun h => hm (by have := h.2.2; rw [Nat.add_sub_cancel] at this; exact this)]
        rw [eF]
        cases n with
        | zero =>
          have hk1 : k0_cond1 i = 1#1 := (cond1_iff i).mpr hn
          have e0 : word0 (F := F) c t1 = t1 (pos 0) := word0_eq c t1
          have eI : Flying c w1 w3 w2 t3 t4 0 = Idle c w1 w3 w2 := if_neg fun h => absurd h.1 (Nat.lt_irrefl _)
          rw [eI]
          refine (sep_mono .rfl (sep_mono .rfl (sep_mono (held_any c w1 w3 w2 t1 t4 0) .rfl))).trans ?_
          exact run_first_last c i q arg5 harg5 arg9 harg9 t1 t2 t3 t4 w1 w3 w2 ((t1 (pos 0)).toNat % 32) (mod32 _)
            (by rw [e0]; exact (Nat.mod_eq_of_lt hex).symm) x hk1 (chk1 _ _ (by rw [e0]; exact hex)) hc2 hk2 hk3 hk4 hk5 W K
        | succ k =>
          have hk1 : ¬ k0_cond1 i = 1#1 := by rw [cond1_iff, hn]; exact Nat.succ_ne_zero _
          have et := hS.turn k hu hf
          have eI : Flying c w1 w3 w2 t3 t4 (k + 1) = Coming c w1 w3 w2 (t1 (pos (k + 1))) := by
            unfold Flying; rw [if_pos ⟨Nat.succ_pos _, Nat.le_of_lt hu, by rw [Nat.add_sub_cancel, ← et]; omega⟩, Nat.add_sub_cancel, et]
          rw [eI]
          refine (sep_mono .rfl (sep_mono .rfl (sep_mono (held_any c w1 w3 w2 t1 t4 (k + 1)) .rfl))).trans ?_
          exact run_turn_last c i q arg5 harg5 arg9 harg9 t1 t2 t3 t4 w1 w3 w2 ((t1 (pos (k + 1))).toNat % 32) (mod32 _)
            x hk1 hc2 hk2 hk3 hk4 hk5 W K
    · cases n with
      | zero => exact absurd hS.first hf
      | succ k =>
        have hk1 : ¬ k0_cond1 i = 1#1 := by rw [cond1_iff, hn]; exact Nat.succ_ne_zero _
        have hk2 : ¬ k0_cond2 i (word4 (F := F) c t4) (word2 (F := F) c i t2) = 1#1 := by rw [cond2_iff i _ _ hc4, hn, e4', e2]; exact fun h => hf h.2
        have hk4 : k0_cond4 i (word4 (F := F) c t4) (word2 (F := F) c i t2) = 1#1 := by rw [cond4_iff i _ _ hc4, hn, e4', e2]; exact ⟨hu, hf⟩
        obtain ⟨ek, ek3⟩ := hS.keep k hu hf
        have eH' : Held c w1 w3 w2 t1 t4 (k + 1) = Having c w1 w3 w2 (t1 (pos (k + 1))) := by
          unfold Held; rw [if_pos ⟨Nat.succ_pos _, Nat.le_of_lt hu⟩, Nat.add_sub_cancel, ek]
        have eF : Flying c w1 w3 w2 t3 t4 (k + 1 + 1) = Flying c w1 w3 w2 t3 t4 (k + 1) := by
          unfold Flying; rw [Nat.add_sub_cancel, Nat.add_sub_cancel, ek3]
          by_cases hm : (t3 (pos k)).toNat < 2 ^ 31
          · rw [if_pos ⟨Nat.succ_pos _, hu, hm⟩, if_pos ⟨Nat.succ_pos _, Nat.le_of_lt hu, hm⟩]
          · rw [if_neg fun h => hm h.2.2, if_neg fun h => hm h.2.2]
        rw [eH', eF]
        unfold Having
        iintro ⟨HT, HF, HH, HX, HY, HO, Hk⟩
        iapply (run_kept c i q arg5 harg5 arg9 harg9 t1 t2 t3 t4 _ _ _ x hk1 hk2 hk4 hk5 W K)
        isplitl [HT]; · iexact HT
        isplitl [HH]; · iexact HH
        isplitl [HX]; · iexact HX
        isplitl [HY]; · iexact HY
        isplitl [HO]; · iexact HO
        iintro ⟨HT, HH, HX, HY, HO⟩
        iapply Hk
        isplitl [HT]; · iexact HT
        isplitl [HF]; · iexact HF
        isplitl [HH]; · iexact HH
        isplitl [HX]; · iexact HX
        isplitl [HY]; · iexact HY
        iexact HO
  · have hk1 : ¬ k0_cond1 i = 1#1 := by rw [cond1_iff, hn]; omega
    have hk2 : ¬ k0_cond2 i (word4 (F := F) c t4) (word2 (F := F) c i t2) = 1#1 := by rw [cond2_iff i _ _ hc4, hn, e4']; exact fun h => hu h.1
    have hk4 : ¬ k0_cond4 i (word4 (F := F) c t4) (word2 (F := F) c i t2) = 1#1 := by rw [cond4_iff i _ _ hc4, hn, e4']; exact fun h => hu h.1
    have hk5 : k0_cond5 i (word4 (F := F) c t4) = 1#1 := by rw [cond5_iff i _ hc4, hn, e4']; exact hu
    have eH : Held c w1 w3 w2 t1 t4 (n + 1) = iprop(∃ m1, ∃ m3, ∃ m2, Holding (F := F) c m1 m3 m2) := if_neg fun h => by omega
    have eL : left c w1 w3 w2 t1 t4 x n = fun _ => Scalar.ofBits (F := F) .f32 0x00000000#32 := if_neg hu
    have eF' : Flying c w1 w3 w2 t3 t4 (n + 1) = Idle c w1 w3 w2 := if_neg fun h => by omega
    have eF : Flying c w1 w3 w2 t3 t4 n = Idle c w1 w3 w2 := if_neg fun h => by
      have hnn : n = count t4 := by omega
      rw [hnn] at h; omega
    rw [eH, eL, eF, eF']
    refine (sep_mono .rfl (sep_mono .rfl (sep_mono (held_any c w1 w3 w2 t1 t4 n) .rfl))).trans ?_
    iintro ⟨HT, HF, HH, HX, HY, HO, Hk⟩
    iapply (run_unused c i q arg5 harg5 arg9 harg9 t1 t2 t3 t4 x hk1 hk2 hk4 hk5 W K)
    isplitl [HT]; · iexact HT
    isplitl []; · iempintro
    isplitl [HX]; · iexact HX
    isplitl [HY]; · iexact HY
    isplitl [HO]; · iexact HO
    iintro ⟨HT, -, HX, HY, HO⟩
    iapply Hk
    isplitl [HT]; · iexact HT
    isplitl [HF]; · iexact HF
    isplitl [HH]; · iexact HH
    isplitl [HX]; · iexact HX
    isplitl [HY]; · iexact HY
    iexact HO

end Step

end Cert.Kernel4Ideal.Run

end
-- ==== Proof.ExpertOut.lean ====
module

public import proofs.«01_k».proof.Proof.ExpertStep
public import Idealize.ShloMosaic.Lib.Pipeline.FrameBody
public import Idealize.ShloMosaic.Lib.Claim
public import Idealize.ShloMosaic.Lib.VecWindow
public import Idealize.ShloMosaic.Lib.Tactic

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (Pipeline.UD sig nD τ) ℕ

/-! ## A share dealt -/

/-- What is left of a buffer's ownership when two of ten equal shares are taken out. -/
def Spare (ℓ : Loc nD τ sig) (f : Buf (Elt F) ℓ) (i j : ℕ) : sProp 𝕄 :=
  iprop((ℓ ↦{Transfers.shareDrop fullShare 10} f) ∗ bigSep (((Finset.range 10).erase i).erase j) (fun k => ℓ ↦{Transfers.shareTokN fullShare k} f))

theorem deal (ℓ : Loc nD τ sig) (f : Buf (Elt F) ℓ) (i j : ℕ) (hi : i < 10) (hj : j < 10) (hij : j ≠ i) :
    (ℓ ↦{fullShare} f : sProp 𝕄) ⊣⊢ iprop(((ℓ ↦{Transfers.shareTokN fullShare i} f) ∗ (ℓ ↦{Transfers.shareTokN fullShare j} f)) ∗ Spare ℓ f i j) := by
  have hs : (bigSep (Finset.range 10) (fun k => ℓ ↦{Transfers.shareTokN fullShare k} f) : sProp 𝕄)
      = iprop((ℓ ↦{Transfers.shareTokN fullShare i} f) ∗ (ℓ ↦{Transfers.shareTokN fullShare j} f)
          ∗ bigSep (((Finset.range 10).erase i).erase j) (fun k => ℓ ↦{Transfers.shareTokN fullShare k} f)) := by
    conv_lhs => rw [← Finset.insert_erase (Finset.mem_range.mpr hi), BI.bigSep_insert (Finset.notMem_erase _ _),
      ← Finset.insert_erase (Finset.mem_erase.mpr ⟨hij, Finset.mem_range.mpr hj⟩), BI.bigSep_insert (Finset.notMem_erase _ _)]
    rfl
  refine ⟨(Transfers.pointsTo_toks_range fullShare 10).1.trans ?_, BIBase.Entails.trans ?_ (Transfers.pointsTo_toks_range fullShare 10).2⟩
  · rw [hs]; unfold Spare
    iintro ⟨Hd, Hi, Hj, Hr⟩
    isplitl [Hi Hj]
    · isplitl [Hi]; · iexact Hi
      iexact Hj
    isplitl [Hd]; · iexact Hd
    iexact Hr
  · rw [hs]; unfold Spare
    iintro ⟨⟨Hi, Hj⟩, Hd, Hr⟩
    isplitl [Hd]; · iexact Hd
    isplitl [Hi]; · iexact Hi
    isplitl [Hj]; · iexact Hj
    iexact Hr

/-! ## The launch -/

variable (m : (ℓ : Loc nD τ sig) → Buf (Elt F) ℓ) (ρ : Dev nD → PrngReg)

/-- The buffers as the launch finds them. -/
abbrev V (c : Dev nD) (b : Ref sig .tc) : Buf (Elt F) ((c : Thread nD τ).loc b) := m ((c : Thread nD τ).loc b)

/-- The kernel's own copies' cells. -/
abbrev osem0 : Fin 6 → SemLoc sig := fun j => (![SemLoc.dma 4, SemLoc.dma 5, SemLoc.dma 6, SemLoc.dma 7, SemLoc.dma 8, SemLoc.dma 9] : Fin 6 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0
          ∗ semVal ((c : Thread nD τ), SemLoc.dma 7) 0 ∗ semVal ((c : Thread nD τ), SemLoc.dma 8) 0 ∗ semVal ((c : Thread nD τ), SemLoc.dma 9) 0) := by
  rw [Pipeline.ownSems0_eq_of_list c osem0 [0, 1, 2, 3, 4, 5] (by decide) (by decide)]; rfl
/-- The arrays the kernel's own copies read. -/
def H0 : Finset (Ref sig .tc) := {main_arg5, main_arg6, main_arg7}
theorem H0_sub : H0 ⊆ Pipeline.restRefsP sig pre0 spec0 := by decide
theorem hbmPts0_eq (c : Dev nD) :
    (bigSep H0 (fun b => ((c : Thread nD τ).loc b) ↦{fullShare} V m c b) : sProp 𝕄)
      = iprop(At c W1 fullShare (V m c main_arg5) ∗ At c W3 fullShare (V m c main_arg6) ∗ At c W2 fullShare (V m c main_arg7)) := by
  rw [BI.bigSep_eq_bigSepL_of_eq [main_arg5, main_arg6, main_arg7] (by decide) (by decide)]; rfl

theorem tables_eq (c : Dev nD) (pf : pre0.Contents (Elt F)) :
    (Pipeline.ΦT pre0 pf c : sProp 𝕄) = Tables c fullShare.right (pf 0) (pf 1) (pf 2) (pf 3) := by
  unfold Pipeline.ΦT Pipeline.prefHeld
  rw [bigSep_univ_eq_bigSepL [(0 : Fin 4), (1 : Fin 4), (2 : Fin 4), (3 : Fin 4)] (by decide) (by decide)]; rfl

/-- Of the three weights' arrays what the copies do not take. -/
def Spares (c : Dev nD) : sProp 𝕄 :=
  iprop(Spare (W1.view.loc (c : Thread nD τ)) (V m c main_arg5) 4 5 ∗ Spare (W3.view.loc (c : Thread nD τ)) (V m c main_arg6) 6 7
    ∗ Spare (W2.view.loc (c : Thread nD τ)) (V m c main_arg7) 8 9)

/-- The input block of a point, at admissible tables. -/
def xblk (a : (pcfg0 (F := F)).Adm) (c : Dev nD) (t : Fin (cfg0 a).N) : S2048x128.Idx → Elt F .i32 :=
  (((cfg0 a).win 0).blk t).view.read (Elt F) (V m c main_arg4)

/-- What a core holds before point `n`. -/
def Phi (c : Dev nD) (n : ℕ) : sProp 𝕄 :=
  iprop(Tables c fullShare.right (V m c main_arg0) (V m c main_arg1) (V m c main_arg2) (V m c main_arg3)
    ∗ Flying c (V m c main_arg5) (V m c main_arg6) (V m c main_arg7) (V m c main_arg2) (V m c main_arg3) n
    ∗ Held c (V m c main_arg5) (V m c main_arg6) (V m c main_arg7) (V m c main_arg0) (V m c main_arg3) n
    ∗ (∃ r, prngReg c r) ∗ Spares m c)

/-- The proof's data: the input left at its block, the output at what the schedule leaves, full shares, nothing owed. -/
def dats (a : (pcfg0 (F := F)).Adm) (_ : Fin 1) (c : Dev nD) : Dat τ (Elt F) Unit ℕ (Pipeline.UD sig nD τ) ℕ (cfg0 a) c where
  A w := V m c (Pipeline.arrRef spec0 w)
  after w t := match w with
    | ⟨0, _⟩ => xblk m a c t
    | ⟨1, _⟩ => left c (V m c main_arg5) (V m c main_arg6) (V m c main_arg7) (V m c main_arg0) (V m c main_arg3) (xblk m a c t) t.val
  Φ t := Phi m c t.val
  q _ := fullShare
  owed _ := 0

variable (a : (pcfg0 (F := F)).Adm)

theorem A_eq (c : Dev nD) (w : Fin (cfg0 a).W) : (dats m a 0 c).A w = V m c (Pipeline.arrRef spec0 w) := by
  dsimp only [dats]
theorem after_0 (c : Dev nD) (t : Fin (cfg0 a).N) : (dats m a 0 c).after 0 t = xblk m a c t := rfl
theorem after_1 (c : Dev nD) (t : Fin (cfg0 a).N) : (dats m a 0 c).after 1 t
    = left c (V m c main_arg5) (V m c main_arg6) (V m c main_arg7) (V m c main_arg0) (V m c main_arg3) (xblk m a c t) t.val := rfl
theorem before_0 (c : Dev nD) (t : Fin (cfg0 a).N) (d) : (dats m a 0 c).before 0 t d = xblk m a c t :=
  ((dats m a 0 c).before_in_eq_fetched 0 rfl (fun _ => rfl) (fun _ _ _ => rfl)
      (fun t => by rw [after_0]; unfold Dat.blockOf xblk; rw [A_eq]; try rfl) t d).trans
    (by unfold Dat.fetched Dat.blockOf xblk; rw [A_eq]; try rfl)

theorem live_1 (t : Fin (cfg0 a).N) : (cfg0 a).idle 1 ((cfg0 a).grid.coords t) = false := live _ _ _
theorem leaves_1 (c : Dev nD) (t : Fin (cfg0 a).N) : (dats m a 0 c).leavesExact 1 t
    = owns (c : Thread nD τ) (((cfg0 a).win 1).stage ((cfg0 a).slots t 1)) fullShare ((dats m a 0 c).after 1 t) := by
  unfold Dat.leavesExact
  rw [live_1]

theorem coords_val (t : Fin grid0.N) : ((grid0.coords t) 0).val = t.val := by
  revert t; decide

/-- Before the first point the launch's holdings are the schedule's. -/
theorem enter (c : Dev nD) (ha : ∀ k, V m c (pre0.ref k) = a.1 k) :
    iprop(Pipeline.ΦD osem0 spec0 H0 (V m) c ∗ Pipeline.ΦT pre0 a.1 c) ⊢ (Phi m c 0 : sProp 𝕄) := by
  have e0 : Flying c (V m c main_arg5) (V m c main_arg6) (V m c main_arg7) (V m c main_arg2) (V m c main_arg3) 0 = Idle c (V m c main_arg5) (V m c main_arg6) (V m c main_arg7) :=
    if_neg fun h => absurd h.1 (Nat.lt_irrefl _)
  have e1 : Held c (V m c main_arg5) (V m c main_arg6) (V m c main_arg7) (V m c main_arg0) (V m c main_arg3) 0 = iprop(∃ m1, ∃ m3, ∃ m2, Holding (F := F) c m1 m3 m2) :=
    if_neg fun h => absurd h.1 (Nat.lt_irrefl _)
  have et : (fun k => V m c (pre0.ref k)) = a.1 := funext ha
  rw [← et, Pipeline.ΦD_eq, scopedRest0_eq, ownSems00_eq, hbmPts0_eq, tables_eq]
  unfold Phi Spares
  rw [e0, e1]
  unfold Idle Holding
  simp only [owns_whole]
  iintro ⟨⟨⟨H1, H3, H2, ⟨%f1, C1⟩, ⟨%f3, C3⟩, ⟨%f2, C2⟩⟩, Hp, ⟨S4, S5, S6, S7, S8, S9⟩, ⟨G1, G3, G2⟩⟩, HT⟩
  ihave G1 := (deal _ _ 4 5 (by decide) (by decide) (by decide)).1 $$ G1
  ihave G3 := (deal _ _ 6 7 (by decide) (by decide) (by decide)).1 $$ G3
  ihave G2 := (deal _ _ 8 9 (by decide) (by decide) (by decide)).1 $$ G2
  icases G1 with ⟨G1, R1⟩
  icases G3 with ⟨G3, R3⟩
  icases G2 with ⟨G2, R2⟩
  isplitl [HT]; · iexact HT
  isplitl [H1 H3 H2 G1 G3 G2 S4 S5 S6 S7 S8 S9]
  · isplitl [H1]; · iexact H1
    isplitl [H3]; · iexact H3
    isplitl [H2]; · iexact H2
    isplitl [G1]; · iexact G1
    isplitl [G3]; · iexact G3
    isplitl [G2]; · iexact G2
    isplitl [S4]; · iexact S4
    isplitl [S5]; · iexact S5
    isplitl [S6]; · iexact S6
    isplitl [S7]; · iexact S7
    isplitl [S8]; · iexact S8
    iexact S9
  isplitl [C1 C3 C2]
  · iexists f1; iexists f3; iexists f2
    isplitl [C1]; · iexact C1
    isplitl [C3]; · iexact C3
    iexact C2
  isplitl [Hp]; · iexact Hp
  isplitl [R1]; · iexact R1
  isplitl [R3]; · iexact R3
  iexact R2

/-- After the last point they are the launch's again. -/
theorem leave (c : Dev nD) (hS : Sched (V m c main_arg0) (V m c main_arg1) (V m c main_arg2) (V m c main_arg3)) :
    (Phi m c 160 : sProp 𝕄) ⊢ Pipeline.ΦD osem0 spec0 H0 (V m) c := by
  have hlo := hS.lo
  have hhi := hS.hi
  have hlast := hS.last
  have e0 : Flying c (V m c main_arg5) (V m c main_arg6) (V m c main_arg7) (V m c main_arg2) (V m c main_arg3) 160 = Idle c (V m c main_arg5) (V m c main_arg6) (V m c main_arg7) :=
    if_neg fun h => by
      have hnn : count (V m c main_arg3) = 160 := by omega
      rw [hnn] at hlast; omega
  rw [Pipeline.ΦD_eq, scopedRest0_eq, ownSems00_eq, hbmPts0_eq]
  unfold Phi Spares
  rw [e0]
  refine (sep_mono .rfl (sep_mono .rfl (sep_mono (held_any c _ _ _ _ _ 160) .rfl))).trans ?_
  unfold Idle Holding
  simp only [owns_whole]
  iintro ⟨-, ⟨H1, H3, H2, G1, G3, G2, S4, S5, S6, S7, S8, S9⟩, ⟨%f1, %f3, %f2, C1, C3, C2⟩, Hp, R1, R3, R2⟩
  isplitl [H1 H3 H2 C1 C3 C2]
  · isplitl [H1]; · iexact H1
    isplitl [H3]; · iexact H3
    isplitl [H2]; · iexact H2
    isplitl [C1]; · iexists f1; iexact C1
    isplitl [C3]; · iexists f3; iexact C3
    iexists f2; iexact C2
  isplitl [Hp]; · iexact Hp
  isplitl [S4 S5 S6 S7 S8 S9]
  · isplitl [S4]; · iexact S4
    isplitl [S5]; · iexact S5
    isplitl [S6]; · iexact S6
    isplitl [S7]; · iexact S7
    isplitl [S8]; · iexact S8
    iexact S9
  isplitl [G1 R1]
  · iapply (deal _ _ 4 5 (by decide) (by decide) (by decide)).2
    isplitl [G1]; · iexact G1
    iexact R1
  isplitl [G3 R3]
  · iapply (deal _ _ 6 7 (by decide) (by decide) (by decide)).2
    isplitl [G3]; · iexact G3
    iexact R3
  iapply (deal _ _ 8 9 (by decide) (by decide) (by decide)).2
  isplitl [G2]; · iexact G2
  iexact R2

/-- The body's program at a point. -/
abbrev bodyAt (t : Fin (cfg0 a).N) : Prog (TpuEff nD τ sig (Elt F) Λ₀ .tc) PUnit :=
  cc0_experts (grid0.coords t) T1 (Memref.isWhole_whole _) T2 (Memref.isWhole_whole _) T3 (Memref.isWhole_whole _) T4 (Memref.isWhole_whole _)
    (spec0_0.stage ((cfg0 a).slots t 0)) (hstage0_0 (((cfg0 a).slots t 0).cast nbuf0_0)) W1 (Memref.isWhole_whole _) W3 (Memref.isWhole_whole _) W2 (Memref.isWhole_whole _)
    (spec0_1.stage ((cfg0 a).slots t 1)) (hstage0_1 (((cfg0 a).slots t 1).cast nbuf0_1)) B1 (Memref.isWhole_whole _) B3 (Memref.isWhole_whole _) B2 (Memref.isWhole_whole _)
    C1 (Memref.isWhole_whole _) C3 (Memref.isWhole_whole _) C2 (Memref.isWhole_whole _) cc0_scratch6

theorem table_row (t : Fin (cfg0 a).N) : defs₀ (F := F) .tc (cfg0 a).body ((cfg0 a).bodyArgs t ((cfg0 a).slots t)) = bodyAt a t := rfl

set_option maxHeartbeats 1000000 in
/-- The body at a point takes what the pipeline hands it to what the proof's data name. -/
theorem body_at (c : Dev nD) (hS : Sched (V m c main_arg0) (V m c main_arg1) (V m c main_arg2) (V m c main_arg3)) (t : Fin (cfg0 a).N) :
    iprop((dats m a 0 c).Φ t.castSucc ∗ (dats m a 0 c).owesAt () t.castSucc
      ∗ (∃ d, owns (c : Thread nD τ) (spec0_0.stage ((cfg0 a).slots t 0)) fullShare ((dats m a 0 c).before 0 t d))
      ∗ (∃ d, owns (c : Thread nD τ) (spec0_1.stage ((cfg0 a).slots t 1)) fullShare ((dats m a 0 c).before 1 t d)))
    ⊢ wp frame (wpE (defs₀ (F := F)) Variants.none c none) Set.univ (bodyAt a t) (fun _ =>
      iprop((dats m a 0 c).Φ t.succ ∗ (dats m a 0 c).owesAt () t.succ
        ∗ owns (c : Thread nD τ) (spec0_0.stage ((cfg0 a).slots t 0)) fullShare ((dats m a 0 c).after 0 t)
        ∗ owns (c : Thread nD τ) (spec0_1.stage ((cfg0 a).slots t 1)) fullShare ((dats m a 0 c).after 1 t))) := by
  simp only [before_0]
  rw [show (dats m a 0 c).Φ t.castSucc = Phi m c t.val from rfl, show (dats m a 0 c).Φ t.succ = Phi m c (t.val + 1) from rfl, after_0, after_1]
  unfold Phi Dat.owesAt Pipeline.owesWithin
  iintro ⟨⟨HT, HF, HH, Hp, HS⟩, ⟨%W, %hW, HO⟩, ⟨%d0, HX⟩, ⟨%d1, HY⟩⟩
  iapply (step c (V m c main_arg5) (V m c main_arg6) (V m c main_arg7) (V m c main_arg0) (V m c main_arg1) (V m c main_arg2) (V m c main_arg3) hS fullShare.right (grid0.coords t) t.val (coords_val t)
    _ _ _ _ (xblk m a c t) W _)
  isplitl [HT]; · iexact HT
  isplitl [HF]; · iexact HF
  isplitl [HH]; · iexact HH
  isplitl [HX]; · iexact HX
  isplitl [HY]; · iexists _; iexact HY
  isplitl [HO]; · iexact HO
  iintro ⟨HT, HF, HH, HX, HY, ⟨%W', HO⟩⟩
  isplitl [HT HF HH Hp HS]
  · isplitl [HT]; · iexact HT
    isplitl [HF]; · iexact HF
    isplitl [HH]; · iexact HH
    isplitl [Hp]; · iexact Hp
    iexact HS
  isplitl [HO]
  · iexists W'
    isplitl []
    · ipureintro; exact fun x _ => Or.inl trivial
    iexact HO
  isplitl [HX]; · iexact HX
  iexact HY

theorem obligation (c : Dev nD) (hS : Sched (V m c main_arg0) (V m c main_arg1) (V m c main_arg2) (V m c main_arg3)) :
    BodyObligation (dats (F := F) m a 0 c) (defs₀ (F := F)) Variants.none () Set.univ := fun t => by
  rw [bigSep_W0, bigSep_W0, table_row]
  refine triple_restated (body_at m a c hS t) rfl .rfl fun _ => ?_
  refine sep_mono .rfl (sep_mono .rfl (sep_mono .rfl ?_))
  exact Entails.of_eq (leaves_1 m a c t).symm

/-! ## The run -/

theorem hmain (𝒱₀ : Variants) : Pipeline.HMainP (Ix := Unit) (Name := ℕ) (U := Pipeline.UD sig nD τ) (Lvl := ℕ) (pcfgs (F := F)) 0 defs₀ 𝒱₀ m (main (F := F)) (V m) :=
  Pipeline.hmainP_region (pcfgs (F := F)) 0 defs₀ 𝒱₀ m main fun c => (main_chain c).trans rfl

-- the launch theorem's implicit arguments are found by unfolding plain definitions in a metavariable's type
set_option backward.isDefEq.respectTransparency.types false in
set_option maxHeartbeats 800000 in
/-- Every fair execution from a memory with zero counters whose tables are a schedule's ends, the arrays as the proof's data
    name them, every other buffer as found, every counter at zero. -/
theorem runs (ha : ∀ c k, V m c (pre0.ref k) = a.1 k)
    (hS : ∀ c, Sched (V m c main_arg0) (V m c main_arg1) (V m c main_arg2) (V m c main_arg3)) :
    θ_run defs (onTc (τ := τ) (main (F := F))) (s₀ m ρ)
      (fun r => Pipeline.FramePost (Pipeline.pin (pcfgs (F := F)) fun _ => a) (dats m a) 0 (V m) r ∧ r.2.sem = fun _ => 0) :=
  Pipeline.θ_run_frameP_dma (Q' := _) (pcfgs (F := F)) (fun _ => a) (dats m a) (0 : Fin 1) launch0 osem0 defs₀ Variants.none ownSemFacts0 H0 H0_sub m ρ main
    (hbody := fun c => (obligation m a c (hS c)).loose) (hshare := fun c => (dats m a 0 c).share_full fun _ => rfl)
    (howed := fun _ _ => rfl) (V := V m) (hmain := hmain m Variants.none) (hA := A_eq m a) (hpf := ha)
    (hin := fun c => enter m a c (ha c)) (hout := fun c => leave m c (hS c))

/-- After the run the arguments hold what they held at launch. -/
theorem arguments_kept {r : PUnit × MemSt nD τ sig (Elt F)} (h : Pipeline.FramePost (Pipeline.pin (pcfgs (F := F)) fun _ => a) (dats m a) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h c).2 main_arg0 (show main_arg0 ∈ Pipeline.restRefs sig spec0 from Pipeline.mem_restRefs_of main_arg0 (by decide) (by decide)),
    (h c).2 main_arg1 (show main_arg1 ∈ Pipeline.restRefs sig spec0 from Pipeline.mem_restRefs_of main_arg1 (by decide) (by decide)),
    (h c).2 main_arg2 (show main_arg2 ∈ Pipeline.restRefs sig spec0 from Pipeline.mem_restRefs_of main_arg2 (by decide) (by decide)),
    (h c).2 main_arg3 (show main_arg3 ∈ Pipeline.restRefs sig spec0 from Pipeline.mem_restRefs_of main_arg3 (by decide) (by decide)),
    ((h c).1 0).trans ((dats m a 0 c).arrAt_in 0 rfl _),
    (h c).2 main_arg5 (show main_arg5 ∈ Pipeline.restRefs sig spec0 from Pipeline.mem_restRefs_of main_arg5 (by decide) (by decide)),
    (h c).2 main_arg6 (show main_arg6 ∈ Pipeline.restRefs sig spec0 from Pipeline.mem_restRefs_of main_arg6 (by decide) (by decide)),
    (h c).2 main_arg7 (show main_arg7 ∈ Pipeline.restRefs sig spec0 from Pipeline.mem_restRefs_of main_arg7 (by decide) (by decide))⟩

/-! ## The tables are admissible -/

/-- The tables the launch memory holds. -/
def tabs : pre0.Contents (Elt F) := fun k => m (((0 : Dev nD) : Thread nD τ).loc (pre0.ref k))

theorem dev0 (c : Dev nD) : c = 0 := Subsingleton.elim _ _

theorem tabs_at (c : Dev nD) (k : Fin pre0.K) : V m c (pre0.ref k) = tabs m k := by
  rw [dev0 c]; rfl

/-- The row of input blocks a point reads: its own, and past the tiles in use the last of theirs. -/
theorem row_eq (n : ℕ) (hn : n < 160) (v : BitVec 32) (h1 : 1 ≤ v.toNat) (h2 : v.toNat ≤ 160) :
    (Scalar.minsi (BitVec.ofNat 32 n) (Scalar.subi v 1#32)).toNat = min n (v.toNat - 1) := by
  have e1 : (BitVec.ofNat 32 n).toNat = n := by rw [BitVec.toNat_ofNat]; exact Nat.mod_eq_of_lt (by omega)
  have e2 : (v - 1#32).toNat = v.toNat - 1 := by
    rw [BitVec.toNat_sub]; show (2 ^ 32 - 1 + v.toNat) % 2 ^ 32 = _; omega
  have i1 : (BitVec.ofNat 32 n).toInt = n := by rw [BitVec.toInt_eq_toNat_of_lt (by rw [e1]; omega), e1]
  have i2 : (v - 1#32).toInt = (v.toNat - 1 : ℕ) := by rw [BitVec.toInt_eq_toNat_of_lt (by rw [e2]; omega), e2]
  show (if (BitVec.ofNat 32 n).slt (v - 1#32) then BitVec.ofNat 32 n else v - 1#32).toNat = _
  rw [BitVec.slt, i1, i2]
  by_cases h : n < v.toNat - 1
  · rw [if_pos (by exact decide_eq_true (by exact_mod_cast h)), e1]; omega
  · rw [if_neg (by rw [decide_eq_true_eq]; exact_mod_cast h), e2]; omega

theorem count_word (pf : pre0.Contents (Elt F)) : (pf.at 3 (Rect.unit (s := S1) ![0] S1.size inb_S1_S1_0) numel1_S1 : BitVec 32) = pf 3 only :=
  congrArg (pf 3) (by
    funext a
    match a with
    | ⟨0, h⟩ => exact Fin.ext (by show 0 + 1 * (only ⟨0, h⟩).val = (only ⟨0, h⟩).val; omega))

theorem transform_eq (pf : pre0.Contents (Elt F)) (h1 : 1 ≤ (pf 3 only : BitVec 32).toNat) (h2 : (pf 3 only : BitVec 32).toNat ≤ 160) (i : grid0.Coords) :
    cc0_transform_0 inb_S1_S1_0 numel1_S1 pf i = ![min (i 0).val ((pf 3 only : BitVec 32).toNat - 1), 0] := by
  rw [← row_eq (i 0).val (bound i) (pf 3 only) h1 h2, ← count_word pf]
  rfl

theorem ok_of (hS : ∀ c, Sched (V m c main_arg0) (V m c main_arg1) (V m c main_arg2) (V m c main_arg3)) : ok0 (tabs m) := by
  unfold ok0
  intro i
  have hlo : 1 ≤ (tabs m 3 only : BitVec 32).toNat := (hS 0).lo
  have hhi : (tabs m 3 only : BitVec 32).toNat ≤ 160 := (hS 0).hi
  refine ⟨fun b => ?_, Or.inl rfl⟩
  rw [transform_eq (tabs m) hlo hhi i]
  have hb := bound i
  match b with
  | ⟨0, _⟩ => show (min (i 0).val _ + 1) * 2048 ≤ 327680; omega
  | ⟨1, _⟩ => show (0 + 1) * 128 ≤ 128; omega

/-- The launch memory's tables, admitted. -/
def adm (hS : ∀ c, Sched (V m c main_arg0) (V m c main_arg1) (V m c main_arg2) (V m c main_arg3)) : (pcfg0 (F := F)).Adm := ⟨tabs m, ok_of m hS⟩

/-- The frame: every fair execution from a schedule's tables ends with the arguments as launched and every counter at zero. -/
theorem frame (hS : ∀ c, Sched (V m c main_arg0) (V m c main_arg1) (V m c main_arg2) (V m c main_arg3)) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => arguments_kept m (adm m hS) h.1 c, h.2⟩) (runs m ρ (adm m hS) (fun c k => tabs_at m c k) hS)

end Cert.Kernel4Ideal.Run

end
-- ==== Proof.ExpertPlan.lean ====
/- The precondition on the experts' tables, read: what it says of each tile in use. -/
module
public import proofs.«01_k».proof.Pre_scheduled
public import Idealize.ShloMosaic.Lib.ReduceAll
public import Idealize.ShloMosaic.Lib.Affine
public import Idealize.ShloMosaic.Lib.Pointwise.Index

@[expose] public section

set_option maxRecDepth 16384

noncomputable section

namespace Cert.Pre_scheduled

open Idealize.ShloMosaic

/-- The table's place `n`. -/
def place (n : ℕ) : S160.Idx := fun | ⟨0, _⟩ => ⟨n % 160, Nat.mod_lt _ (by decide)⟩ | ⟨_ + 1, h⟩ => absurd h (Nat.not_lt.2 (Nat.le_add_left _ _))
/-- The one place of the count's array. -/
def sole : S1.Idx := fun | ⟨0, _⟩ => ⟨0, Nat.one_pos⟩ | ⟨_ + 1, h⟩ => absurd h (Nat.not_lt.2 (Nat.le_add_left _ _))

/-- What the precondition says of the tables: a tile in use names an expert; the expert of a tile that turns is the one its
    predecessor names as next, one that does not turn keeps its predecessor's; the last in use names none. -/
structure Plan (te fi nx : S160.Idx → BitVec 32) (nu : S1.Idx → BitVec 32) : Prop where
  lo : 1 ≤ (nu sole).toNat
  hi : (nu sole).toNat ≤ 160
  first : fi (place 0) = 1#32
  expert : ∀ n < (nu sole).toNat, (te (place n)).toNat < 32
  next : ∀ n < (nu sole).toNat, (nx (place n)).toNat < 2 ^ 31 → (nx (place n)).toNat < 32
  turn : ∀ n, n + 1 < (nu sole).toNat → fi (place (n + 1)) = 1#32 → te (place (n + 1)) = nx (place n)
  keep : ∀ n, n + 1 < (nu sole).toNat → fi (place (n + 1)) ≠ 1#32 → te (place (n + 1)) = te (place n) ∧ nx (place (n + 1)) = nx (place n)
  last : 2 ^ 31 ≤ (nx (place ((nu sole).toNat - 1))).toNat

theorem toInt_small (v : BitVec 32) (h0 : 0 ≤ v.toInt) : v.toInt = v.toNat ∧ v.toNat < 2 ^ 31 := by
  have h := BitVec.toInt_eq_toNat_cond v
  have := v.isLt
  split at h <;> omega

theorem toInt_neg (v : BitVec 32) (h0 : v.toInt < 0) : 2 ^ 31 ≤ v.toNat := by
  have h := BitVec.toInt_eq_toNat_cond v
  split at h <;> omega

theorem toInt_of_small (v : BitVec 32) (h : v.toNat < 2 ^ 31) : v.toInt = v.toNat := by
  have h := BitVec.toInt_eq_toNat_cond v
  split at h <;> omega

theorem int_ofNat (n : ℕ) (h : n < 200) : (BitVec.ofNat 32 n).toInt = n := by
  rw [toInt_of_small] <;> rw [BitVec.toNat_ofNat, Nat.mod_eq_of_lt (by omega)]; omega

variable [Facts]
open Facts

instance : Subsingleton S_.Idx := ⟨fun a b => funext fun k => k.elim0⟩
instance : Subsingleton S1.Idx := ⟨fun a b => funext fun k => by
  match k with
  | ⟨0, h⟩ => exact Fin.ext (by have h1 : (a ⟨0, h⟩).val < 1 := (a ⟨0, h⟩).isLt; have h2 : (b ⟨0, h⟩).val < 1 := (b ⟨0, h⟩).isLt; omega)⟩

/-- The place `n` of a table cut by one. -/
def cut (n : ℕ) (h : n < 159) : S159.Idx := fun | ⟨0, _⟩ => ⟨n, h⟩ | ⟨_ + 1, h⟩ => absurd h (Nat.not_lt.2 (Nat.le_add_left _ _))

theorem later {w : ℕ} (x : IVec S160 w) (n : ℕ) (h : n < 159) : extractStridedSlice S159 ![1] x slices_S160_S159_1 (cut n h) = x (place (n + 1)) := by
  refine congrArg x (funext fun a => ?_)
  match a with
  | ⟨0, _⟩ => exact Fin.ext (by show 1 + n = (n + 1) % 160; omega)

theorem earlier {w : ℕ} (x : IVec S160 w) (n : ℕ) (h : n < 159) : extractStridedSlice S159 ![0] x slices_S160_S159_0 (cut n h) = x (place n) := by
  refine congrArg x (funext fun a => ?_)
  match a with
  | ⟨0, _⟩ => exact Fin.ext (by show 0 + n = n % 160; omega)

theorem number (nu : IVec S1 32) (j : S_.Idx) : shapeCast S_ nu shapeCasts_S1_S_ j = nu sole := congrArg nu (Subsingleton.elim _ _)

theorem head (x : IVec S160 32) (j : S_.Idx) : shapeCast S_ (extractStridedSlice S1 ![0] x slices_S160_S1_0) shapeCasts_S1_S_ j = x (place 0) := by
  rw [number]
  refine congrArg x (funext fun a => ?_)
  match a with
  | ⟨0, _⟩ => exact Fin.ext rfl

/-- Under the precondition the tables are a plan. -/
theorem plan_of_fn {F : FTy → Type} [FloatOps F] (te fi nx : IVec S160 32) (nu : IVec S1 32) (xs : IVec S327680x128 32)
    (w1 w3 : FVec F S32x2048x1024 .f32) (w2 : FVec F S32x1024x2048 .f32) (h : fn (F := F) te fi nx nu xs w1 w3 w2 = fun _ => 1#1) : Plan te fi nx nu := by
  have e := congrFun h (fun k => k.elim0)
  unfold fn fn_part1 fn_part2 at e
  dsimp only at e
  obtain ⟨e, eL⟩ := IntOp.andi_eq_one.1 e
  obtain ⟨e, eT⟩ := IntOp.andi_eq_one.1 e
  obtain ⟨e, eU⟩ := IntOp.andi_eq_one.1 e
  obtain ⟨e, eF⟩ := IntOp.andi_eq_one.1 e
  obtain ⟨eA, eB⟩ := IntOp.andi_eq_one.1 e
  have eL := fun i => Host.reduce_andi_all _ _ _ _ _ eL i
  have eT := fun i => Host.reduce_andi_all _ _ _ _ _ eT i
  have eU := fun i => Host.reduce_andi_all _ _ _ _ _ eU i
  have eA := IntOp.cmpi_sge.1 eA
  have eB := IntOp.cmpi_sle.1 eB
  have eF := IntOp.cmpi_eq.1 eF
  rw [number] at eA eB
  rw [head] at eF
  have hA : (1 : ℤ) ≤ (nu sole).toInt := eA
  have hB : (nu sole).toInt ≤ 160 := eB
  obtain ⟨hN, _⟩ := toInt_small (nu sole) (by omega)
  have hplace : ∀ n, n < 160 → BitVec.ofNat 32 (place n 0).val = BitVec.ofNat 32 n := fun n hn => by
    show BitVec.ofNat 32 (n % 160) = _
    rw [Nat.mod_eq_of_lt hn]
  have hused : ∀ n, n < (nu sole).toNat → ¬ (cmpi .sge (iotaInDim S160 32 0) (broadcastInDim S160 ![] bcast_S_S160 (shapeCast S_ nu shapeCasts_S1_S_)) (place n) = 1#1) := fun n hn hc => by
    have hc := IntOp.cmpi_sge.1 hc
    rw [show broadcastInDim S160 ![] bcast_S_S160 (shapeCast S_ nu shapeCasts_S1_S_) (place n) = nu sole from congrArg nu (Subsingleton.elim _ _)] at hc
    have hc : (nu sole).toInt ≤ (BitVec.ofNat 32 (place n 0).val).toInt := hc
    rw [hplace n (by omega), int_ofNat n (by omega)] at hc
    omega
  have hE : ∀ n, n < (nu sole).toNat → (0 ≤ (te (place n)).toInt ∧ (te (place n)).toInt < 32) ∧ (nx (place n)).toInt < 32 := fun n hn => by
    rcases IntOp.ori_eq_one.1 (eU (place n)) with hc | hc
    · exact absurd hc (hused n hn)
    · obtain ⟨hc, h3⟩ := IntOp.andi_eq_one.1 hc
      obtain ⟨h1, h2⟩ := IntOp.andi_eq_one.1 hc
      exact ⟨⟨IntOp.cmpi_sge.1 h1, IntOp.cmpi_slt.1 h2⟩, IntOp.cmpi_slt.1 h3⟩
  have hT : ∀ n (hn : n + 1 < (nu sole).toNat), (if cmpi .eq (extractStridedSlice S159 ![1] fi slices_S160_S159_1) (broadcastInDim S159 ![] bcast_S_S159 (constantI S_ 32 1#32)) (cut n (by omega)) = 1#1
      then cmpi .eq (extractStridedSlice S159 ![1] te slices_S160_S159_1) (extractStridedSlice S159 ![0] nx slices_S160_S159_0) (cut n (by omega))
      else andi (cmpi .eq (extractStridedSlice S159 ![1] te slices_S160_S159_1) (extractStridedSlice S159 ![0] te slices_S160_S159_0))
        (cmpi .eq (extractStridedSlice S159 ![1] nx slices_S160_S159_1) (extractStridedSlice S159 ![0] nx slices_S160_S159_0)) (cut n (by omega))) = 1#1 := fun n hn => by
    rcases IntOp.ori_eq_one.1 (eT (cut n (by omega))) with hc | hc
    · rw [later] at hc
      exact absurd hc (hused (n + 1) hn)
    · exact hc
  have hfi : ∀ n (hn : n < 159), (cmpi .eq (extractStridedSlice S159 ![1] fi slices_S160_S159_1) (broadcastInDim S159 ![] bcast_S_S159 (constantI S_ 32 1#32)) (cut n hn) = 1#1) ↔ fi (place (n + 1)) = 1#32 := fun n hn => by
    refine Iff.trans IntOp.cmpi_eq ?_
    rw [later]
    exact Iff.rfl
  refine ⟨by omega, by omega, eF, fun n hn => ?_, fun n hn hx => ?_, fun n hn hf => ?_, fun n hn hf => ?_, ?_⟩
  · obtain ⟨⟨h1, h2⟩, _⟩ := hE n hn
    have := toInt_small _ h1
    omega
  · have := toInt_of_small _ hx
    have := (hE n hn).2
    omega
  · have := hT n hn
    rw [if_pos ((hfi n _).2 hf)] at this
    have := IntOp.cmpi_eq.1 this
    rwa [later, earlier] at this
  · have := hT n hn
    rw [if_neg fun hc => hf ((hfi n _).1 hc)] at this
    obtain ⟨h1, h2⟩ := IntOp.andi_eq_one.1 this
    have h1 := IntOp.cmpi_eq.1 h1
    have h2 := IntOp.cmpi_eq.1 h2
    rw [later, earlier] at h1 h2
    exact ⟨h1, h2⟩
  · rcases IntOp.ori_eq_one.1 (eL (place ((nu sole).toNat - 1))) with hc | hc
    · exfalso
      have hc := IntOp.cmpi_ne.1 hc
      refine hc ?_
      rw [show broadcastInDim S160 ![] bcast_S_S160 (shapeCast S_ nu shapeCasts_S1_S_) (place ((nu sole).toNat - 1)) = nu sole from congrArg nu (Subsingleton.elim _ _)]
      show BitVec.ofNat 32 (place ((nu sole).toNat - 1) 0).val + 1#32 = nu sole
      rw [hplace _ (by omega)]
      apply BitVec.eq_of_toNat_eq
      rw [BitVec.toNat_add, BitVec.toNat_ofNat]
      show (((nu sole).toNat - 1) % 2 ^ 32 + 1) % 2 ^ 32 = _
      omega
    · have hc := IntOp.cmpi_slt.1 hc
      exact toInt_neg _ hc

end Cert.Pre_scheduled

end
-- ==== Proof.ExpertVal.lean ====
/- A tile's block on the extended reals, read at an index: the gated product of its rows with its expert's matrices. -/
module
public import proofs.«01_k».proof.Proof.ExpertOut
public import Idealize.ShloMosaic.Lib.Pipeline.ValueKit
public import Idealize.ShloMosaic.Lib.Pointwise

@[expose] public section

set_option maxRecDepth 16384

noncomputable section

namespace Experts

open Idealize.ShloMosaic

/-- A row's activations from its words: each word's low half, then each word's high half, as the upper bits of a float. -/
def act (x : Fin 1024 → BitVec 32) (k : Fin 2048) : EReal :=
  if h : k.val < 1024 then Ideal.ofBits .f32 (IntOp.shli .vector (x ⟨k.val, h⟩) 16#32)
  else Ideal.ofBits .f32 (IntOp.andi (x ⟨k.val - 1024, by omega⟩) 4294901760#32)

/-- The gate of `a` times `b`. -/
def gate (a b : EReal) : EReal :=
  a * Ideal.div (Ideal.ofBits .f32 0x3F800000#32) (Ideal.ofBits .f32 0x3F800000#32 + Ideal.exp (-a)) * b

/-- The gated product of a row with three matrices, at a column of the last. -/
def mlp (x : Fin 1024 → BitVec 32) (w1 w3 : Fin 2048 → Fin 1024 → EReal) (w2 : Fin 1024 → EReal) : EReal :=
  ∑ j, gate (∑ k, act x k * w1 k j) (∑ k, act x k * w3 k j) * w2 j

end Experts

namespace Cert.Kernel4Ideal.Run

open Cert.Kernel4Ideal Cert.Kernel4Ideal.Gen Idealize.ShloMosaic Idealize.ShloMosaic.TcCoe Idealize.SL.Sem
open Experts

/-! ## The stores read back -/

/-- One store of a narrowed slab holds the buffer's own elements. -/
theorem slab (X : S2048x1024.Idx → Elt Ideal .f32) (o : ℕ) (inb : ∀ a, (![o, 0] : Fin 2 → ℕ) a + S128x1024.size a ≤ S2048x1024.size a) (y : S2048x1024.Idx) :
    View.RectAt (Val := Elt Ideal) (e := .bf16) y (Rect.unit (s := S2048x1024) ![o, 0] S128x1024.size inb)
      (shapeCast S128x1024 (truncf .bf16 (View.ld X (Rect.unit (s := S2048x1024) ![o, 0] S128x1024.size inb) : FVec Ideal S128x1024 .f32) bitsLt_bf16_f32 : FVec Ideal S128x1024 .bf16) shapeCasts_S128x1024_S128x1024) (X y) := by
  intro x hx
  rw [shapeCast_self]
  exact congrArg X hx

theorem narrow_read (X : S2048x1024.Idx → Elt Ideal .f32) (y : S2048x1024.Idx) : View.canon (narrow X) y = X y := by
  refine View.canon_eq_of_allAt _ y _ (narrow_cover X y) ?_
  unfold narrow
  iterate 16 refine View.allAt_cons _ _ _ (slab X _ _ y) ?_
  exact View.allAt_nil _ _

theorem slab2 (X : S1024x2048.Idx → Elt Ideal .f32) (o : ℕ) (inb : ∀ a, (![o, 0] : Fin 2 → ℕ) a + S64x2048.size a ≤ S1024x2048.size a) (y : S1024x2048.Idx) :
    View.RectAt (Val := Elt Ideal) (e := .bf16) y (Rect.unit (s := S1024x2048) ![o, 0] S64x2048.size inb)
      (shapeCast S64x2048 (truncf .bf16 (View.ld X (Rect.unit (s := S1024x2048) ![o, 0] S64x2048.size inb) : FVec Ideal S64x2048 .f32) bitsLt_bf16_f32 : FVec Ideal S64x2048 .bf16) shapeCasts_S64x2048_S64x2048) (X y) := by
  intro x hx
  rw [shapeCast_self]
  exact congrArg X hx

theorem narrow2_read (X : S1024x2048.Idx → Elt Ideal .f32) (y : S1024x2048.Idx) : View.canon (narrow2 X) y = X y := by
  refine View.canon_eq_of_allAt _ y _ (narrow2_cover X y) ?_
  unfold narrow2
  iterate 16 refine View.allAt_cons _ _ _ (slab2 X _ _ y) ?_
  exact View.allAt_nil _ _

/-- The row and the column of a tile's result that an index of its block holds. -/
abbrev rowOf (y : S4096x128.Idx) : Fin 256 := ⟨(y 0).val / 16, by have h : (y 0).val < 4096 := (y 0).isLt; omega⟩
abbrev colOf (y : S4096x128.Idx) : Fin 2048 := ⟨128 * ((y 0).val % 16) + (y 1).val, by have h : (y 1).val < 128 := (y 1).isLt; omega⟩

theorem run_at (v : FVec Ideal S256x2048 .f32) (k o : ℕ) (hk : ∀ a, S256x128.size a = 0 ∨ (![k, 0] : Fin 2 → ℕ) a + (![16, 1] : Fin 2 → ℕ) a * (S256x128.size a - 1) < S4096x128.size a)
    (hp : ∀ a, 0 < (![16, 1] : Fin 2 → ℕ) a) (hs : S256x2048.Slices ![0, o] S256x128) (ho : o = 128 * k) (hk' : k < 16) (y : S4096x128.Idx) :
    View.RectAt (Val := Elt Ideal) (e := .f32) y (⟨(⟨![k, 0], S256x128.size, ![16, 1], hk⟩ : LoadRect S4096x128), hp⟩ : Rect S4096x128)
      (extractStridedSlice S256x128 ![0, o] v hs) (v (ix2 (rowOf y) (colOf y))) := by
  intro x hx
  have h0 : (y 0).val = k + 16 * (x 0).val := by rw [← hx]; rfl
  have h1 : (y 1).val = 0 + 1 * (x 1).val := by rw [← hx]; rfl
  refine congrArg v (funext fun a => ?_)
  match a with
  | ⟨0, _⟩ => exact Fin.ext (by show 0 + (x 0).val = (y 0).val / 16; omega)
  | ⟨1, _⟩ => exact Fin.ext (by show o + (x 1).val = 128 * ((y 0).val % 16) + (y 1).val; omega)

theorem laid_read (v : FVec Ideal S256x2048 .f32) (y : S4096x128.Idx) : View.canon (laid v) y = v (ix2 (rowOf y) (colOf y)) := by
  refine View.canon_eq_of_allAt _ y _ (laid_cover v y) ?_
  unfold laid
  iterate 16 refine View.allAt_cons _ _ _ (run_at v _ _ _ _ _ (by rfl) (by decide) y) ?_
  exact View.allAt_nil _ _

/-! ## A landed matrix -/

theorem upper_read (M : Memref sig .tc .hbm S32x2048x1024 .f32) (w : M.view.ty.Contents (Elt Ideal)) (e : ℕ) (h : In1 e) (he : e < 32) (r : Fin 1024) (j : Fin 1024) :
    View.read (Elt Ideal) (upper M e h).view w (ix2 r j) = View.read (Elt Ideal) M.view w (ix3 (⟨e, he⟩ : Fin 32) (⟨r.val, by omega⟩ : Fin 2048) j) := by
  rw [Memref.read_squeeze_slice M _ _ squeezes_S1x1024x1024_S1024x1024 (Shape.Squeezes.numel_eq squeezes_S1x1024x1024_S1024x1024) w]
  refine (shapeCast_apply _ _ (ix2 r j) (ix3 (0 : Fin 1) r j) ?_).trans (congrArg (View.read (Elt Ideal) M.view w) (funext fun a => ?_))
  · rw [Shape.rowMajor_val_three, Shape.rowMajor_val_two]; show (0 * 1024 + r.val) * 1024 + j.val = r.val * 1024 + j.val; omega
  · match a with
    | ⟨0, _⟩ => exact Fin.ext (by show e + 1 * 0 = e; omega)
    | ⟨1, _⟩ => exact Fin.ext (by show 0 + 1 * r.val = r.val; omega)
    | ⟨2, _⟩ => exact Fin.ext (by show 0 + 1 * j.val = j.val; omega)

theorem lower_read (M : Memref sig .tc .hbm S32x2048x1024 .f32) (w : M.view.ty.Contents (Elt Ideal)) (e : ℕ) (h : In2 e) (he : e < 32) (r : Fin 1024) (j : Fin 1024) :
    View.read (Elt Ideal) (lower M e h).view w (ix2 r j) = View.read (Elt Ideal) M.view w (ix3 (⟨e, he⟩ : Fin 32) (⟨1024 + r.val, by omega⟩ : Fin 2048) j) := by
  rw [Memref.read_squeeze_slice M _ _ squeezes_S1x1024x1024_S1024x1024 (Shape.Squeezes.numel_eq squeezes_S1x1024x1024_S1024x1024) w]
  refine (shapeCast_apply _ _ (ix2 r j) (ix3 (0 : Fin 1) r j) ?_).trans (congrArg (View.read (Elt Ideal) M.view w) (funext fun a => ?_))
  · rw [Shape.rowMajor_val_three, Shape.rowMajor_val_two]; show (0 * 1024 + r.val) * 1024 + j.val = r.val * 1024 + j.val; omega
  · match a with
    | ⟨0, _⟩ => exact Fin.ext (by show e + 1 * 0 = e; omega)
    | ⟨1, _⟩ => exact Fin.ext (by show 1024 + 1 * r.val = 1024 + r.val; omega)
    | ⟨2, _⟩ => exact Fin.ext (by show 0 + 1 * j.val = j.val; omega)

theorem upper2_read (M : Memref sig .tc .hbm S32x1024x2048 .f32) (w : M.view.ty.Contents (Elt Ideal)) (e : ℕ) (h : In3 e) (he : e < 32) (r : Fin 512) (j : Fin 2048) :
    View.read (Elt Ideal) (upper2 M e h).view w (ix2 r j) = View.read (Elt Ideal) M.view w (ix3 (⟨e, he⟩ : Fin 32) (⟨r.val, by omega⟩ : Fin 1024) j) := by
  rw [Memref.read_squeeze_slice M _ _ squeezes_S1x512x2048_S512x2048 (Shape.Squeezes.numel_eq squeezes_S1x512x2048_S512x2048) w]
  refine (shapeCast_apply _ _ (ix2 r j) (ix3 (0 : Fin 1) r j) ?_).trans (congrArg (View.read (Elt Ideal) M.view w) (funext fun a => ?_))
  · rw [Shape.rowMajor_val_three, Shape.rowMajor_val_two]; show (0 * 512 + r.val) * 2048 + j.val = r.val * 2048 + j.val; omega
  · match a with
    | ⟨0, _⟩ => exact Fin.ext (by show e + 1 * 0 = e; omega)
    | ⟨1, _⟩ => exact Fin.ext (by show 0 + 1 * r.val = r.val; omega)
    | ⟨2, _⟩ => exact Fin.ext (by show 0 + 1 * j.val = j.val; omega)

theorem lower2_read (M : Memref sig .tc .hbm S32x1024x2048 .f32) (w : M.view.ty.Contents (Elt Ideal)) (e : ℕ) (h : In4 e) (he : e < 32) (r : Fin 512) (j : Fin 2048) :
    View.read (Elt Ideal) (lower2 M e h).view w (ix2 r j) = View.read (Elt Ideal) M.view w (ix3 (⟨e, he⟩ : Fin 32) (⟨512 + r.val, by omega⟩ : Fin 1024) j) := by
  rw [Memref.read_squeeze_slice M _ _ squeezes_S1x512x2048_S512x2048 (Shape.Squeezes.numel_eq squeezes_S1x512x2048_S512x2048) w]
  refine (shapeCast_apply _ _ (ix2 r j) (ix3 (0 : Fin 1) r j) ?_).trans (congrArg (View.read (Elt Ideal) M.view w) (funext fun a => ?_))
  · rw [Shape.rowMajor_val_three, Shape.rowMajor_val_two]; show (0 * 512 + r.val) * 2048 + j.val = r.val * 2048 + j.val; omega
  · match a with
    | ⟨0, _⟩ => exact Fin.ext (by show e + 1 * 0 = e; omega)
    | ⟨1, _⟩ => exact Fin.ext (by show 512 + 1 * r.val = 512 + r.val; omega)
    | ⟨2, _⟩ => exact Fin.ext (by show 0 + 1 * j.val = j.val; omega)

/-- Both halves landed, the buffer holds the expert's matrix. -/
theorem landed_read (c : Dev nD) (B : Memref sig .tc .vmem S2048x1024 .f32) (M : Memref sig .tc .hbm S32x2048x1024 .f32) (w : Buf (Elt Ideal) (M.view.loc (c : Thread nD τ)))
    (e : ℕ) (h : e < 32) (k : Fin 2048) (j : Fin 1024) :
    landed c B M w e h (ix2 k j) = View.read (Elt Ideal) M.view w (ix3 (⟨e, h⟩ : Fin 32) k j) := by
  have hcover : ∀ i : S2048x1024.Idx, ∃ p ∈ ([⟨bot, half c (lower M e (in2 h)) w⟩, ⟨top, half c (upper M e (in1 h)) w⟩] : List (View.Piece (Elt Ideal) S2048x1024 .f32)), i ∈ p.1.set :=
    View.cover_of_tiled _ S1024x1024.size (by rfl)
  refine (congrFun (View.read_writes_eq_canon _ _ _ hcover) _).trans (View.canon_eq_of_allAt _ _ _ (hcover _) ?_)
  refine View.allAt_cons _ _ _ (fun x hx => ?_) (View.allAt_cons _ _ _ (fun x hx => ?_) (View.allAt_nil _ _))
  · have h0 : k.val = 1024 + 1 * (x 0).val := congrArg Fin.val (congrFun hx 0).symm
    have h1 : j.val = 0 + 1 * (x 1).val := congrArg Fin.val (congrFun hx 1).symm
    refine (congrArg (View.read (Elt Ideal) (lower M e (in2 h)).view w) (ix2_eta x).symm).trans ((lower_read M w e (in2 h) h (x 0) (x 1)).trans ?_)
    congr 2
    · exact Fin.ext (by show 1024 + (x 0).val = k.val; omega)
    · exact Fin.ext (by show (x 1).val = j.val; omega)
  · have h0 : k.val = 0 + 1 * (x 0).val := congrArg Fin.val (congrFun hx 0).symm
    have h1 : j.val = 0 + 1 * (x 1).val := congrArg Fin.val (congrFun hx 1).symm
    refine (congrArg (View.read (Elt Ideal) (upper M e (in1 h)).view w) (ix2_eta x).symm).trans ((upper_read M w e (in1 h) h (x 0) (x 1)).trans ?_)
    congr 2
    · exact Fin.ext (by show (x 0).val = k.val; omega)
    · exact Fin.ext (by show (x 1).val = j.val; omega)

theorem landed2_read (c : Dev nD) (B : Memref sig .tc .vmem S1024x2048 .f32) (M : Memref sig .tc .hbm S32x1024x2048 .f32) (w : Buf (Elt Ideal) (M.view.loc (c : Thread nD τ)))
    (e : ℕ) (h : e < 32) (k : Fin 1024) (j : Fin 2048) :
    landed2 c B M w e h (ix2 k j) = View.read (Elt Ideal) M.view w (ix3 (⟨e, h⟩ : Fin 32) k j) := by
  have hcover : ∀ i : S1024x2048.Idx, ∃ p ∈ ([⟨bot2, half c (lower2 M e (in4 h)) w⟩, ⟨top2, half c (upper2 M e (in3 h)) w⟩] : List (View.Piece (Elt Ideal) S1024x2048 .f32)), i ∈ p.1.set :=
    View.cover_of_tiled _ S512x2048.size (by rfl)
  refine (congrFun (View.read_writes_eq_canon _ _ _ hcover) _).trans (View.canon_eq_of_allAt _ _ _ (hcover _) ?_)
  refine View.allAt_cons _ _ _ (fun x hx => ?_) (View.allAt_cons _ _ _ (fun x hx => ?_) (View.allAt_nil _ _))
  · have h0 : k.val = 512 + 1 * (x 0).val := congrArg Fin.val (congrFun hx 0).symm
    have h1 : j.val = 0 + 1 * (x 1).val := congrArg Fin.val (congrFun hx 1).symm
    refine (congrArg (View.read (Elt Ideal) (lower2 M e (in4 h)).view w) (ix2_eta x).symm).trans ((lower2_read M w e (in4 h) h (x 0) (x 1)).trans ?_)
    congr 2
    · exact Fin.ext (by show 512 + (x 0).val = k.val; omega)
    · exact Fin.ext (by show (x 1).val = j.val; omega)
  · have h0 : k.val = 0 + 1 * (x 0).val := congrArg Fin.val (congrFun hx 0).symm
    have h1 : j.val = 0 + 1 * (x 1).val := congrArg Fin.val (congrFun hx 1).symm
    refine (congrArg (View.read (Elt Ideal) (upper2 M e (in3 h)).view w) (ix2_eta x).symm).trans ((upper2_read M w e (in3 h) h (x 0) (x 1)).trans ?_)
    congr 2
    · exact Fin.ext (by show (x 0).val = k.val; omega)
    · exact Fin.ext (by show (x 1).val = j.val; omega)

/-- The expert a word names. -/
abbrev named (v : BitVec 32) : Fin 32 := ⟨v.toNat % 32, mod32 v⟩

theorem mat1_apply (c : Dev nD) (w : Buf (Elt Ideal) (W1.view.loc (c : Thread nD τ))) (v : BitVec 32) (k : Fin 2048) (j : Fin 1024) :
    mat1 c w v (ix2 k j) = w (ix3 (named v) k j) := by
  unfold mat1 cast1
  rw [narrow_read]
  exact landed_read c B1 W1 w _ (mod32 v) k j
theorem mat3_apply (c : Dev nD) (w : Buf (Elt Ideal) (W3.view.loc (c : Thread nD τ))) (v : BitVec 32) (k : Fin 2048) (j : Fin 1024) :
    mat3 c w v (ix2 k j) = w (ix3 (named v) k j) := by
  unfold mat3 cast3
  rw [narrow_read]
  exact landed_read c B3 W3 w _ (mod32 v) k j
theorem mat2_apply (c : Dev nD) (w : Buf (Elt Ideal) (W2.view.loc (c : Thread nD τ))) (v : BitVec 32) (k : Fin 1024) (j : Fin 2048) :
    mat2 c w v (ix2 k j) = w (ix3 (named v) k j) := by
  unfold mat2 cast2
  rw [narrow2_read]
  exact landed2_read c B2 W2 w _ (mod32 v) k j

/-! ## The tile -/

theorem words_piece (k : ℕ) (hk8 : k < 8) (x : S2048x128.Idx → BitVec 32) (r : Fin 256) (c : Fin 1024) (hc : c.val / 128 = k)
    (hk : ∀ a, S256x128.size a = 0 ∨ (![k, 0] : Fin 2 → ℕ) a + (![8, 1] : Fin 2 → ℕ) a * (S256x128.size a - 1) < S2048x128.size a)
    (xs : List ((s : Shape) × (s.Idx → BitVec 32))) (h : Shape.Concatenates (xs.map (·.1)) S256x1024 1) (hlen : k < xs.length)
    (hxk : xs[k] = ⟨S256x128, fun j => x ((⟨![k, 0], S256x128.size, ![8, 1], hk⟩ : LoadRect S2048x128).idx j)⟩)
    (hpre : (((xs.take k).map (·.1)).map fun s => if h : s.rank = S256x1024.rank then s.size ((1 : Fin S256x1024.rank).cast h.symm) else 0).sum = 128 * k) :
    concatenate S256x1024 1 xs h (ix2 r c) = x (ix2 (⟨8 * r.val + c.val / 128, by have := r.isLt; omega⟩ : Fin 2048) (⟨c.val % 128, by omega⟩ : Fin 128)) := by
  refine (concatenate_apply_piece 1 xs h (ix2 r c) k hlen S256x128 _ hxk rfl (128 * k) hpre (ix2 r (⟨c.val % 128, by omega⟩ : Fin 128)) ?_ ?_).trans (congrArg x (funext fun a => ?_))
  · intro b hb
    match b with
    | ⟨0, _⟩ => rfl
    | ⟨1, _⟩ => exact absurd rfl hb
  · show 128 * k + c.val % 128 = c.val; omega
  · match a with
    | ⟨0, _⟩ => exact Fin.ext (by show k + 8 * r.val = 8 * r.val + c.val / 128; omega)
    | ⟨1, _⟩ => exact Fin.ext (by show 0 + 1 * (c.val % 128) = c.val % 128; omega)

theorem words_apply (x : S2048x128.Idx → BitVec 32) (r : Fin 256) (c : Fin 1024) :
    words (F := Ideal) x (ix2 r c) = x (ix2 (⟨8 * r.val + c.val / 128, by have := r.isLt; omega⟩ : Fin 2048) (⟨c.val % 128, by omega⟩ : Fin 128)) := by
  unfold words
  obtain ⟨k, hc⟩ : ∃ k, c.val / 128 = k := ⟨_, rfl⟩
  have hc8 : k < 8 := by omega
  match k, hc8, hc with
  | 0, _, hc => exact words_piece 0 (by decide) x r c hc _ _ _ (by show _ < 8; decide) rfl rfl
  | 1, _, hc => exact words_piece 1 (by decide) x r c hc _ _ _ (by show _ < 8; decide) rfl rfl
  | 2, _, hc => exact words_piece 2 (by decide) x r c hc _ _ _ (by show _ < 8; decide) rfl rfl
  | 3, _, hc => exact words_piece 3 (by decide) x r c hc _ _ _ (by show _ < 8; decide) rfl rfl
  | 4, _, hc => exact words_piece 4 (by decide) x r c hc _ _ _ (by show _ < 8; decide) rfl rfl
  | 5, _, hc => exact words_piece 5 (by decide) x r c hc _ _ _ (by show _ < 8; decide) rfl rfl
  | 6, _, hc => exact words_piece 6 (by decide) x r c hc _ _ _ (by show _ < 8; decide) rfl rfl
  | 7, _, hc => exact words_piece 7 (by decide) x r c hc _ _ _ (by show _ < 8; decide) rfl rfl
  | k + 8, h, _ => omega

/-- A block's row of words. -/
abbrev rowWords (x : S2048x128.Idx → BitVec 32) (r : Fin 256) (c : Fin 1024) : BitVec 32 :=
  x (ix2 (⟨8 * r.val + c.val / 128, by have := r.isLt; omega⟩ : Fin 2048) (⟨c.val % 128, by omega⟩ : Fin 128))

theorem acts_apply (x : S2048x128.Idx → BitVec 32) (r : Fin 256) (k : Fin 2048) :
    acts (F := Ideal) x (ix2 r k) = act (rowWords x r) k := by
  unfold acts act
  by_cases h : k.val < 1024
  · rw [dif_pos h]
    refine Eq.trans ?_ (congrArg (fun w => Ideal.ofBits .f32 (IntOp.shli .vector w 16#32)) (words_apply x r ⟨k.val, h⟩))
    pointwise []
    exact dif_pos h
  · rw [dif_neg h]
    refine Eq.trans ?_ (congrArg (fun w => Ideal.ofBits .f32 (IntOp.andi w 4294901760#32)) (words_apply x r ⟨k.val - 1024, by omega⟩))
    pointwise []
    exact dif_neg h

theorem inner_apply (x : S2048x128.Idx → BitVec 32) (w : S2048x1024.Idx → Elt Ideal .bf16) (r : Fin 256) (j : Fin 1024) :
    inner (F := Ideal) x w (ix2 r j) = ∑ k : Fin 2048, act (rowWords x r) k * w (ix2 k j) := by
  have whole : ∀ a : FVec Ideal S256x2048 .bf16, matmul (φ₁ := .bf16) (φ₂ := .bf16) dot_S256x2048_S2048x1024_S256x1024_1_0_0_1_n_n none a (w : FVec Ideal S2048x1024 .bf16) (constant S256x1024 .f32 0x00000000#32) (ix2 r j)
      = ∑ k : Fin 2048, a (ix2 r k) * w (ix2 k j) := fun a => by
    pointwise []
  exact (whole _).trans (Finset.sum_congr rfl fun k _ => congrArg (· * _) (acts_apply x r k))

theorem gated_apply (x : S2048x128.Idx → BitVec 32) (m1 m3 : S2048x1024.Idx → Elt Ideal .bf16) (r : Fin 256) (j : Fin 1024) :
    gated (F := Ideal) x m1 m3 (ix2 r j) = gate (∑ k : Fin 2048, act (rowWords x r) k * m1 (ix2 k j)) (∑ k : Fin 2048, act (rowWords x r) k * m3 (ix2 k j)) := by
  rw [← inner_apply, ← inner_apply]
  unfold gated gate
  generalize inner (F := Ideal) x m1 = a
  generalize inner (F := Ideal) x m3 = b
  pointwise []
  rw [show (0 : EReal) - a (ix2 r j) = -a (ix2 r j) from by rw [sub_eq_add_neg, zero_add]]

theorem tile_apply (x : S2048x128.Idx → BitVec 32) (m1 m3 : S2048x1024.Idx → Elt Ideal .bf16) (m2 : S1024x2048.Idx → Elt Ideal .bf16) (r : Fin 256) (q : Fin 2048) :
    tile (F := Ideal) x m1 m3 m2 (ix2 r q) = mlp (rowWords x r) (fun k j => m1 (ix2 k j)) (fun k j => m3 (ix2 k j)) (fun j => m2 (ix2 j q)) := by
  have whole : ∀ a : FVec Ideal S256x1024 .bf16, matmul (φ₁ := .bf16) (φ₂ := .bf16) dot_S256x1024_S1024x2048_S256x2048_1_0_0_1_n_n none a (m2 : FVec Ideal S1024x2048 .bf16) (constant S256x2048 .f32 0x00000000#32) (ix2 r q)
      = ∑ k : Fin 1024, a (ix2 r k) * m2 (ix2 k q) := fun a => by
    pointwise []
  exact (whole _).trans (Finset.sum_congr rfl fun k _ => congrArg (· * _) (gated_apply x m1 m3 r k))

theorem block_apply (x : S2048x128.Idx → BitVec 32) (m1 m3 : S2048x1024.Idx → Elt Ideal .bf16) (m2 : S1024x2048.Idx → Elt Ideal .bf16) (y : S4096x128.Idx) :
    block (F := Ideal) x m1 m3 m2 y = mlp (rowWords x (rowOf y)) (fun k j => m1 (ix2 k j)) (fun k j => m3 (ix2 k j)) (fun j => m2 (ix2 j (colOf y))) :=
  (laid_read _ y).trans (tile_apply x m1 m3 m2 _ _)

/-! ## The array -/

/-- An element of a tile's result, of the call's arguments: in a tile in use, the gated product of the tile's row with its
    expert's matrices; in a tile not in use, zero. -/
def entry (te : S160.Idx → BitVec 32) (nu : S1.Idx → BitVec 32) (xs : S327680x128.Idx → BitVec 32) (w1 w3 : S32x2048x1024.Idx → EReal)
    (w2 : S32x1024x2048.Idx → EReal) (t : Fin 160) (r : Fin 256) (q : Fin 2048) : EReal :=
  if t.val < count nu then
    mlp (fun d => xs (ix2 (⟨2048 * t.val + (8 * r.val + d.val / 128), by omega⟩ : Fin 327680) (⟨d.val % 128, by omega⟩ : Fin 128)))
      (fun k j => w1 (ix3 (named (te (pos t.val))) k j)) (fun k j => w3 (ix3 (named (te (pos t.val))) k j))
      (fun j => w2 (ix3 (named (te (pos t.val))) j q))
  else 0

/-- The result array: its rows are the tiles' rows in runs of 128 columns. -/
def result (te : S160.Idx → BitVec 32) (nu : S1.Idx → BitVec 32) (xs : S327680x128.Idx → BitVec 32) (w1 w3 : S32x2048x1024.Idx → EReal)
    (w2 : S32x1024x2048.Idx → EReal) : S655360x128.Idx → EReal := fun p =>
  entry te nu xs w1 w3 w2 (⟨(p 0).val / 4096, by have hp : (p 0).val < 655360 := (p 0).isLt; omega⟩ : Fin 160) (⟨(p 0).val % 4096 / 16, by omega⟩ : Fin 256)
    (⟨128 * ((p 0).val % 16) + (p 1).val, by have hq : (p 1).val < 128 := (p 1).isLt; omega⟩ : Fin 2048)

/-- What the schedule leaves of a tile is the tile's part of the result array. -/
theorem left_eq (c : Dev nD) (te : S160.Idx → BitVec 32) (nu : S1.Idx → BitVec 32) (xs : S327680x128.Idx → BitVec 32) (w1 w3 : S32x2048x1024.Idx → EReal)
    (w2 : S32x1024x2048.Idx → EReal) (x : S2048x128.Idx → BitVec 32) (t : ℕ) (ht : t < 160)
    (hx : t < count nu → ∀ (i : Fin 2048) (j : Fin 128), x (ix2 i j) = xs (ix2 (⟨2048 * t + i.val, by have := i.isLt; omega⟩ : Fin 327680) j))
    (y : S4096x128.Idx) (hy : (y 0).val < 4096) :
    left (F := Ideal) c w1 w3 w2 te nu x t y = result te nu xs w1 w3 w2 (ix2 (⟨4096 * t + (y 0).val, by omega⟩ : Fin 655360) (y 1 : Fin 128)) := by
  have e : result te nu xs w1 w3 w2 (ix2 (⟨4096 * t + (y 0).val, by omega⟩ : Fin 655360) (y 1 : Fin 128)) = entry te nu xs w1 w3 w2 ⟨t, ht⟩ (rowOf y) (colOf y) := by
    unfold result
    congr 1
    · exact Fin.ext (by show (4096 * t + (y 0).val) / 4096 = t; omega)
    · exact Fin.ext (by show (4096 * t + (y 0).val) % 4096 / 16 = (y 0).val / 16; omega)
    · exact Fin.ext (by show 128 * ((4096 * t + (y 0).val) % 16) + (y 1).val = 128 * ((y 0).val % 16) + (y 1).val; omega)
  rw [e]
  unfold left entry
  by_cases hu : t < count nu
  · rw [if_pos hu, if_pos hu, block_apply]
    simp only [mat1_apply, mat3_apply, mat2_apply]
    exact congrArg (fun w => mlp w _ _ _) (funext fun d => hx hu _ _)
  · rw [if_neg hu, if_neg hu]
    exact (by simp [Ideal.ofBits, Ideal.ieee] : Ideal.ofBits .f32 0x00000000#32 = 0)

variable (m : (ℓ : Loc nD τ sig) → Buf (Elt Ideal) ℓ) (a : (pcfg0 (F := Ideal)).Adm)

theorem covers_1 : ((cfg0 a).win 1).Covers := of_decide_eq_true (by sl_kernel_rfl)

theorem index_1 (t : Fin (cfg0 a).N) : ((cfg0 a).win 1).index t = ![t.val, 0] := by
  have e : (BitVec.ofNat 32 (grid0.coords t 0).val).toNat = t.val := by
    rw [BitVec.toNat_ofNat, coords_val t]
    have ht : t.val < 160 := t.isLt
    omega
  exact congrArg (fun n => (![n, 0] : Fin 2 → ℕ)) e

theorem index_0 (h1 : 1 ≤ (a.1 3 only : BitVec 32).toNat) (h2 : (a.1 3 only : BitVec 32).toNat ≤ 160) (t : Fin (cfg0 a).N) :
    ((cfg0 a).win 0).index t = ![min t.val ((a.1 3 only : BitVec 32).toNat - 1), 0] := by
  have h := transform_eq (F := Ideal) a.1 h1 h2 (grid0.coords t)
  rw [coords_val t] at h
  exact h

theorem xblk_apply (h1 : 1 ≤ (a.1 3 only : BitVec 32).toNat) (h2 : (a.1 3 only : BitVec 32).toNat ≤ 160) (c : Dev nD) (t : Fin (cfg0 a).N)
    (ht : t.val < (a.1 3 only : BitVec 32).toNat) (i : Fin 2048) (j : Fin 128) :
    xblk m a c t (ix2 i j) = V m c main_arg4 (ix2 (⟨2048 * t.val + i.val, by have := i.isLt; omega⟩ : Fin 327680) j) := by
  blk_ext [xblk, V, index_0 a h1 h2 t]

theorem place_1 (G : S655360x128.Idx → EReal) (t : Fin (cfg0 a).N) (y : S4096x128.Idx) :
    G ((((cfg0 a).win 1).blk t).view.emb y)
      = G (ix2 (⟨4096 * t.val + (y 0).val, by have h : (y 0).val < 4096 := (y 0).isLt; have ht : t.val < 160 := t.isLt; omega⟩ : Fin 655360) (y 1 : Fin 128)) := by
  blk_ext [index_1 a t]

theorem final (h1 : 1 ≤ (a.1 3 only : BitVec 32).toNat) (h2 : (a.1 3 only : BitVec 32).toNat ≤ 160) (c : Dev nD) (hc : V m c main_arg3 = a.1 3) :
    (dats m a 0 c).arrAt 1 (cfg0 a).N = result (V m c main_arg0) (V m c main_arg3) (V m c main_arg4) (V m c main_arg5) (V m c main_arg6) (V m c main_arg7) := by
  refine (dats m a 0 c).arrAt_eq_of_covers 1 _ (covers_1 a) fun t hf y => ?_
  blk_simp
  rw [after_1]
  refine Eq.trans ?_ (place_1 a _ t y).symm
  exact left_eq c _ _ _ _ _ _ _ t.val t.isLt (fun hu i j => xblk_apply m a h1 h2 c t (by rw [← hc]; exact hu) i j) y (y (0 : Fin 2)).isLt

end Cert.Kernel4Ideal.Run

end
-- ==== Proof.ExpertRef.lean ====
/- The experts' reference on the extended reals, read at an index: the same array of the arguments as the kernel's. -/
module
public import proofs.«01_k».proof.Proof.ExpertVal
public import proofs.«01_k».proof.Proof.Gen.Reference4Ideal.Run
public import Idealize.ShloMosaic.Lib.Pointwise

@[expose] public section

set_option maxRecDepth 16384

noncomputable section

namespace Cert.Reference4Ideal.Value

open Cert.Reference4Ideal Cert.Reference4Ideal.Gen Idealize.ShloMosaic Idealize.ShloMosaic.TcCoe Idealize.SL.Sem
open Experts

/-! ## The gathers -/

theorem gather_apply {α : Type} (x : S32x2048x1024.Idx → α) (idx : IVec S160x1 32) (t : Fin 160) (r : Fin 2048) (c : Fin 1024) :
    Host.gather gather_S32x2048x1024_S160x1_S160x2048x1024_12_0_n_n_0_1_120481024 x idx (ix3 t r c)
      = x (ix3 (⟨min (idx (ix2 t (0 : Fin 1))).toInt.toNat 31, by omega⟩ : Fin 32) r c) := by
  unfold Host.gather
  congr 1
  funext a
  refine Fin.ext ?_
  show GatherDims.start gather_S32x2048x1024_S160x1_S160x2048x1024_12_0_n_n_0_1_120481024 (ix3 t r c) idx a
    + GatherDims.batchCoord gather_S32x2048x1024_S160x1_S160x2048x1024_12_0_n_n_0_1_120481024 (ix3 t r c) a
    + GatherDims.offCoord gather_S32x2048x1024_S160x1_S160x2048x1024_12_0_n_n_0_1_120481024 (ix3 t r c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : GatherDims.siIdx gather_S32x2048x1024_S160x1_S160x2048x1024_12_0_n_n_0_1_120481024 (ix3 t r c)
        ⟨List.idxOf (0 : Fin 3) (GatherDims.startIndexMap gather_S32x2048x1024_S160x1_S160x2048x1024_12_0_n_n_0_1_120481024),
          List.idxOf_lt_length_iff.2 (List.mem_singleton.mpr rfl)⟩ = ix2 t (0 : Fin 1) := by
      funext b; refine Fin.ext ?_
      match b with
      | ⟨0, _⟩ => rfl
      | ⟨1, _⟩ => rfl
    exact congrArg (fun i => min (idx i).toInt.toNat 31) hsi
  | ⟨1, _⟩ =>
    have h1 : GatherDims.start gather_S32x2048x1024_S160x1_S160x2048x1024_12_0_n_n_0_1_120481024 (ix3 t r c) idx ⟨1, by decide⟩ = 0 := by
      unfold GatherDims.start; exact dif_neg (by decide)
    rw [h1]
    show 0 + 0 + r.val = r.val
    omega
  | ⟨2, _⟩ =>
    have h1 : GatherDims.start gather_S32x2048x1024_S160x1_S160x2048x1024_12_0_n_n_0_1_120481024 (ix3 t r c) idx ⟨2, by decide⟩ = 0 := by
      unfold GatherDims.start; exact dif_neg (by decide)
    rw [h1]
    show 0 + 0 + c.val = c.val
    omega

theorem gather2_apply {α : Type} (x : S32x1024x2048.Idx → α) (idx : IVec S160x1 32) (t : Fin 160) (r : Fin 1024) (c : Fin 2048) :
    Host.gather gather_S32x1024x2048_S160x1_S160x1024x2048_12_0_n_n_0_1_110242048 x idx (ix3 t r c)
      = x (ix3 (⟨min (idx (ix2 t (0 : Fin 1))).toInt.toNat 31, by omega⟩ : Fin 32) r c) := by
  unfold Host.gather
  congr 1
  funext a
  refine Fin.ext ?_
  show GatherDims.start gather_S32x1024x2048_S160x1_S160x1024x2048_12_0_n_n_0_1_110242048 (ix3 t r c) idx a
    + GatherDims.batchCoord gather_S32x1024x2048_S160x1_S160x1024x2048_12_0_n_n_0_1_110242048 (ix3 t r c) a
    + GatherDims.offCoord gather_S32x1024x2048_S160x1_S160x1024x2048_12_0_n_n_0_1_110242048 (ix3 t r c) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    refine (dif_pos (List.mem_singleton.mpr rfl)).trans ?_
    have hsi : GatherDims.siIdx gather_S32x1024x2048_S160x1_S160x1024x2048_12_0_n_n_0_1_110242048 (ix3 t r c)
        ⟨List.idxOf (0 : Fin 3) (GatherDims.startIndexMap gather_S32x1024x2048_S160x1_S160x1024x2048_12_0_n_n_0_1_110242048),
          List.idxOf_lt_length_iff.2 (List.mem_singleton.mpr rfl)⟩ = ix2 t (0 : Fin 1) := by
      funext b; refine Fin.ext ?_
      match b with
      | ⟨0, _⟩ => rfl
      | ⟨1, _⟩ => rfl
    exact congrArg (fun i => min (idx i).toInt.toNat 31) hsi
  | ⟨1, _⟩ =>
    have h1 : GatherDims.start gather_S32x1024x2048_S160x1_S160x1024x2048_12_0_n_n_0_1_110242048 (ix3 t r c) idx ⟨1, by decide⟩ = 0 := by
      unfold GatherDims.start; exact dif_neg (by decide)
    rw [h1]
    show 0 + 0 + r.val = r.val
    omega
  | ⟨2, _⟩ =>
    have h1 : GatherDims.start gather_S32x1024x2048_S160x1_S160x1024x2048_12_0_n_n_0_1_110242048 (ix3 t r c) idx ⟨2, by decide⟩ = 0 := by
      unfold GatherDims.start; exact dif_neg (by decide)
    rw [h1]
    show 0 + 0 + c.val = c.val
    omega

/-! ## The reference's steps -/

/-- The rows of words, a tile's below the other. -/
def rows (xs : IVec S327680x128 32) : IVec S160x256x1024 32 := shapeCast _ xs shapeCasts_S327680x128_S160x256x1024
/-- Their activations. -/
def feats (xs : IVec S327680x128 32) : FVec Ideal S160x256x2048 .f32 :=
  concatenate S160x256x2048 2 [⟨S160x256x1024, (bitcastToFloat (F := Ideal) .f32 (Host.shli (rows xs) (broadcastInDim S160x256x1024 ![] bcast_S_S160x256x1024 (constantI S_ 32 16#32))))⟩,
    ⟨S160x256x1024, (bitcastToFloat (F := Ideal) .f32 (andi (rows xs) (broadcastInDim S160x256x1024 ![] bcast_S_S160x256x1024 (constantI S_ 32 4294901760#32))))⟩]
    concatenates_S160x256x1024_S160x256x1024_S160x256x2048_d2
/-- The tiles' experts. -/
def chosen (te : IVec S160 32) : IVec S160x1 32 :=
  broadcastInDim S160x1 ![0] bcast_S160_S160x1_0 (select (cmpi .slt te (broadcastInDim S160 ![] bcast_S_S160 (constantI S_ 32 0#32)))
    (addi te (broadcastInDim S160 ![] bcast_S_S160 (constantI S_ 32 32#32))) te)
/-- The rows against their experts' matrices. -/
def proj (te : IVec S160 32) (xs : IVec S327680x128 32) (w : FVec Ideal S32x2048x1024 .f32) : FVec Ideal S160x256x1024 .f32 :=
  Host.dotGeneral dot_S160x256x2048_S160x2048x1024_S160x256x1024_2_1_1_2_0_0 none (feats xs)
    (Host.gather gather_S32x2048x1024_S160x1_S160x2048x1024_12_0_n_n_0_1_120481024 w (chosen te))
/-- The gated pair. -/
def gates (a b : FVec Ideal S160x256x1024 .f32) : FVec Ideal S160x256x1024 .f32 :=
  mulf (mulf a (Host.divf (broadcastInDim S160x256x1024 ![] bcast_S_S160x256x1024 (constant S_ .f32 0x3F800000#32))
    (addf (broadcastInDim S160x256x1024 ![] bcast_S_S160x256x1024 (constant S_ .f32 0x3F800000#32)) (Host.exp (Host.negf a))))) b
/-- The gated products. -/
def prods (te : IVec S160 32) (xs : IVec S327680x128 32) (w1 w3 : FVec Ideal S32x2048x1024 .f32) (w2 : FVec Ideal S32x1024x2048 .f32) : FVec Ideal S160x256x2048 .f32 :=
  Host.dotGeneral dot_S160x256x1024_S160x1024x2048_S160x256x2048_2_1_1_2_0_0 none (gates (proj te xs w1) (proj te xs w3))
    (Host.gather gather_S32x1024x2048_S160x1_S160x1024x2048_12_0_n_n_0_1_110242048 w2 (chosen te))
/-- The tiles in use. -/
def used (nu : IVec S1 32) : IVec S160 1 :=
  cmpi .slt (iotaInDim S160 32 0) (broadcastInDim S160 ![] bcast_S_S160 (shapeCast _ nu shapeCasts_S1_S_))
/-- The products of the tiles in use, and zeros. -/
def kept (nu : IVec S1 32) (y : FVec Ideal S160x256x2048 .f32) : FVec Ideal S160x256x2048 .f32 :=
  select (broadcastInDim S160x256x2048 ![0, 1, 2] bcast_S160x1x1_S160x256x2048_0_1_2 (broadcastInDim S160x1x1 ![0] bcast_S160_S160x1x1_0 (used nu))) y
    (broadcastInDim S160x256x2048 ![] bcast_S_S160x256x2048 (id (constant S_ .f32 0x00000000#32)))

theorem res_eq (m : (ℓ : Loc nD τ sig) → Buf (Elt Ideal) ℓ) (c : Dev nD) : res_main_v40 (F := Ideal) m c
    = shapeCast _ (kept (m ((c.tc : Thread nD τ).loc main_arg3)) (prods (m ((c.tc : Thread nD τ).loc main_arg0)) (m ((c.tc : Thread nD τ).loc main_arg4))
        (m ((c.tc : Thread nD τ).loc main_arg5)) (m ((c.tc : Thread nD τ).loc main_arg6)) (m ((c.tc : Thread nD τ).loc main_arg7)))) shapeCasts_S160x256x2048_S655360x128 := rfl

/-! ## At an index -/

theorem rows_apply (xs : IVec S327680x128 32) (t : Fin 160) (r : Fin 256) (d : Fin 1024) :
    rows xs (ix3 t r d) = xs (ix2 (⟨2048 * t.val + (8 * r.val + d.val / 128), by omega⟩ : Fin 327680) (⟨d.val % 128, by omega⟩ : Fin 128)) := by
  refine shapeCast_apply _ _ _ _ ?_
  rw [Shape.rowMajor_val_three, Shape.rowMajor_val_two]
  show (2048 * t.val + (8 * r.val + d.val / 128)) * 128 + d.val % 128 = (t.val * 256 + r.val) * 1024 + d.val
  omega

theorem feats_apply (xs : IVec S327680x128 32) (t : Fin 160) (r : Fin 256) (k : Fin 2048) :
    feats xs (ix3 t r k) = act (fun d => rows xs (ix3 t r d)) k := by
  unfold feats act
  generalize rows xs = w
  by_cases h : k.val < 1024
  · rw [dif_pos h]
    pointwise []
    exact dif_pos h
  · rw [dif_neg h]
    pointwise []
    exact dif_neg h

theorem chosen_apply (te : IVec S160 32) (t : Fin 160) (h : (te (ix1 t)).toNat < 32) : chosen te (ix2 t (0 : Fin 1)) = te (ix1 t) := by
  unfold chosen
  pointwise []
  refine if_neg fun hc => ?_
  have hlt := IntOp.cmpi_slt.1 hc
  rw [BitVec.toInt_eq_toNat_of_lt (by omega)] at hlt
  have h0 : (0#32 : BitVec 32).toInt = 0 := by decide
  omega

theorem gates_apply (a b : FVec Ideal S160x256x1024 .f32) (i : S160x256x1024.Idx) : gates a b i = gate (a i) (b i) := by
  unfold gates gate
  pointwise []

theorem proj_apply (te : IVec S160 32) (xs : IVec S327680x128 32) (w : FVec Ideal S32x2048x1024 .f32) (t : Fin 160) (r : Fin 256) (j : Fin 1024) :
    proj te xs w (ix3 t r j) = ∑ k : Fin 2048, act (fun d => rows xs (ix3 t r d)) k
      * w (ix3 (⟨min (chosen te (ix2 t (0 : Fin 1))).toInt.toNat 31, by omega⟩ : Fin 32) k j) := by
  have whole : ∀ (a : FVec Ideal S160x256x2048 .f32) (b : FVec Ideal S160x2048x1024 .f32), Host.dotGeneral dot_S160x256x2048_S160x2048x1024_S160x256x1024_2_1_1_2_0_0 none a b (ix3 t r j)
      = ∑ k : Fin 2048, a (ix3 t r k) * b (ix3 t k j) := fun a b => by
    pointwise []
  refine (whole _ _).trans (Finset.sum_congr rfl fun k _ => ?_)
  rw [feats_apply, gather_apply]

theorem prods_apply (te : IVec S160 32) (xs : IVec S327680x128 32) (w1 w3 : FVec Ideal S32x2048x1024 .f32) (w2 : FVec Ideal S32x1024x2048 .f32)
    (t : Fin 160) (r : Fin 256) (q : Fin 2048) :
    prods te xs w1 w3 w2 (ix3 t r q) = mlp (fun d => rows xs (ix3 t r d))
      (fun k j => w1 (ix3 (⟨min (chosen te (ix2 t (0 : Fin 1))).toInt.toNat 31, by omega⟩ : Fin 32) k j))
      (fun k j => w3 (ix3 (⟨min (chosen te (ix2 t (0 : Fin 1))).toInt.toNat 31, by omega⟩ : Fin 32) k j))
      (fun j => w2 (ix3 (⟨min (chosen te (ix2 t (0 : Fin 1))).toInt.toNat 31, by omega⟩ : Fin 32) j q)) := by
  have whole : ∀ (a : FVec Ideal S160x256x1024 .f32) (b : FVec Ideal S160x1024x2048 .f32), Host.dotGeneral dot_S160x256x1024_S160x1024x2048_S160x256x2048_2_1_1_2_0_0 none a b (ix3 t r q)
      = ∑ k : Fin 1024, a (ix3 t r k) * b (ix3 t k q) := fun a b => by
    pointwise []
  refine (whole _ _).trans (Finset.sum_congr rfl fun k _ => ?_)
  rw [gates_apply, gather2_apply, proj_apply, proj_apply]

theorem used_apply (nu : IVec S1 32) (h160 : (nu (ix1 (0 : Fin 1))).toNat ≤ 160) (t : Fin 160) :
    used nu (ix1 t) = 1#1 ↔ t.val < (nu (ix1 (0 : Fin 1))).toNat := by
  have e : used nu (ix1 t) = IntOp.cmpi .slt (BitVec.ofNat 32 t.val) (nu (ix1 (0 : Fin 1))) := by
    unfold used
    pointwise []
  have ht : (BitVec.ofNat 32 t.val).toNat = t.val := by rw [BitVec.toNat_ofNat]; exact Nat.mod_eq_of_lt (by omega)
  rw [e, IntOp.cmpi_slt, BitVec.toInt_eq_toNat_of_lt (by rw [ht]; omega), BitVec.toInt_eq_toNat_of_lt (by omega), ht]
  exact_mod_cast Iff.rfl

theorem kept_apply (nu : IVec S1 32) (y : FVec Ideal S160x256x2048 .f32) (t : Fin 160) (r : Fin 256) (q : Fin 2048) :
    kept nu y (ix3 t r q) = if used nu (ix1 t) = 1#1 then y (ix3 t r q) else 0 := by
  unfold kept
  generalize used nu = u
  pointwise []
  exact if_congr Iff.rfl rfl (by show Ideal.ofBits .f32 0x00000000#32 = 0; simp [Ideal.ofBits, Ideal.ieee])

/-- The reference's array is the kernel's, of a schedule's tables: those in use name experts, and no more are in use than there are. -/
theorem ref_read (m : (ℓ : Loc nD τ sig) → Buf (Elt Ideal) ℓ) (c : Dev nD) (te : IVec S160 32) (nu : IVec S1 32) (xs : IVec S327680x128 32)
    (w1 w3 : FVec Ideal S32x2048x1024 .f32) (w2 : FVec Ideal S32x1024x2048 .f32)
    (e0 : m ((c.tc : Thread nD τ).loc main_arg0) = te) (e3 : m ((c.tc : Thread nD τ).loc main_arg3) = nu) (e4 : m ((c.tc : Thread nD τ).loc main_arg4) = xs)
    (e5 : m ((c.tc : Thread nD τ).loc main_arg5) = w1) (e6 : m ((c.tc : Thread nD τ).loc main_arg6) = w3) (e7 : m ((c.tc : Thread nD τ).loc main_arg7) = w2)
    (hhi : Cert.Kernel4Ideal.Run.count nu ≤ 160) (hE : ∀ n < Cert.Kernel4Ideal.Run.count nu, (te (Cert.Kernel4Ideal.Run.pos n)).toNat < 32) :
    res_main_v40 (F := Ideal) m c = Cert.Kernel4Ideal.Run.result te nu xs w1 w3 w2 := by
  have one : Cert.Kernel4Ideal.Run.count nu = (nu (ix1 (0 : Fin 1))).toNat := by
    unfold Cert.Kernel4Ideal.Run.count
    congr 2
    funext a
    match a with
    | ⟨0, h⟩ => exact Fin.ext (by have := (Cert.Kernel4Ideal.Run.only ⟨0, h⟩).isLt; show (Cert.Kernel4Ideal.Run.only ⟨0, h⟩).val = 0; exact Nat.lt_one_iff.1 this)
  have here : ∀ t : Fin 160, Cert.Kernel4Ideal.Run.pos t.val = ix1 t := fun t => by
    funext a
    match a with
    | ⟨0, h⟩ => exact Fin.ext (Nat.mod_eq_of_lt t.isLt)
  rw [res_eq, e0, e3, e4, e5, e6, e7]
  funext p
  have hp : (p 0).val < 655360 := (p 0).isLt
  have hq : (p 1).val < 128 := (p 1).isLt
  refine (shapeCast_apply _ _ p (ix3 (⟨(p 0).val / 4096, by omega⟩ : Fin 160) (⟨(p 0).val % 4096 / 16, by omega⟩ : Fin 256)
    (⟨128 * ((p 0).val % 16) + (p 1).val, by omega⟩ : Fin 2048)) ?_).trans ?_
  · rw [Shape.rowMajor_val_three, Shape.rowMajor_val_two]
    show ((p 0).val / 4096 * 256 + (p 0).val % 4096 / 16) * 2048 + (128 * ((p 0).val % 16) + (p 1).val) = (p 0).val * 128 + (p 1).val
    omega
  rw [kept_apply]
  unfold Cert.Kernel4Ideal.Run.result Cert.Kernel4Ideal.Run.entry
  generalize (⟨(p 0).val / 4096, _⟩ : Fin 160) = t
  by_cases hu : t.val < Cert.Kernel4Ideal.Run.count nu
  · rw [if_pos hu, if_pos ((used_apply nu (by rw [← one]; exact hhi) t).2 (by rw [← one]; exact hu)), prods_apply]
    have hE' : (te (ix1 t)).toNat < 32 := by rw [← here t]; exact hE t.val hu
    have en : (⟨min (chosen te (ix2 t (0 : Fin 1))).toInt.toNat 31, by omega⟩ : Fin 32) = Cert.Kernel4Ideal.Run.named (te (Cert.Kernel4Ideal.Run.pos t.val)) := by
      refine Fin.ext ?_
      show min (chosen te (ix2 t (0 : Fin 1))).toInt.toNat 31 = (te (Cert.Kernel4Ideal.Run.pos t.val)).toNat % 32
      rw [chosen_apply te t hE', here t, BitVec.toInt_eq_toNat_of_lt (by omega), Int.toNat_natCast]
      omega
    rw [en]
    exact congrArg (fun w => mlp w _ _ _) (funext fun d => rows_apply xs t _ d)
  · rw [if_neg hu, if_neg (fun h => hu (by rw [one]; exact (used_apply nu (by rw [← one]; exact hhi) t).1 h))]

end Cert.Reference4Ideal.Value

end
-- ==== Proof.Spec.lean ====
/- The attention over one sequence and one head as a real formula, and the facts about sums, quotients and
   exponentials of extended reals that both programs are read with. -/
module
public import Idealize.ShloMosaic.Lib.Pointwise

@[expose] public section

noncomputable section

namespace Moba

open Idealize.ShloMosaic

/-! ## The formula -/

/-- The product of key `i` with query `j`. -/
def dotp (Q K : ℕ → ℕ → ℝ) (i j : ℕ) : ℝ := ∑ e : Fin 128, K i e * Q j e

/-- The mean of block `n`'s keys, feature `e`. -/
def kmean (K : ℕ → ℕ → ℝ) (n e : ℕ) : ℝ := (∑ x : Fin 256, K (n * 256 + x) e) * (1 / 256)

/-- The gate of block `n` for query `j`: the product of the block's mean key with the query. -/
def gate (Q K : ℕ → ℕ → ℝ) (n j : ℕ) : ℝ := ∑ e : Fin 128, kmean K n e * Q j e

/-- Block `m` comes before block `n` in the order of the gates of query `j`: a larger gate, or the same and a smaller number. -/
def beats (Q K : ℕ → ℕ → ℝ) (j n m : ℕ) : Prop :=
  gate Q K n j < gate Q K m j ∨ gate Q K m j = gate Q K n j ∧ m < n

open Classical in
/-- How many of the first `q` blocks come before block `n`. -/
def rank (Q K : ℕ → ℕ → ℝ) (q j n : ℕ) : ℕ := (Finset.univ.filter fun m : Fin q => beats Q K j n m).card

/-- Whether query `r` of block `q` reads key `x` of block `n`: a key of its own block not after it, or a key of an earlier block
    among the three of largest gate. -/
def allow (Q K : ℕ → ℕ → ℝ) (q r n x : ℕ) : Prop :=
  n = q ∧ x ≤ r ∨ n < q ∧ rank Q K q (q * 256 + r) n < 3

open Classical in
/-- The weight of key `x` of block `n` for query `r` of block `q`. -/
def wgt (Q K : ℕ → ℕ → ℝ) (q r n x : ℕ) : ℝ :=
  if allow Q K q r n x then Real.exp (dotp Q K (n * 256 + x) (q * 256 + r) / Real.sqrt 128) else 0

/-- Feature `d` of the attention's result at query `r` of block `q`. -/
def att (Q K V : ℕ → ℕ → ℝ) (q r d : ℕ) : ℝ :=
  (∑ n : Fin (q + 1), ∑ x : Fin 256, V (n * 256 + x) d * wgt Q K q r n x) / (∑ n : Fin (q + 1), ∑ x : Fin 256, wgt Q K q r n x)

/-- Each query reads itself. -/
theorem allow_self (Q K : ℕ → ℕ → ℝ) (q r : ℕ) : allow Q K q r q r := .inl ⟨rfl, le_rfl⟩

theorem wgt_nonneg (Q K : ℕ → ℕ → ℝ) (q r n x : ℕ) : 0 ≤ wgt Q K q r n x := by
  unfold wgt; split <;> positivity

/-- The weights of a query sum to a positive number. -/
theorem den_pos (Q K : ℕ → ℕ → ℝ) (q : ℕ) (r : Fin 256) : 0 < ∑ n : Fin (q + 1), ∑ x : Fin 256, wgt Q K q r n x := by
  refine Finset.sum_pos' (fun n _ => Finset.sum_nonneg fun x _ => wgt_nonneg ..) ⟨Fin.last q, Finset.mem_univ _, ?_⟩
  refine Finset.sum_pos' (fun x _ => wgt_nonneg ..) ⟨r, Finset.mem_univ _, ?_⟩
  rw [wgt, if_pos (by simpa using allow_self Q K q r)]
  positivity

/-! ## Extended reals -/

/-- A finite sum of reals read as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe {x y : ℝ} (h : y ≠ 0) : Ideal.div (x : EReal) (y : EReal) = ((x / y : ℝ) : EReal) := by
  rw [Ideal.div_coe h, ← EReal.coe_mul, mul_one_div]

/-- An extended real between two reals, or above one and below the top, is a real. -/
theorem exists_real {x : EReal} (h : x ≠ ⊥) (h' : x ≠ ⊤) : ∃ r : ℝ, x = (r : EReal) := ⟨x.toReal, (EReal.coe_toReal h' h).symm⟩

/-- Powers of two at the named scale are exponentials at the scale `1 / √128`. -/
theorem exp2_scale (y : ℝ) : Ideal.exp2 ((y : EReal) * (((Real.sqrt 128)⁻¹ * (Real.log 2)⁻¹ : ℝ) : EReal))
    = ((Real.exp (y / Real.sqrt 128) : ℝ) : EReal) := by
  have h2 : Real.log 2 ≠ 0 := (Real.log_pos (by norm_num)).ne'
  rw [← EReal.coe_mul, Ideal.exp2_coe]
  norm_cast
  show (2 : ℝ) ^ (_ : ℝ) = _
  rw [Real.rpow_def_of_pos (by norm_num)]
  congr 1
  field_simp

theorem exp2_scale_bot (μ : ℝ) : Ideal.exp2 (((⊥ : EReal) - (μ : EReal)) * (((Real.sqrt 128)⁻¹ * (Real.log 2)⁻¹ : ℝ) : EReal)) = 0 := by
  have h : (0 : ℝ) < (Real.sqrt 128)⁻¹ * (Real.log 2)⁻¹ :=
    mul_pos (inv_pos.2 (Real.sqrt_pos.2 (by norm_num))) (inv_pos.2 (Real.log_pos (by norm_num)))
  rw [EReal.bot_sub, EReal.bot_mul_coe_of_pos h, Ideal.exp2_bot]

/-- Quotients of sums of weights do not change when every weight is taken at scores lowered by one number. -/
theorem att_shift (Q K V : ℕ → ℕ → ℝ) (q r d : ℕ) (t : ℝ) (ht : t ≠ 0) :
    (∑ n : Fin (q + 1), ∑ x : Fin 256, V (n * 256 + x) d * (wgt Q K q r n x * t))
      / (∑ n : Fin (q + 1), ∑ x : Fin 256, wgt Q K q r n x * t) = att Q K V q r d := by
  have h1 : (∑ n : Fin (q + 1), ∑ x : Fin 256, V (n * 256 + x) d * (wgt Q K q r n x * t))
      = (∑ n : Fin (q + 1), ∑ x : Fin 256, V (n * 256 + x) d * wgt Q K q r n x) * t := by
    simp only [Finset.sum_mul, mul_assoc]
  have h2 : (∑ n : Fin (q + 1), ∑ x : Fin 256, wgt Q K q r n x * t) = (∑ n : Fin (q + 1), ∑ x : Fin 256, wgt Q K q r n x) * t := by
    simp only [Finset.sum_mul]
  rw [h1, h2, att, mul_div_mul_right _ _ ht]

open Classical in
/-- The score of key `x` of block `n` for query `r` of block `q`, the bottom where the key is not read. -/
def mscore (Q K : ℕ → ℕ → ℝ) (q r n x : ℕ) : EReal :=
  if allow Q K q r n x then ((dotp Q K (n * 256 + x) (q * 256 + r) : ℝ) : EReal) else ⊥

/-- The kernel's weight of a masked score under a real maximum. -/
theorem exp2_mscore (Q K : ℕ → ℕ → ℝ) (q r n x : ℕ) (μ : ℝ) :
    Ideal.exp2 ((mscore Q K q r n x - (μ : EReal)) * (((Real.sqrt 128)⁻¹ * (Real.log 2)⁻¹ : ℝ) : EReal))
      = ((wgt Q K q r n x * Real.exp (-μ / Real.sqrt 128) : ℝ) : EReal) := by
  unfold mscore wgt
  split
  · rw [← EReal.coe_sub, exp2_scale, ← Real.exp_add]
    congr 3
    ring
  · rw [exp2_scale_bot, zero_mul]; rfl

/-- The kernel's quotient of the two weighted sums is the attention's result. -/
theorem quot_eq (Q K V : ℕ → ℕ → ℝ) (q : ℕ) (r : Fin 256) (d : ℕ) (μ : ℝ) (v e : ℕ → Fin 256 → EReal)
    (hv : ∀ n, n ≤ q → ∀ x, v n x = ((V (n * 256 + x) d : ℝ) : EReal))
    (he : ∀ n, n ≤ q → ∀ x, e n x = Ideal.exp2 ((mscore Q K q r n x - (μ : EReal)) * (((Real.sqrt 128)⁻¹ * (Real.log 2)⁻¹ : ℝ) : EReal))) :
    Ideal.div (∑ n : Fin (q + 1), ∑ x : Fin 256, v n x * e n x) (∑ n : Fin (q + 1), ∑ x : Fin 256, e n x)
      = ((att Q K V q r d : ℝ) : EReal) := by
  have hn : ∀ n : Fin (q + 1), n.val ≤ q := fun n => Nat.lt_succ_iff.1 n.isLt
  have ht := Real.exp_ne_zero (-μ / Real.sqrt 128)
  simp only [hv _ (hn _), he _ (hn _), exp2_mscore, ← EReal.coe_mul, coe_sum]
  rw [div_coe_coe, att_shift _ _ _ _ _ _ _ ht]
  simp only [← Finset.sum_mul]
  exact mul_ne_zero (den_pos Q K q r).ne' ht

end Moba

end
-- ==== Proof.Select.lean ====
/- The reference's selection by a stable sort of the gates, and its sums over the selected blocks, as the formula's sums over the blocks of
   few forerunners. -/
module
public import proofs.«01_k».proof.Proof.Spec
public import Idealize.ShloMosaic.Lib.SortFacts
public import Idealize.ShloMosaic.Lib.SortPrefix

@[expose] public section

noncomputable section

namespace Moba

open Idealize.ShloMosaic

/-! ## A stable sort's order -/

section Order

variable {n : ℕ} {κ : Type} [LinearOrder κ] (g : Fin n → κ)

/-- Position `a` goes before position `b`: a larger entry, or the same entry and an earlier position. -/
def goes (a b : Fin n) : Prop := g b < g a ∨ g a = g b ∧ a < b

/-- Inserting positions in turn, each before the later ones, sorts by the entry alone as by the entry and then the position. -/
theorem stableSort_tie (l : List (Fin n)) (hl : l.Pairwise (· < ·)) :
    stableSort (fun a b => decide (g b < g a)) l
      = stableSort (fun a b => decide (g b < g a) || (decide (g a = g b) && decide (a < b))) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    simp [not_lt.2 hab.le]

/-- The position the stable sort of the entries, the largest first, puts at place `i`. -/
def pick (i : Fin n) : Fin n := sortedFrom (fun a b => decide (g b < g a)) i

theorem pick_injective : Function.Injective (pick g) := sortedFrom_injective _

theorem goes_total : StrictTotalBefore fun a b : Fin n => decide (g b < g a) || (decide (g a = g b) && decide (a < b)) :=
  StrictTotalBefore.of_key_then_position (fun x y : κ => decide (y < x)) g (by simp)
    (fun a b c h h' => by simp only [decide_eq_true_eq] at *; exact h'.trans h)
    (fun a b => by simp only [decide_eq_true_eq]; rcases lt_trichotomy a b with h | h | h <;> simp [h])

theorem pick_goes (i j : Fin n) : goes g (pick g i) (pick g j) ↔ i < j := by
  have e : pick g = sortedFrom fun a b : Fin n => decide (g b < g a) || (decide (g a = g b) && decide (a < b)) := by
    funext k
    unfold pick sortedFrom
    exact congrArg _ (rfl : _ = _) |>.trans (List.get_of_eq (stableSort_tie g _ (List.pairwise_lt_finRange n)) _)
  have hB := goes_total g
  have no : ∀ i j : Fin n, i < j → ¬goes g (pick g j) (pick g i) := fun i j h => by
    have := sortedFrom_noInversion _ _ (fun a b h => hB.asymm a b h) (fun _ _ h => h) hB.negTrans i j h
    rw [← e] at this
    simpa [goes] using this
  refine ⟨fun h => ?_, fun h => ?_⟩
  · rcases lt_trichotomy i j with hij | rfl | hij
    · exact hij
    · rcases h with h | h
      · exact absurd h (lt_irrefl _)
      · exact absurd h.2 (lt_irrefl _)
    · exact absurd h (no j i hij)
  · have := hB.total (pick g i) (pick g j) ((pick_injective g).ne h.ne)
    rcases this with h' | h'
    · simpa [goes] using h'
    · exact absurd (by simpa [goes] using h') (no i j h)

open Classical in
/-- A position is among the first `k` exactly when fewer than `k` positions go before it. -/
theorem exists_pick_iff (k : ℕ) (p : Fin n) : (∃ i : Fin n, i.val < k ∧ pick g i = p) ↔ (Finset.univ.filter fun a => goes g a p).card < k := by
  obtain ⟨i, rfl⟩ := sortedFrom_surjective (fun a b => decide (g b < g a)) p
  have : (Finset.univ.filter fun a => goes g a (pick g i)) = (Finset.univ.filter fun j : Fin n => j < i).map ⟨pick g, pick_injective g⟩ := by
    ext a
    obtain ⟨j, rfl⟩ := sortedFrom_surjective (fun a b => decide (g b < g a)) a
    simp only [Finset.mem_filter, Finset.mem_univ, true_and, Finset.mem_map, Function.Embedding.coeFn_mk]
    refine (pick_goes g j i).trans ⟨fun h => ⟨j, h, rfl⟩, ?_⟩
    rintro ⟨j', h, e⟩
    rwa [← pick_injective g e]
  have hc : (Finset.univ.filter fun a => goes g a (pick g i)).card = i.val := by
    rw [this, Finset.card_map, ← Fin.card_Iio i]
    exact congrArg Finset.card (Finset.ext fun a => by rw [Finset.mem_filter, Finset.mem_Iio]; exact ⟨fun h => h.2, fun h => ⟨Finset.mem_univ _, h⟩⟩)
  show (∃ i', _ ∧ pick g i' = pick g i) ↔ (Finset.univ.filter fun a => goes g a (pick g i)).card < k
  rw [hc]
  exact ⟨fun ⟨j, hj, e⟩ => pick_injective g e ▸ hj, fun h => ⟨i, h, rfl⟩⟩

end Order

/-! ## The selected blocks -/

/-- The gates of a query, the bottom from its own block on. -/
def masked8 (G : ℕ → ℝ) (own : ℕ) (m : Fin 8) : EReal := if m.val < own then ((G m : ℝ) : EReal) else ⊥

open Classical in
theorem goes_masked (G : ℕ → ℝ) (own : ℕ) (hown : own < 8) (p : Fin 8) (hp : p.val < own) :
    (Finset.univ.filter fun a => goes (masked8 G own) a p).card
      = (Finset.univ.filter fun m : Fin own => G p < G m ∨ G m = G p ∧ m.val < p.val).card := by
  symm
  refine Finset.card_bij (fun m _ => ⟨m.val, m.isLt.trans hown⟩) ?_ ?_ ?_
  · intro m hm
    rw [Finset.mem_filter] at hm ⊢
    refine ⟨Finset.mem_univ _, ?_⟩
    simp only [goes, masked8, if_pos hp, if_pos m.isLt, EReal.coe_lt_coe_iff, EReal.coe_eq_coe_iff, Fin.lt_def]
    exact hm.2
  · intro a _ b _ h
    exact Fin.ext (by simpa using h)
  · intro b hb
    rw [Finset.mem_filter] at hb
    have hlt : b.val < own := by
      by_contra hge
      have := hb.2
      simp [goes, masked8, hp, hge] at this
    have hb2 := hb.2
    simp only [goes, masked8, if_pos hp, if_pos hlt, EReal.coe_lt_coe_iff, EReal.coe_eq_coe_iff, Fin.lt_def] at hb2
    exact ⟨⟨b.val, hlt⟩, Finset.mem_filter.2 ⟨Finset.mem_univ _, hb2⟩, rfl⟩

/-- The block the selection puts at place `i` of three. -/
def sel (G : ℕ → ℝ) (own : ℕ) (i : Fin 3) : Fin 8 := pick (masked8 G own) ⟨i.val, by omega⟩

/-- A sum over the blocks before one, as a sum over all eight with zeros. -/
theorem sum_below (own : ℕ) (hown : own ≤ 8) (F : ℕ → ℝ) : ∑ n : Fin own, F n = ∑ p : Fin 8, if p.val < own then F p else 0 := by
  rw [Fin.sum_univ_eq_sum_range, Fin.sum_univ_eq_sum_range (fun p => if p < own then F p else 0), ← Finset.sum_filter]
  refine Finset.sum_congr ?_ fun _ _ => rfl
  ext a
  rw [Finset.mem_filter, Finset.mem_range, Finset.mem_range]
  exact ⟨fun h => ⟨by omega, h⟩, fun h => h.2⟩

theorem sel_injective (G : ℕ → ℝ) (own : ℕ) : Function.Injective (sel G own) := fun a b h =>
  Fin.ext (congrArg Fin.val (pick_injective _ h) :)

/-- An earlier block is among the selected ones exactly when its rank is below three. -/
theorem rank_lt_iff (Q K : ℕ → ℕ → ℝ) (own j : ℕ) (hown : own < 8) (p : Fin 8) (hp : p.val < own) :
    rank Q K own j p.val < 3 ↔ ∃ i, sel (fun m => gate Q K m j) own i = p := by
  classical
  have h1 := exists_pick_iff (masked8 (fun m => gate Q K m j) own) 3 p
  rw [goes_masked _ own hown p hp] at h1
  have h0 : (rank Q K own j p.val < 3) = ((Finset.univ.filter fun m : Fin own =>
      (fun m => gate Q K m j) p.val < (fun m => gate Q K m j) m.val ∨ (fun m => gate Q K m j) m.val = (fun m => gate Q K m j) p.val ∧ m.val < p.val).card < 3) := by
    refine congrArg (fun s : Finset (Fin own) => s.card < 3) (Finset.ext fun m => ?_)
    rw [Finset.mem_filter, Finset.mem_filter]
    exact Iff.rfl
  rw [h0]
  refine h1.symm.trans ⟨fun ⟨i, hi, e⟩ => ⟨⟨i.val, hi⟩, e⟩, fun ⟨i, e⟩ => ⟨⟨i.val, by omega⟩, i.isLt, e⟩⟩

/-- The sum over the selected blocks before the query's own is the sum over the earlier blocks among the three of largest gate. -/
theorem sum_sel (Q K : ℕ → ℕ → ℝ) (own j : ℕ) (hown : own < 8) (f : ℕ → ℝ) (σ : Fin 3 → Fin 8) (hσ : σ = sel (fun m => gate Q K m j) own) :
    (∑ i : Fin 3, if (σ i).val < own then f (σ i) else 0) = ∑ n : Fin own, if rank Q K own j n < 3 then f n else 0 := by
  classical
  have hinj : Function.Injective σ := hσ ▸ sel_injective _ own
  have hr : ∀ p : Fin 8, p.val < own → (rank Q K own j p < 3 ↔ ∃ i, σ i = p) := fun p hp => hσ ▸ rank_lt_iff Q K own j hown p hp
  rw [sum_below own hown.le fun n => if rank Q K own j n < 3 then f n else 0]
  have hi : (∑ i : Fin 3, if (σ i).val < own then f (σ i) else 0) = ∑ p ∈ Finset.univ.image σ, if p.val < own then f p else 0 :=
    (Finset.sum_image (f := fun p : Fin 8 => if p.val < own then f p else 0) fun a _ b _ h => hinj h).symm
  rw [hi, ← Finset.sum_subset (Finset.subset_univ (Finset.univ.image σ))
    (f := fun p : Fin 8 => if p.val < own then (if rank Q K own j p < 3 then f p else 0) else 0)]
  · refine Finset.sum_congr rfl fun p hp => ?_
    obtain ⟨i, -, e⟩ := Finset.mem_image.mp hp
    by_cases h : p.val < own
    · rw [if_pos h, if_pos h, if_pos ((hr p h).mpr ⟨i, e⟩)]
    · rw [if_neg h, if_neg h]
  · intro p _ hp
    by_cases h : p.val < own
    · rw [if_pos h, if_neg fun hh => ?_]
      obtain ⟨i, e⟩ := (hr p h).mp hh
      exact hp (Finset.mem_image.mpr ⟨i, Finset.mem_univ _, e⟩)
    · rw [if_neg h]

/-! ## The reference's sums -/

/-- The exponential of the scaled product of query `r` of block `q` with key `x` of block `n`. -/
def escore (Q K : ℕ → ℕ → ℝ) (q r n x : ℕ) : ℝ := Real.exp (dotp Q K (n * 256 + x) (q * 256 + r) / Real.sqrt 128)

/-- The weighted sum over the selected blocks and the own block is the weighted sum over the blocks up to the own one. -/
theorem sum_sel_own (Q K : ℕ → ℕ → ℝ) (q r : ℕ) (hq : q < 8) (σ : Fin 3 → Fin 8)
    (hσ : σ = sel (fun m => gate Q K m (q * 256 + r)) q) (f : ℕ → ℝ) :
    (∑ n : Fin 3, ∑ x : Fin 256, f ((σ n).val * 256 + x) * (if (σ n).val < q then escore Q K q r (σ n) x else 0))
        + ∑ x : Fin 256, f (q * 256 + x) * (if x.val ≤ r then escore Q K q r q x else 0)
      = ∑ n : Fin (q + 1), ∑ x : Fin 256, f (n * 256 + x) * wgt Q K q r n x := by
  classical
  rw [Fin.sum_univ_castSucc (n := q)]
  have h1 : (∑ n : Fin 3, ∑ x : Fin 256, f ((σ n).val * 256 + x) * (if (σ n).val < q then escore Q K q r (σ n) x else 0))
      = ∑ n : Fin 3, if (σ n).val < q then (fun m => ∑ x : Fin 256, f (m * 256 + x) * escore Q K q r m x) (σ n).val else 0 := by
    refine Finset.sum_congr rfl fun n _ => ?_
    by_cases h : (σ n).val < q
    · simp only [if_pos h]
    · simp only [if_neg h, mul_zero, Finset.sum_const_zero]
  rw [h1, sum_sel Q K q (q * 256 + r) hq (fun m => ∑ x : Fin 256, f (m * 256 + x) * escore Q K q r m x) σ hσ]
  congr 1
  · refine Finset.sum_congr rfl fun n _ => ?_
    have hn : (Fin.castSucc n).val = n.val := rfl
    have hlt := n.isLt
    by_cases h : rank Q K q (q * 256 + r) n < 3
    · rw [if_pos h]
      refine Finset.sum_congr rfl fun x _ => ?_
      rw [hn, wgt, if_pos (show allow Q K q r n x from Or.inr ⟨hlt, h⟩)]
      rfl
    · rw [if_neg h]
      symm
      refine Finset.sum_eq_zero fun x _ => ?_
      rw [hn, wgt, if_neg, mul_zero]
      rintro (⟨e, -⟩ | ⟨-, e⟩)
      · omega
      · exact h e
  · refine Finset.sum_congr rfl fun x _ => ?_
    have hl : (Fin.last q).val = q := rfl
    rw [hl, wgt]
    by_cases h : x.val ≤ r
    · rw [if_pos h, if_pos (show allow Q K q r q x from Or.inl ⟨rfl, h⟩)]
      rfl
    · rw [if_neg h, if_neg]
      rintro (⟨-, e⟩ | ⟨e, -⟩)
      · exact h e
      · omega

/-- The exponential of a masked score, lowered by a real. -/
theorem exp_masked (p : Prop) [Decidable p] (y μ : ℝ) :
    Ideal.exp ((if p then (y : EReal) else ⊥) - (μ : EReal)) = (((if p then Real.exp y else 0) * Real.exp (-μ) : ℝ) : EReal) := by
  split
  · rw [← EReal.coe_sub, Ideal.exp_coe, ← Real.exp_add, sub_eq_add_neg]
  · rw [EReal.bot_sub, zero_mul]
    simp

/-- A masked score: the scaled product where the key is read, the bottom elsewhere. -/
def rscore (Q K : ℕ → ℕ → ℝ) (q r n x : ℕ) (p : Prop) [Decidable p] : EReal :=
  if p then ((dotp Q K (n * 256 + x) (q * 256 + r) / Real.sqrt 128 : ℝ) : EReal) else ⊥

/-- The reference's softmax over the selected and the own scores, against the values, is the attention's result. -/
theorem soft_att (Q K V : ℕ → ℕ → ℝ) (q : ℕ) (r : Fin 256) (d : ℕ) (hq : q < 8) (σ : Fin 3 → Fin 8)
    (hσ : σ = sel (fun m => gate Q K m (q * 256 + r)) q) (M Z : EReal) (μ : ℝ) (hM : M = (μ : EReal))
    (s : Fin 3 → Fin 256 → EReal) (hs : ∀ n x, s n x = rscore Q K q r (σ n) x ((σ n).val < q))
    (t : Fin 256 → EReal) (ht : ∀ x, t x = rscore Q K q r q x (x.val ≤ r.val))
    (hZ : Z = (∑ n : Fin 3, ∑ x : Fin 256, Ideal.exp (s n x - M)) + ∑ x : Fin 256, Ideal.exp (t x - M)) :
    (∑ n : Fin 3, ∑ x : Fin 256, Ideal.div (Ideal.exp (s n x - M)) Z * ((V ((σ n).val * 256 + x) d : ℝ) : EReal))
        + ∑ x : Fin 256, Ideal.div (Ideal.exp (t x - M)) Z * ((V (q * 256 + x) d : ℝ) : EReal)
      = ((att Q K V q r d : ℝ) : EReal) := by
  have es : ∀ n x, Ideal.exp (s n x - M)
      = (((if (σ n).val < q then escore Q K q r (σ n) x else 0) * Real.exp (-μ) : ℝ) : EReal) := fun n x => by
    rw [hs, hM]; exact exp_masked _ _ _
  have et : ∀ x, Ideal.exp (t x - M)
      = (((if x.val ≤ r.val then escore Q K q r q x else 0) * Real.exp (-μ) : ℝ) : EReal) := fun x => by
    rw [ht, hM]; exact exp_masked _ _ _
  have hμ := Real.exp_ne_zero (-μ)
  have hden := sum_sel_own Q K q r hq σ hσ (fun _ => 1)
  have hnum := sum_sel_own Q K q r hq σ hσ (fun i => V i d)
  simp only [one_mul] at hden
  have hpos := (den_pos Q K q r).ne'
  simp only [es, et, coe_sum, ← EReal.coe_add, ← Finset.sum_mul, ← add_mul, hden] at hZ
  have hZ0 := mul_ne_zero hpos hμ
  simp only [es, et, hZ, div_coe_coe hZ0, ← EReal.coe_mul, coe_sum, ← EReal.coe_add]
  refine congrArg _ ?_
  rw [att, ← hnum, add_div, Finset.sum_div, Finset.sum_div]
  congr 1
  · refine Finset.sum_congr rfl fun n _ => ?_
    rw [Finset.sum_div]
    refine Finset.sum_congr rfl fun x _ => ?_
    rw [mul_div_mul_right _ _ hμ]
    ring
  · refine Finset.sum_congr rfl fun x _ => ?_
    rw [mul_div_mul_right _ _ hμ]
    ring

end Moba

end
-- ==== Proof.Ref.lean ====
/- The reference's operations in stages, and each stage read at an index. -/
module
public import proofs.«01_k».proof.Proof.Select
public import proofs.«01_k».proof.Proof.Gen.ReferenceIdeal.Run
public import Idealize.ShloMosaic.Lib.MatmulPlain
public import Idealize.ShloMosaic.Lib.Tactic
public import Idealize.ShloMosaic.Lib.Pointwise
public import Idealize.ShloMosaic.Lib.WordCmp

@[expose] public section

set_option maxRecDepth 16384

noncomputable section

namespace Cert.ReferenceIdeal.Att

open Cert.ReferenceIdeal Cert.ReferenceIdeal.Gen Idealize.ShloMosaic Idealize.ShloMosaic.TcCoe Idealize.SL.Sem
open Cert.ReferenceIdeal.Value
open Moba

/-! ## The stages -/

variable (x : FVec Ideal S16384x6656 .f32)

/-- The queries by sequence, head, block, row and feature. -/
def qs : FVec Ideal S8x8x8x256x128 .f32 :=
  transpose S8x8x8x256x128 [0, 3, 1, 2, 4] (shapeCast S8x8x256x8x128 (extractStridedSlice S16384x1024 ![0, 3584] x slices_S16384x6656_S16384x1024_0_3584)
    shapeCasts_S16384x1024_S8x8x256x8x128) transposes_S8x8x256x8x128_S8x8x8x256x128_0_3_1_2_4

/-- The keys likewise. -/
def ks : FVec Ideal S8x8x8x256x128 .f32 :=
  transpose S8x8x8x256x128 [0, 3, 1, 2, 4] (shapeCast S8x8x256x8x128 (extractStridedSlice S16384x1024 ![0, 4608] x slices_S16384x6656_S16384x1024_0_4608)
    shapeCasts_S16384x1024_S8x8x256x8x128) transposes_S8x8x256x8x128_S8x8x8x256x128_0_3_1_2_4

/-- The values likewise. -/
def vs : FVec Ideal S8x8x8x256x128 .f32 :=
  transpose S8x8x8x256x128 [0, 3, 1, 2, 4] (shapeCast S8x8x256x8x128 (extractStridedSlice S16384x1024 ![0, 5632] x slices_S16384x6656_S16384x1024_0_5632)
    shapeCasts_S16384x1024_S8x8x256x8x128) transposes_S8x8x256x8x128_S8x8x8x256x128_0_3_1_2_4

/-- The mean keys. -/
def km (k : FVec Ideal S8x8x8x256x128 .f32) : FVec Ideal S8x8x8x128 .f32 :=
  Host.divf (Host.reduceAdd k (constant S_ .f32 0x00000000#32) reducesTo_S8x8x8x256x128_S8x8x8x128_d3 h_S_)
    (broadcastInDim S8x8x8x128 ![] bcast_S_S8x8x8x128 (constant S_ .f32 0x43800000#32))

/-- The scale of the scores. -/
def scl : FVec Ideal S_ .f32 := Host.divf (constant S_ .f32 0x3F800000#32) (Host.sqrt (constant S_ .f32 0x43000000#32))

/-- The gates, the bottom from the own block on. -/
def gates (q : FVec Ideal S8x8x8x256x128 .f32) (k : FVec Ideal S8x8x8x128 .f32) : FVec Ideal S8x8x8x256x8 .f32 :=
  select (broadcastInDim S8x8x8x256x8 ![0, 1, 2, 3, 4] bcast_S1x1x8x1x8_S8x8x8x256x8_0_1_2_3_4 (broadcastInDim S1x1x8x1x8 ![2, 4] bcast_S8x8_S1x1x8x1x8_2_4
      (cmpi .slt (broadcastInDim S8x8 ![0, 1] bcast_S1x8_S8x8_0_1 (broadcastInDim S1x8 ![1] bcast_S8_S1x8_1 (iotaInDim S8 32 0)))
        (broadcastInDim S8x8 ![0, 1] bcast_S8x1_S8x8_0_1 (broadcastInDim S8x1 ![0] bcast_S8_S8x1_0 (iotaInDim S8 32 0))))))
    (Host.dotGeneral dot_S8x8x8x256x128_S8x8x8x128_S8x8x8x256x8_4_3_23_2_01_01 none q k)
    (broadcastInDim S8x8x8x256x8 ![] bcast_S_S8x8x8x256x8 (id (constant S_ .f32 0xFF800000#32)))

/-- The three largest gates. -/
def topVal (g : FVec Ideal S8x8x8x256x8 .f32) : FVec Ideal S8x8x8x256x3 .f32 :=
  (Host.topK S8x8x8x256x3 4 (FloatOps.cmpfTotal .gt) g sliceFits_S8x8x8x256x8_S8x8x8x256x3).1

/-- The blocks they are of. -/
def topIdx (g : FVec Ideal S8x8x8x256x8 .f32) : IVec S8x8x8x256x3 32 :=
  (Host.topK S8x8x8x256x3 4 (FloatOps.cmpfTotal .gt) g sliceFits_S8x8x8x256x8_S8x8x8x256x3).2

/-- The sequence's number, at every entry of the index array. -/
def seqIdx : IVec S8x8x8x256x3x1 32 :=
  broadcastInDim S8x8x8x256x3x1 ![0, 1, 2, 3, 4] bcast_S8x8x8x256x3_S8x8x8x256x3x1_0_1_2_3_4 (broadcastInDim S8x8x8x256x3 ![0, 1, 2, 3, 4]
    bcast_S8x1x1x1x1_S8x8x8x256x3_0_1_2_3_4 (select (cmpi .slt (broadcastInDim S8x1x1x1x1 ![0] bcast_S8_S8x1x1x1x1_0 (iotaInDim S8 32 0))
        (broadcastInDim S8x1x1x1x1 ![] bcast_S_S8x1x1x1x1 (constantI S_ 32 0#32)))
      (addi (broadcastInDim S8x1x1x1x1 ![0] bcast_S8_S8x1x1x1x1_0 (iotaInDim S8 32 0)) (broadcastInDim S8x1x1x1x1 ![] bcast_S_S8x1x1x1x1 (constantI S_ 32 8#32)))
      (broadcastInDim S8x1x1x1x1 ![0] bcast_S8_S8x1x1x1x1_0 (iotaInDim S8 32 0))))

/-- The head's number. -/
def headIdx : IVec S8x8x8x256x3x1 32 :=
  broadcastInDim S8x8x8x256x3x1 ![0, 1, 2, 3, 4] bcast_S8x8x8x256x3_S8x8x8x256x3x1_0_1_2_3_4 (broadcastInDim S8x8x8x256x3 ![0, 1, 2, 3, 4]
    bcast_S1x8x1x1x1_S8x8x8x256x3_0_1_2_3_4 (select (cmpi .slt (broadcastInDim S1x8x1x1x1 ![1] bcast_S8_S1x8x1x1x1_1 (iotaInDim S8 32 0))
        (broadcastInDim S1x8x1x1x1 ![] bcast_S_S1x8x1x1x1 (constantI S_ 32 0#32)))
      (addi (broadcastInDim S1x8x1x1x1 ![1] bcast_S8_S1x8x1x1x1_1 (iotaInDim S8 32 0)) (broadcastInDim S1x8x1x1x1 ![] bcast_S_S1x8x1x1x1 (constantI S_ 32 8#32)))
      (broadcastInDim S1x8x1x1x1 ![1] bcast_S8_S1x8x1x1x1_1 (iotaInDim S8 32 0))))

/-- The selected block's number, a negative one counted from the end. -/
def blockIdx (t : IVec S8x8x8x256x3 32) : IVec S8x8x8x256x3x1 32 :=
  broadcastInDim S8x8x8x256x3x1 ![0, 1, 2, 3, 4] bcast_S8x8x8x256x3_S8x8x8x256x3x1_0_1_2_3_4
    (select (cmpi .slt t (broadcastInDim S8x8x8x256x3 ![] bcast_S_S8x8x8x256x3 (constantI S_ 32 0#32)))
      (addi t (broadcastInDim S8x8x8x256x3 ![] bcast_S_S8x8x8x256x3 (constantI S_ 32 8#32))) t)

/-- The selected blocks of an array of keys or values. -/
def pickRows (k : FVec Ideal S8x8x8x256x128 .f32) (t : IVec S8x8x8x256x3 32) : FVec Ideal S8x8x8x256x3x256x128 .f32 :=
  Host.gather gather_S8x8x8x256x128_S8x8x8x256x3x3_S8x8x8x256x3x256x128_56_012_n_n_012_5_111256128 k (fn_main_v48 (F := Ideal) seqIdx headIdx (blockIdx t))

/-- The scores of the selected blocks, the bottom where the gate is not a real. -/
def selScore (q : FVec Ideal S8x8x8x256x128 .f32) (kg : FVec Ideal S8x8x8x256x3x256x128 .f32) (g : FVec Ideal S8x8x8x256x3 .f32) (c : FVec Ideal S_ .f32) :
    FVec Ideal S8x8x8x256x3x256 .f32 :=
  select (broadcastInDim S8x8x8x256x3x256 ![0, 1, 2, 3, 4, 5] bcast_S8x8x8x256x3x1_S8x8x8x256x3x256_0_1_2_3_4_5 (broadcastInDim S8x8x8x256x3x1 ![0, 1, 2, 3, 4]
      bcast_S8x8x8x256x3_S8x8x8x256x3x1_0_1_2_3_4 (cmpf .olt (Host.absf g) (broadcastInDim S8x8x8x256x3 ![] bcast_S_S8x8x8x256x3 (constant S_ .f32 0x7F800000#32)))))
    (mulf (Host.dotGeneral dot_S8x8x8x256x128_S8x8x8x256x3x256x128_S8x8x8x256x3x256_4_6_n_45_0123_0123 none q kg)
      (broadcastInDim S8x8x8x256x3x256 ![] bcast_S_S8x8x8x256x3x256 c))
    (broadcastInDim S8x8x8x256x3x256 ![] bcast_S_S8x8x8x256x3x256 (id (constant S_ .f32 0xFF800000#32)))

/-- The scores of the own block, the bottom after the query. -/
def ownScore (q k : FVec Ideal S8x8x8x256x128 .f32) (c : FVec Ideal S_ .f32) : FVec Ideal S8x8x8x256x256 .f32 :=
  select (broadcastInDim S8x8x8x256x256 ![3, 4] bcast_S256x256_S8x8x8x256x256_3_4
      (cmpi .sle (broadcastInDim S256x256 ![0, 1] bcast_S1x256_S256x256_0_1 (broadcastInDim S1x256 ![1] bcast_S256_S1x256_1 (iotaInDim S256 32 0)))
        (broadcastInDim S256x256 ![0, 1] bcast_S256x1_S256x256_0_1 (broadcastInDim S256x1 ![0] bcast_S256_S256x1_0 (iotaInDim S256 32 0)))))
    (mulf (Host.dotGeneral dot_S8x8x8x256x128_S8x8x8x256x128_S8x8x8x256x256_4_4_3_3_012_012 none q k)
      (broadcastInDim S8x8x8x256x256 ![] bcast_S_S8x8x8x256x256 c))
    (broadcastInDim S8x8x8x256x256 ![] bcast_S_S8x8x8x256x256 (id (constant S_ .f32 0xFF800000#32)))

/-- All scores of a query in a row. -/
def scores (a : FVec Ideal S8x8x8x256x3x256 .f32) (b : FVec Ideal S8x8x8x256x256 .f32) : FVec Ideal S8x8x8x256x1024 .f32 :=
  fn_main_v91 (F := Ideal) (shapeCast S8x8x8x256x768 a shapeCasts_S8x8x8x256x3x256_S8x8x8x256x768) b

/-- The largest score of a query. -/
def largest (s : FVec Ideal S8x8x8x256x1024 .f32) : FVec Ideal S8x8x8x256 .f32 :=
  maximumf (broadcastInDim S8x8x8x256 ![] bcast_S_S8x8x8x256 (constant S_ .f32 0xFF800000#32))
    (Host.reduce FloatOps.maximumf s (constant S_ .f32 0xFF800000#32) reducesTo_S8x8x8x256x1024_S8x8x8x256_d4 h_S_)

/-- The exponentials of the scores less the largest. -/
def expo (s : FVec Ideal S8x8x8x256x1024 .f32) (m : FVec Ideal S8x8x8x256 .f32) : FVec Ideal S8x8x8x256x1024 .f32 :=
  Host.exp (subf s (broadcastInDim S8x8x8x256x1024 ![0, 1, 2, 3, 4] bcast_S8x8x8x256x1_S8x8x8x256x1024_0_1_2_3_4
    (broadcastInDim S8x8x8x256x1 ![0, 1, 2, 3] bcast_S8x8x8x256_S8x8x8x256x1_0_1_2_3 m)))

/-- Their sum. -/
def total (e : FVec Ideal S8x8x8x256x1024 .f32) : FVec Ideal S8x8x8x256 .f32 :=
  Host.reduceAdd e (constant S_ .f32 0x00000000#32) reducesTo_S8x8x8x256x1024_S8x8x8x256_d4 h_S_

/-- The weights of the softmax. -/
def probs (e : FVec Ideal S8x8x8x256x1024 .f32) (z : FVec Ideal S8x8x8x256 .f32) : FVec Ideal S8x8x8x256x1024 .f32 :=
  Host.divf e (broadcastInDim S8x8x8x256x1024 ![0, 1, 2, 3, 4] bcast_S8x8x8x256x1_S8x8x8x256x1024_0_1_2_3_4
    (broadcastInDim S8x8x8x256x1 ![0, 1, 2, 3] bcast_S8x8x8x256_S8x8x8x256x1_0_1_2_3 z))

/-- The weighted values. -/
def mix (p : FVec Ideal S8x8x8x256x1024 .f32) (vg : FVec Ideal S8x8x8x256x3x256x128 .f32) (v : FVec Ideal S8x8x8x256x128 .f32) : FVec Ideal S8x8x8x256x128 .f32 :=
  addf (Host.dotGeneral dot_S8x8x8x256x3x256_S8x8x8x256x3x256x128_S8x8x8x256x128_54_54_n_6_0123_0123 none
      (shapeCast S8x8x8x256x3x256 (extractStridedSlice S8x8x8x256x768 ![0, 0, 0, 0, 0] p slices_S8x8x8x256x1024_S8x8x8x256x768_0_0_0_0_0)
        shapeCasts_S8x8x8x256x768_S8x8x8x256x3x256) vg)
    (Host.dotGeneral dot_S8x8x8x256x256_S8x8x8x256x128_S8x8x8x256x128_4_3_3_4_012_012 none
      (extractStridedSlice S8x8x8x256x256 ![0, 0, 0, 0, 768] p slices_S8x8x8x256x1024_S8x8x8x256x256_0_0_0_0_768) v)

/-- The result in the argument's order of rows. -/
def layout (o : FVec Ideal S8x8x8x256x128 .f32) : FVec Ideal S16384x1024 .f32 :=
  shapeCast S16384x1024 (transpose S8x8x256x8x128 [0, 2, 3, 1, 4] o transposes_S8x8x8x256x128_S8x8x256x8x128_0_2_3_1_4) shapeCasts_S8x8x256x8x128_S16384x1024

/-- All gates of the argument. -/
def allGates : FVec Ideal S8x8x8x256x8 .f32 := gates (qs x) (km (ks x))

/-- All scores of the argument. -/
def allScores : FVec Ideal S8x8x8x256x1024 .f32 :=
  scores (selScore (qs x) (pickRows (ks x) (topIdx (allGates x))) (topVal (allGates x)) scl) (ownScore (qs x) (ks x) scl)

/-- All exponentials of the argument. -/
def allExpo : FVec Ideal S8x8x8x256x1024 .f32 := expo (allScores x) (largest (allScores x))

/-- The staged result. -/
def staged : FVec Ideal S16384x1024 .f32 :=
  layout (mix (probs (allExpo x) (total (allExpo x))) (pickRows (vs x) (topIdx (allGates x))) (vs x))

/-- The reference's result is the staged one. -/
theorem res_eq (m : (ℓ : Loc nD τ sig) → Buf (Elt Ideal) ℓ) (c : Dev nD) :
    res_main_v110 m c = staged (m ((c.tc : Thread nD τ).loc main_arg0)) := by
  sl_kernel_rfl

end Cert.ReferenceIdeal.Att

end
-- ==== Proof.RefRead.lean ====
/- The reference's stages read at an index. -/
module
public import proofs.«01_k».proof.Proof.Ref

@[expose] public section

set_option maxRecDepth 16384

noncomputable section

namespace Cert.ReferenceIdeal.Att

open Cert.ReferenceIdeal Cert.ReferenceIdeal.Gen Idealize.ShloMosaic Idealize.ShloMosaic.TcCoe Idealize.SL.Sem
open Cert.ReferenceIdeal.Value Idealize.ShloMosaic.WordCmp
open Moba

/-! ## The constants -/

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_256 : Ideal.ofBits .f32 0x43800000#32 = ((256 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_one : Ideal.ofBits .f32 0x3F800000#32 = ((1 : ℝ) : EReal) := by
  simp [Ideal.ofBits, Ideal.ieee, -EReal.coe_mul]; norm_num

/-- The scale is `1 / √128`. -/
theorem scl_apply : scl ix0 = ((1 / Real.sqrt 128 : ℝ) : EReal) := by
  show Ideal.div (Ideal.ofBits .f32 0x3F800000#32) (Ideal.sqrt (Ideal.ofBits .f32 0x43000000#32)) = _
  rw [ofBits_one, ofBits_128, Ideal.sqrt_coe, if_neg (by norm_num), div_coe_coe (Real.sqrt_ne_zero'.2 (by norm_num))]

/-! ## The heads, the mean keys and the gates -/

variable (x : FVec Ideal S16384x6656 .f32)

theorem qs_apply (b h o : Fin 8) (q : Fin 256) (d : Fin 128) : qs x (ix5 b h o q d) =
    x (ix2 ⟨b.val * 2048 + (o.val * 256 + q.val), by omega⟩ ⟨(28 + h.val) * 128 + d.val, by omega⟩) := by
  pointwise [qs]
  congr 3 <;> omega

theorem ks_apply (b h o : Fin 8) (q : Fin 256) (d : Fin 128) : ks x (ix5 b h o q d) =
    x (ix2 ⟨b.val * 2048 + (o.val * 256 + q.val), by omega⟩ ⟨(36 + h.val) * 128 + d.val, by omega⟩) := by
  pointwise [ks]
  congr 3 <;> omega

theorem vs_apply (b h o : Fin 8) (q : Fin 256) (d : Fin 128) : vs x (ix5 b h o q d) =
    x (ix2 ⟨b.val * 2048 + (o.val * 256 + q.val), by omega⟩ ⟨(44 + h.val) * 128 + d.val, by omega⟩) := by
  pointwise [vs]
  congr 3 <;> omega

/-- The array of heads `A`, at sequence `b` and head `h`, holds the reals `Q`. -/
def Has (A : FVec Ideal S8x8x8x256x128 .f32) (b h : Fin 8) (Q : ℕ → ℕ → ℝ) : Prop :=
  ∀ (o : Fin 8) (q : Fin 256) (d : Fin 128), A (ix5 b h o q d) = ((Q (o.val * 256 + q.val) d.val : ℝ) : EReal)

theorem km_apply {k : FVec Ideal S8x8x8x256x128 .f32} {b h : Fin 8} {K : ℕ → ℕ → ℝ} (hk : Has k b h K) (n : Fin 8) (e : Fin 128) :
    km k (ix4 b h n e) = ((kmean K n e : ℝ) : EReal) := by
  have e1 : Ideal.ofBits FTy.f32 1132462080#32 = ((256 : ℝ) : EReal) := ofBits_256
  pointwise [km]
  rw [e1]
  simp only [hk n _ e, coe_sum]
  rw [div_coe_coe (by norm_num), kmean, mul_one_div]

/-- The masked gates. -/
theorem gates_apply {q k : FVec Ideal S8x8x8x256x128 .f32} {b h : Fin 8} {Q K : ℕ → ℕ → ℝ} (hq : Has q b h Q) (hk : Has k b h K)
    (o : Fin 8) (r : Fin 256) (n : Fin 8) :
    gates q (km k) (ix5 b h o r n) = masked8 (fun m => gate Q K m (o.val * 256 + r.val)) o n := by
  have e1 : (id (constant S_ FTy.f32 4286578688#32) : FVec Ideal S_ .f32) ix0 = ⊥ := ofBits_bot
  pointwise [gates]
  rw [e1]
  simp (disch := omega) only [hlo_ix]
  rw [masked8]
  refine if_congr Iff.rfl ?_ rfl
  simp only [km_apply hk, hq o r, ← EReal.coe_mul, coe_sum]
  rw [gate]
  simp only [mul_comm]

/-! ## The selection -/

/-- The order of the sort on extended reals. -/
theorem gt_bit (a b : EReal) : ((FloatOps.cmpfTotal (F := Ideal) (φ := .f32) .gt a b : BitVec 1) == 1#1) = decide (b < a) := by
  show ((BitVec.ofBool (decide (b < a)) : BitVec 1) == 1#1) = _
  by_cases h : b < a <;> simp [h]

theorem along_ix5 (b h o : Fin 8) (r : Fin 256) (n k : Fin 8) :
    (show S8x8x8x256x8.Idx from ix5 b h o r n).along (4 : Fin 5) k = ix5 b h o r k := by
  funext a
  fin_cases a <;> rfl

/-- The place of the sort at an entry. -/
def place (g : FVec Ideal S8x8x8x256x8 .f32) (b h o : Fin 8) (r : Fin 256) (n : Fin 3) : Fin 8 :=
  pick (fun m : Fin 8 => (g (ix5 b h o r m) : EReal)) ⟨n.val, by omega⟩

theorem place_eq (g : FVec Ideal S8x8x8x256x8 .f32) (b h o : Fin 8) (r : Fin 256) (n : Fin 8) :
    sortedFrom (fun k k' : Fin 8 => (FloatOps.cmpfTotal (F := Ideal) (φ := .f32) .gt (g ((show S8x8x8x256x8.Idx from ix5 b h o r n).along (4 : Fin 5) k))
        (g ((show S8x8x8x256x8.Idx from ix5 b h o r n).along (4 : Fin 5) k')) : BitVec 1) == 1#1) n
      = pick (fun m : Fin 8 => (g (ix5 b h o r m) : EReal)) n := by
  unfold pick
  congr 1
  funext k k'
  rw [along_ix5, along_ix5, gt_bit]

theorem first3_apply {α : Type} (v : S8x8x8x256x8.Idx → α) (b h o : Fin 8) (r : Fin 256) (n : Fin 3) :
    extractStridedSlice S8x8x8x256x3 (fun _ => 0) v sliceFits_S8x8x8x256x8_S8x8x8x256x3 (ix5 b h o r n) = v (ix5 b h o r (⟨n.val, by omega⟩ : Fin 8)) := by
  unfold extractStridedSlice
  refine congrArg v ?_
  funext a
  fin_cases a <;> exact Fin.ext (Nat.zero_add _)

/-- The index of the block at place `n` of the three. -/
theorem topIdx_apply (g : FVec Ideal S8x8x8x256x8 .f32) (b h o : Fin 8) (r : Fin 256) (n : Fin 3) :
    topIdx g (ix5 b h o r n) = BitVec.ofNat 32 (place g b h o r n).val := by
  rw [topIdx, Host.topK]
  dsimp only
  refine (first3_apply _ b h o r n).trans ?_
  rw [Host.sort2, dif_pos (by decide)]
  exact (congrArg (fun i : S8x8x8x256x8.Idx => BitVec.ofNat 32 (i (4 : Fin 5)).val) (along_ix5 b h o r ⟨n.val, by omega⟩ _)).trans
    (congrArg (fun k : Fin 8 => BitVec.ofNat 32 k.val) (place_eq g b h o r ⟨n.val, by omega⟩))

/-- The gate of the block at place `n` of the three. -/
theorem topVal_apply (g : FVec Ideal S8x8x8x256x8 .f32) (b h o : Fin 8) (r : Fin 256) (n : Fin 3) :
    topVal g (ix5 b h o r n) = g (ix5 b h o r (place g b h o r n)) := by
  rw [topVal, Host.topK]
  dsimp only
  refine (first3_apply _ b h o r n).trans ?_
  rw [Host.sort2, dif_pos (by decide)]
  exact (congrArg g (along_ix5 b h o r ⟨n.val, by omega⟩ _)).trans
    (congrArg (fun k : Fin 8 => g (ix5 b h o r k)) (place_eq g b h o r ⟨n.val, by omega⟩))

/-! ## The gathered blocks -/

theorem seqIdx_apply (b h o : Fin 8) (r : Fin 256) (n : Fin 3) (z : Fin 1) : seqIdx (ix6 b h o r n z) = BitVec.ofNat 32 b.val := by
  pointwise [seqIdx]
  simp (disch := omega) only [hlo_ix]
  simp

theorem headIdx_apply (b h o : Fin 8) (r : Fin 256) (n : Fin 3) (z : Fin 1) : headIdx (ix6 b h o r n z) = BitVec.ofNat 32 h.val := by
  pointwise [headIdx]
  simp (disch := omega) only [hlo_ix]
  simp

theorem blockIdx_apply (t : IVec S8x8x8x256x3 32) (b h o : Fin 8) (r : Fin 256) (n : Fin 3) (z : Fin 1) (k : Fin 8)
    (hk : t (ix5 b h o r n) = BitVec.ofNat 32 k.val) : blockIdx t (ix6 b h o r n z) = BitVec.ofNat 32 k.val := by
  pointwise [blockIdx]
  rw [hk]
  simp (disch := omega) only [hlo_ix]
  simp

theorem index0 (a b' c : IVec S8x8x8x256x3x1 32) (b h o : Fin 8) (r : Fin 256) (n : Fin 3) :
    fn_main_v48 (F := Ideal) a b' c (ix6 b h o r n (0 : Fin 3)) = a (ix6 b h o r n 0) := by
  pointwise [fn_main_v48]

theorem index1 (a b' c : IVec S8x8x8x256x3x1 32) (b h o : Fin 8) (r : Fin 256) (n : Fin 3) :
    fn_main_v48 (F := Ideal) a b' c (ix6 b h o r n (1 : Fin 3)) = b' (ix6 b h o r n 0) := by
  pointwise [fn_main_v48]

theorem index2 (a b' c : IVec S8x8x8x256x3x1 32) (b h o : Fin 8) (r : Fin 256) (n : Fin 3) :
    fn_main_v48 (F := Ideal) a b' c (ix6 b h o r n (2 : Fin 3)) = c (ix6 b h o r n 0) := by
  pointwise [fn_main_v48]

/-- A gathered row is the row of the block that the index names. -/
theorem pickRows_apply (k : FVec Ideal S8x8x8x256x128 .f32) (t : IVec S8x8x8x256x3 32) (b h o : Fin 8) (r : Fin 256) (n : Fin 3) (z : Fin 256) (d : Fin 128)
    (m : Fin 8) (hm : t (ix5 b h o r n) = BitVec.ofNat 32 m.val) : pickRows k t (ix7 b h o r n z d) = k (ix5 b h m z d) := by
  unfold pickRows Host.gather
  refine congrArg k ?_
  have hI : ∀ c : Fin 8, min (BitVec.ofNat 32 c.val).toInt.toNat 7 = c.val := fun c => by
    rw [toInt_ofNat_of_lt (by omega)]
    omega
  set I := fn_main_v48 (F := Ideal) seqIdx headIdx (blockIdx t) with hIdef
  have h0 : I (ix6 b h o r n (0 : Fin 3)) = BitVec.ofNat 32 b.val := (index0 _ _ _ b h o r n).trans (seqIdx_apply b h o r n 0)
  have h1 : I (ix6 b h o r n (1 : Fin 3)) = BitVec.ofNat 32 h.val := (index1 _ _ _ b h o r n).trans (headIdx_apply b h o r n 0)
  have h2 : I (ix6 b h o r n (2 : Fin 3)) = BitVec.ofNat 32 m.val := (index2 _ _ _ b h o r n).trans (blockIdx_apply t b h o r n 0 m hm)
  clear_value I
  have hsi : ∀ c : Fin 3, gather_S8x8x8x256x128_S8x8x8x256x3x3_S8x8x8x256x3x256x128_56_012_n_n_012_5_111256128.siIdx (ix7 b h o r n z d) c = ix6 b h o r n c := by
    intro c
    funext a
    fin_cases a <;> rfl
  funext a
  refine Fin.ext ?_
  show GatherDims.start _ (ix7 b h o r n z d) I a + GatherDims.batchCoord _ (ix7 b h o r n z d) a + GatherDims.offCoord _ (ix7 b h o r n z d) a = _
  rw [GatherDims.batchCoord_eq_zero _ _ _ List.not_mem_nil, Nat.add_zero]
  fin_cases a
  · unfold GatherDims.start
    rw [dif_pos (by decide), GatherDims.offCoord_eq_zero _ _ _ (by decide), Nat.add_zero]
    exact (congrArg (fun i => min (I i).toInt.toNat 7) (hsi 0)).trans ((congrArg (fun v => min (BitVec.toInt v).toNat 7) h0).trans (hI b))
  · unfold GatherDims.start
    rw [dif_pos (by decide), GatherDims.offCoord_eq_zero _ _ _ (by decide), Nat.add_zero]
    exact (congrArg (fun i => min (I i).toInt.toNat 7) (hsi 1)).trans ((congrArg (fun v => min (BitVec.toInt v).toNat 7) h1).trans (hI h))
  · unfold GatherDims.start
    rw [dif_pos (by decide), GatherDims.offCoord_eq_zero _ _ _ (by decide), Nat.add_zero]
    exact (congrArg (fun i => min (I i).toInt.toNat 7) (hsi 2)).trans ((congrArg (fun v => min (BitVec.toInt v).toNat 7) h2).trans (hI m))
  · unfold GatherDims.start
    rw [dif_neg (by decide), Nat.zero_add]
    rfl
  · unfold GatherDims.start
    rw [dif_neg (by decide), Nat.zero_add]
    rfl

/-! ## Scores, exponentials and the weighted values -/

theorem expo_apply (s m) (b h o : Fin 8) (r : Fin 256) (z : Fin 1024) : expo s m (ix5 b h o r z) = Ideal.exp (s (ix5 b h o r z) - m (ix4 b h o r)) := by
  pointwise [expo]

theorem total_apply (s) (b h o : Fin 8) (r : Fin 256) : total s (ix4 b h o r) = ∑ z : Fin 1024, s (ix5 b h o r z) := by
  pointwise [total]

theorem probs_apply (s m) (b h o : Fin 8) (r : Fin 256) (z : Fin 1024) : probs s m (ix5 b h o r z) = Ideal.div (s (ix5 b h o r z)) (m (ix4 b h o r)) := by
  pointwise [probs]

theorem mix_apply (p vg v) (b h o : Fin 8) (r : Fin 256) (z : Fin 128) :
    mix p vg v (ix5 b h o r z) = (∑ x : Fin 256, ∑ n : Fin 3, p (ix5 b h o r (⟨n.val * 256 + x.val, by omega⟩ : Fin 1024)) * vg (ix7 b h o r n x z))
      + ∑ x : Fin 256, p (ix5 b h o r (⟨768 + x.val, by omega⟩ : Fin 1024)) * v (ix5 b h o x z) := by
  pointwise [mix]

theorem layout_apply (s) (i : Fin 16384) (j : Fin 1024) : layout s (ix2 i j)
    = s (ix5 (⟨i.val / 2048, by omega⟩ : Fin 8) (⟨j.val / 128, by omega⟩ : Fin 8) (⟨i.val / 256 % 8, by omega⟩ : Fin 8) (⟨i.val % 256, by omega⟩ : Fin 256)
        (⟨j.val % 128, by omega⟩ : Fin 128)) := by
  pointwise [layout]

theorem scores_sel (a s) (b h o : Fin 8) (r : Fin 256) (n : Fin 3) (z : Fin 256) :
    scores a s (ix5 b h o r (⟨n.val * 256 + z.val, by omega⟩ : Fin 1024)) = a (ix6 b h o r n z) := by
  pointwise [scores, fn_main_v91]
  rw [dif_pos (by omega)]

theorem scores_own (a s) (b h o : Fin 8) (r : Fin 256) (z : Fin 256) :
    scores a s (ix5 b h o r (⟨768 + z.val, by omega⟩ : Fin 1024)) = s (ix5 b h o r z) := by
  pointwise [scores, fn_main_v91]

theorem ownScore_apply {q k : FVec Ideal S8x8x8x256x128 .f32} {b h : Fin 8} {Q K : ℕ → ℕ → ℝ} (hq : Has q b h Q) (hk : Has k b h K)
    (o : Fin 8) (r : Fin 256) (z : Fin 256) :
    ownScore q k scl (ix5 b h o r z) = rscore Q K o r o z (z.val ≤ r.val) := by
  have e1 : (id (constant S_ FTy.f32 4286578688#32) : FVec Ideal S_ .f32) ix0 = ⊥ := ofBits_bot
  pointwise [ownScore]
  rw [e1]
  simp (disch := omega) only [hlo_ix]
  rw [rscore]
  refine if_congr Iff.rfl ?_ rfl
  simp only [hk o z, hq o r, scl_apply, ← EReal.coe_mul, coe_sum]
  rw [dotp, mul_one_div]
  simp only [mul_comm]

theorem selScore_apply {q : FVec Ideal S8x8x8x256x128 .f32} {kg : FVec Ideal S8x8x8x256x3x256x128 .f32} {b h : Fin 8} {Q K : ℕ → ℕ → ℝ} (hq : Has q b h Q)
    (g : FVec Ideal S8x8x8x256x3 .f32) (o : Fin 8) (r : Fin 256) (n : Fin 3) (z : Fin 256) (m : Fin 8)
    (hk : ∀ d, kg (ix7 b h o r n z d) = ((K (m.val * 256 + z.val) d.val : ℝ) : EReal)) (hg : (max (g (ix5 b h o r n)) (-(g (ix5 b h o r n))) : EReal) < ⊤ ↔ m.val < o.val) :
    selScore q kg g scl (ix6 b h o r n z) = rscore Q K o r m z (m.val < o.val) := by
  have e1 : (id (constant S_ FTy.f32 4286578688#32) : FVec Ideal S_ .f32) ix0 = ⊥ := ofBits_bot
  have e2 : Ideal.ofBits FTy.f32 2139095040#32 = ⊤ := ofBits_top
  pointwise [selScore]
  rw [e1, e2, rscore]
  refine if_congr hg ?_ rfl
  simp only [hk, hq o r, scl_apply, ← EReal.coe_mul, coe_sum]
  rw [dotp, mul_one_div]
  simp only [mul_comm]

/-- A reduction by the maximum, from the bottom, of entries below the top and one of them above the bottom, is a real. -/
theorem reduce_max_real {s t : Shape} {axes : List (Fin s.rank)} (x : FVec Ideal s .f32) (hr : s.ReducesTo axes t) (j : t.Idx) (y : FVec Ideal t .f32)
    (hy : y j = (⊥ : EReal)) (hs : ∀ i, hr.drop i = j → (x i : EReal) < ⊤) (i : s.Idx) (hi : hr.drop i = j) (hz : (⊥ : EReal) < x i) :
    ∃ μ : ℝ, (maximumf y (Host.reduce FloatOps.maximumf x (constant S_ .f32 0xFF800000#32) hr h_S_) j : EReal) = (μ : EReal) := by
  show ∃ μ : ℝ, max (y j : EReal) (Host.reduce FloatOps.maximumf x (constant S_ .f32 0xFF800000#32) hr h_S_ j) = (μ : EReal)
  rw [hy, max_eq_right bot_le, Host.reduce_eq_fold]
  have e : (constant (F := Ideal) S_ .f32 0xFF800000#32 (Shape.Idx.first h_S_) : EReal) = ⊥ := ofBits_bot
  rw [e]
  refine (Moba.exists_real ?_ ?_).imp fun μ h => h
  · exact ne_of_gt ((Finset.lt_fold_max ⊥).2 (.inr ⟨i, Finset.mem_filter.2 ⟨Finset.mem_univ _, hi⟩, hz⟩))
  · exact ne_of_lt ((Finset.fold_max_lt ⊤).2 ⟨bot_lt_top, fun i hmem => hs i (Finset.mem_filter.1 hmem).2⟩)

/-- An index of rank 5 that drops to `ix4 b h o r` is in that row. -/
theorem drop_row (b h o : Fin 8) (r : Fin 256) (i : S8x8x8x256x1024.Idx)
    (e : reducesTo_S8x8x8x256x1024_S8x8x8x256_d4.drop i = ix4 b h o r) : i = ix5 b h o r (i 4) := by
  funext a
  fin_cases a
  · exact congrFun e 0
  · exact congrFun e 1
  · exact congrFun e 2
  · exact congrFun e 3
  · rfl

theorem row_drop (b h o : Fin 8) (r : Fin 256) (z : Fin 1024) :
    reducesTo_S8x8x8x256x1024_S8x8x8x256_d4.drop (ix5 b h o r z) = ix4 b h o r := by
  funext a
  fin_cases a <;> rfl

/-- The largest of a row of scores below the top, one of them above the bottom, is a real. -/
theorem largest_real (s : FVec Ideal S8x8x8x256x1024 .f32) (b h o : Fin 8) (r : Fin 256) (hs : ∀ z, (s (ix5 b h o r z) : EReal) < ⊤)
    (z : Fin 1024) (hz : (⊥ : EReal) < s (ix5 b h o r z)) : ∃ μ : ℝ, largest s (ix4 b h o r) = (μ : EReal) := by
  unfold largest
  exact reduce_max_real s _ _ _ ofBits_bot (fun i e => by rw [drop_row b h o r i e]; exact hs _) _ (row_drop b h o r z) hz

end Cert.ReferenceIdeal.Att

end
-- ==== Proof.Model.lean ====
/- One query block of the attention kernel as a function of how many key blocks it reads: the masked score
   blocks, their column maxima, the weights, and the quotient of the two weighted sums. -/
module
public import proofs.«01_k».proof.Proof.Gen.KernelIdeal.Value
public import Idealize.ShloMosaic.Lib.Pointwise
public import Idealize.ShloMosaic.Lib.MatmulPlain
public import Idealize.ShloMosaic.Lib.WordCmp
public import proofs.«01_k».proof.Proof.Spec

@[expose] public section

set_option maxRecDepth 16384

noncomputable section

namespace Cert.KernelIdeal.Att

open Cert.KernelIdeal Cert.KernelIdeal.Gen Idealize.ShloMosaic Idealize.ShloMosaic.TcCoe Idealize.SL.Sem Idealize.ShloMosaic.WordCmp

/-- A 256 by 256 block of scores, keys by queries. -/
abbrev Sq := FVec Ideal S256x256 .f32

/-- A rank-two block at an offset lies within a rank-two array when both extents fit. -/
theorem slices2 {a b c d o p : ℕ} (h : o + c ≤ a) (h' : p + d ≤ b) :
    (⟨2, ![a, b]⟩ : Shape).Slices ![o, p] ⟨2, ![c, d]⟩ :=
  ⟨rfl, fun x => by fin_cases x <;> simpa⟩

/-- The largest entry of each column, as a row. -/
def rowMax (s : Sq) : FVec Ideal S1x256 .f32 :=
  shapeCast S1x256 (multiReduction .maximumf [0] S256 s 0xFF800000#32 reduces_S256x256_S256 (.inl rfl) rfl) shapeCasts_S256_S1x256

/-- The largest entry of each column over the blocks `0 … n`. -/
def topOf : ℕ → (ℕ → Sq) → FVec Ideal S1x256 .f32
  | 0, S => rowMax (S 0)
  | n + 1, S => maximumf (topOf n S) (rowMax (S (n + 1)))

/-- The weights of a block of scores under the column maxima `m`. -/
def wt (m : FVec Ideal S1x256 .f32) (s : Sq) : FVec Ideal S256x256 .bf16 :=
  truncf .bf16 (exp2 (mulf (subf s (broadcastTo S256x256 m broadcasts_S1x256_S256x256))
    (broadcast S256x256 (Named.named κ "exp_scale" 0x3E0293EE#32)))) bitsLt_bf16_f32

/-- The weights of the blocks `0 … q`, one under the other. -/
def wts (q : ℕ) (S : ℕ → Sq)
    (hc : Shape.Concatenates ((List.ofFn fun n : Fin (q + 1) =>
      (⟨S256x256, wt (topOf q S) (S n)⟩ : (s : Shape) × (s.Idx → Ideal .bf16))).map (·.1)) ⟨2, ![(q + 1) * 256, 256]⟩ 0) :
    FVec Ideal ⟨2, ![(q + 1) * 256, 256]⟩ .bf16 :=
  concatenate ⟨2, ![(q + 1) * 256, 256]⟩ 0 (List.ofFn fun n : Fin (q + 1) => ⟨S256x256, wt (topOf q S) (S n)⟩) hc

/-- The quotient: the rows of values by the weights, over the row of ones by the weights, queries by features. -/
def quot (q : ℕ) (vt : FVec Ideal ⟨2, ![144, (q + 1) * 256]⟩ .bf16) (p : FVec Ideal ⟨2, ![(q + 1) * 256, 256]⟩ .bf16) :
    FVec Ideal S256x128 .f32 :=
  have acc : FVec Ideal S144x256 .f32 := matmul (DotDims.plain 144 ((q + 1) * 256) 256) none vt p (constant S144x256 .f32 0x00000000#32)
  transpose S256x128 [1, 0]
    (divf (extractStridedSlice S128x256 ![0, 0] acc slices_S144x256_o0_0_S128x256)
      (broadcastTo S128x256 (extractStridedSlice S1x256 ![128, 0] acc slices_S144x256_o128_0_S1x256) broadcasts_S1x256_S128x256))
    transposes_S128x256_p1_0_S256x128

/-- The scores of query block `q` against the keys `kb` of the blocks `0 … q`. -/
def scores (q : ℕ) (hq : q < 8) (kb : FVec Ideal ⟨2, ![(q + 1) * 256, 128]⟩ .bf16) (qt : FVec Ideal S128x2048 .bf16) :
    FVec Ideal ⟨2, ![(q + 1) * 256, 256]⟩ .f32 :=
  matmul (DotDims.plain ((q + 1) * 256) 128 256) none kb
    (extractStridedSlice S128x256 ![0, q * 256] qt (slices2 (by omega) (by omega)))
    (constant ⟨2, ![(q + 1) * 256, 256]⟩ .f32 0x00000000#32)

/-- Which queries keep block `n`, from the gate rows `g` of the blocks before their own: the rank of the block's
    gate among them is less than three. -/
def kept {q : ℕ} (g : FVec Ideal ⟨2, ![q, 256]⟩ .f32) (n : ℕ) (hn : n + 1 ≤ q) (b : BitVec 32)
    (hb : S1x256.Broadcasts ⟨2, ![q, 256]⟩) (hi : (⟨2, ![q, 256]⟩ : Shape).Iotas .tc 32 [0])
    (hr : (⟨2, ![q, 256]⟩ : Shape).Reduces [0] S256) : IVec S1x256 1 :=
  have gn : FVec Ideal S1x256 .f32 := extractStridedSlice S1x256 ![n, 0] g (slices2 hn (by omega))
  have beats : IVec ⟨2, ![q, 256]⟩ 1 := ori (cmpf (F := Ideal) .ogt g (broadcastTo ⟨2, ![q, 256]⟩ gn hb))
    (andi (cmpf (F := Ideal) .oeq g (broadcastTo ⟨2, ![q, 256]⟩ gn hb))
      (cmpi .slt (iota .tc ⟨2, ![q, 256]⟩ 32 [0] hi) (broadcast ⟨2, ![q, 256]⟩ b)))
  cmpf (F := Ideal) .olt (shapeCast S1x256 (multiReduction .add [0] S256
      (select beats (broadcast ⟨2, ![q, 256]⟩ (Scalar.ofBits .f32 0x3F800000#32)) (broadcast ⟨2, ![q, 256]⟩ (Scalar.ofBits .f32 0x00000000#32)))
      0x00000000#32 hr (.inl rfl) rfl) shapeCasts_S256_S1x256)
    (broadcast S1x256 (Scalar.ofBits .f32 0x40400000#32))

/-- A block of scores where `c` holds, the large negative constant elsewhere. -/
def maskCols (c : IVec S1x256 1) (s : Sq) : Sq :=
  select (broadcastTo S256x256 (shapeCast S1x256 c shapeCasts_S1x256_S1x256) broadcasts_S1x256_S256x256) s
    (broadcast S256x256 (Named.named κ "neg_big" 0xF149F2CA#32))

/-- A block of scores where the key's position is at most the query's, the large negative constant elsewhere. -/
def maskDiag (s : Sq) : Sq :=
  select (cmpi .sle (iota .tc S256x256 32 [0] iota_S256x256_d0_w32) (iota .tc S256x256 32 [1] iota_S256x256_d1_w32)) s
    (broadcast S256x256 (Named.named κ "neg_big" 0xF149F2CA#32))

/-- Block `n` of the scores of query block `q`. -/
def blkOf (q n : ℕ) (hn : n * 256 + 256 ≤ (q + 1) * 256) (s : FVec Ideal ⟨2, ![(q + 1) * 256, 256]⟩ .f32) : Sq :=
  extractStridedSlice S256x256 ![n * 256, 0] s (slices2 hn (by omega))

/-- A product of a matrix with a matrix at an index, the accumulator zero. -/
theorem matmul_apply {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant (F := Ideal) ⟨2, ![M, N]⟩ .f32 0x00000000#32) (ix2 r c)
      = ∑ k : Fin K, lhs (ix2 r k) * rhs (ix2 k c) := by
  have h : ∀ {a b : ℕ} (i : Fin a) (j : Fin b), ix2 i j = ValueIdx.ix2 i j := fun i j => by funext z; fin_cases z <;> rfl
  simp only [h]
  refine (Ideal.matmul_plain_apply none lhs rhs _ r c).trans ?_
  rw [show constant (F := Ideal) ⟨2, ![M, N]⟩ .f32 0x00000000#32 (ValueIdx.ix2 r c) = (0 : EReal) from by
    simp [constant, Ideal.ofBits, Ideal.ieee], zero_add]

/-- A rank-two block at an offset, read at an index. -/
theorem slice_apply {α : Type} {a b c d o p : ℕ} (x : (⟨2, ![a, b]⟩ : Shape).Idx → α)
    (h : (⟨2, ![a, b]⟩ : Shape).Slices ![o, p] ⟨2, ![c, d]⟩) (i : Fin c) (j : Fin d) (hi : o + i.val < a) (hj : p + j.val < b) :
    extractStridedSlice ⟨2, ![c, d]⟩ ![o, p] x h (ix2 i j) = x (ix2 ⟨o + i.val, hi⟩ ⟨p + j.val, hj⟩) := by
  unfold extractStridedSlice
  congr 1
  funext z
  fin_cases z <;> rfl

theorem scale_eq : (Named.named (F := Ideal) κ "exp_scale" (φ := .f32) 0x3E0293EE#32 : EReal) = (((Real.sqrt 128)⁻¹ * (Real.log 2)⁻¹ : ℝ) : EReal) := rfl

theorem neg_big_eq : (Named.named (F := Ideal) κ "neg_big" (φ := .f32) 0xF149F2CA#32 : EReal) = ⊥ := rfl

theorem wt_apply (m : FVec Ideal S1x256 .f32) (s : Sq) (x r : Fin 256) :
    wt m s (ix2 x r) = Ideal.exp2 ((s (ix2 x r) - m (ix2 0 r)) * (((Real.sqrt 128)⁻¹ * (Real.log 2)⁻¹ : ℝ) : EReal)) := by
  pointwise [wt]
  rw [scale_eq]; rfl

theorem ofBits_neg_inf : Ideal.ofBits .f32 0xFF800000#32 = (⊥ : EReal) := by simp [Ideal.ofBits, Ideal.ieee]

theorem ofBits_three : Ideal.ofBits .f32 0x40400000#32 = ((3 : ℝ) : EReal) := by
  simp [Ideal.ofBits, Ideal.ieee, -EReal.coe_mul]; norm_num

theorem rowMax_apply (s : Sq) (r : Fin 256) :
    rowMax s (ix2 0 r) = Finset.fold max (⊥ : EReal) (fun x => s (ix2 x r)) Finset.univ := by
  pointwise [rowMax]
  rw [show Ideal.ofBits FTy.f32 4286578688#32 = (⊥ : EReal) from ofBits_neg_inf]

theorem maskCols_apply (c : IVec S1x256 1) (s : Sq) (x r : Fin 256) :
    maskCols c s (ix2 x r) = if c (ix2 0 r) = 1#1 then s (ix2 x r) else ⊥ := by
  pointwise [maskCols]
  rw [neg_big_eq]; rfl

theorem maskDiag_apply (s : Sq) (x r : Fin 256) : maskDiag s (ix2 x r) = if x.val ≤ r.val then s (ix2 x r) else ⊥ := by
  pointwise [maskDiag]
  rw [neg_big_eq, Scalar.select]
  exact if_congr (cmpi_sle_ofNat_eq_one_iff (by omega) (by omega)) rfl rfl

/-- A block of the scores at an index: the product of the key's row with the query's column. -/
theorem blkOf_apply (q n : ℕ) (hq : q < 8) (hn) (kb : FVec Ideal ⟨2, ![(q + 1) * 256, 128]⟩ .bf16) (qt : FVec Ideal S128x2048 .bf16)
    (x r : Fin 256) :
    blkOf q n hn (scores q hq kb qt) (ix2 x r)
      = ∑ e : Fin 128, kb (ix2 ⟨n * 256 + x.val, by omega⟩ e) * qt (ix2 e ⟨q * 256 + r.val, by omega⟩) := by
  have h0 : n * 256 + x.val < (q + 1) * 256 := by omega
  rw [blkOf, slice_apply _ _ x r h0 (by omega), scores, matmul_apply]
  refine Finset.sum_congr rfl fun e _ => ?_
  rw [slice_apply qt _ e _ (by omega) (by simp; omega)]
  simp

/-- The quotient at an index: each feature's sum over the keys, over the sum of the weights. -/
theorem quot_apply (q : ℕ) (vt : FVec Ideal ⟨2, ![144, (q + 1) * 256]⟩ .bf16) (p : FVec Ideal ⟨2, ![(q + 1) * 256, 256]⟩ .bf16)
    (r : Fin 256) (d : Fin 128) :
    quot q vt p (ix2 r d) = Ideal.div (∑ k : Fin ((q + 1) * 256), vt (ix2 ⟨d.val, by omega⟩ k) * p (ix2 k r))
      (∑ k : Fin ((q + 1) * 256), vt (ix2 128 k) * p (ix2 k r)) := by
  have h := fun i : Fin 144 => matmul_apply vt p i r
  pointwise [quot]
  exact congrArg₂ Ideal.div (h _) (h _)

/-- Which queries keep a block, over real gates: fewer than three of the blocks come before it. -/
theorem kept_apply {q : ℕ} (g : FVec Ideal ⟨2, ![q, 256]⟩ .f32) (n : ℕ) (hn : n + 1 ≤ q)
    (hb : S1x256.Broadcasts ⟨2, ![q, 256]⟩) (hi : (⟨2, ![q, 256]⟩ : Shape).Iotas .tc 32 [0])
    (hr : (⟨2, ![q, 256]⟩ : Shape).Reduces [0] S256) (r : Fin 256) (G : ℕ → ℝ) (hq : q < 256)
    (hG : ∀ m : Fin q, g (ix2 m r) = ((G m : ℝ) : EReal)) :
    kept g n hn (BitVec.ofNat 32 n) hb hi hr (ix2 0 r) = 1#1
      ↔ (Finset.univ.filter fun m : Fin q => G n < G m ∨ G m = G n ∧ m.val < n).card < 3 := by
  have hs := slice_apply g (slices2 hn (by omega) : (⟨2, ![q, 256]⟩ : Shape).Slices ![n, 0] ⟨2, ![1, 256]⟩) 0 r (by simp; omega) (by omega)
  have hb' : ∀ m : Fin q, broadcastTo ⟨2, ![q, 256]⟩ (extractStridedSlice S1x256 ![n, 0] g (slices2 hn (by omega))) hb (ix2 m r)
      = ((G n : ℝ) : EReal) := by
    intro m
    have e : broadcastTo ⟨2, ![q, 256]⟩ (extractStridedSlice S1x256 ![n, 0] g (slices2 hn (by omega))) hb (ix2 m r)
      = extractStridedSlice S1x256 ![n, 0] g (slices2 hn (by omega)) (ix2 0 r) := by pointwise
    rw [e]
    refine hs.trans ?_
    rw [← hG ⟨n, hn⟩]
    congr 2 <;> simp
  generalize hgn : broadcastTo ⟨2, ![q, 256]⟩ (extractStridedSlice S1x256 ![n, 0] g (slices2 hn (by omega))) hb = gb at hb'
  unfold kept
  rw [hgn]
  pointwise
  rw [ofBool_decide_eq_one_iff]
  have hx : ∀ m : Fin q, Scalar.select (IntOp.ori (BitVec.ofBool (decide (gb (ix2 m r) < g (ix2 m r))))
      (IntOp.andi (BitVec.ofBool (decide (g (ix2 m r) = gb (ix2 m r))))
        (IntOp.cmpi CmpIPredicate.slt (BitVec.ofNat 32 m) (BitVec.ofNat 32 n)))) (1 : EReal) 0
      = (((if G n < G m ∨ G m = G n ∧ m.val < n then 1 else 0 : ℝ)) : EReal) := by
    intro m
    rw [hb' m, hG m, cmpi_slt_ofNat (by omega) (by omega), Scalar.select]
    simp only [EReal.coe_lt_coe_iff, EReal.coe_eq_coe_iff]
    by_cases h1 : G n < G m <;> by_cases h2 : G m = G n <;> by_cases h3 : m.val < n <;> simp [h1, h2, h3, IntOp.ori, IntOp.andi]
  have e : ∀ a : EReal, (a < Ideal.ofBits FTy.f32 1077936128#32 ↔ a < ((3 : ℝ) : EReal)) := fun a => by
    rw [show Ideal.ofBits FTy.f32 1077936128#32 = ((3 : ℝ) : EReal) from ofBits_three]
  rw [e, Finset.sum_congr rfl fun m _ => hx m, Moba.coe_sum, EReal.coe_lt_coe_iff, Finset.sum_boole]
  norm_cast
end Cert.KernelIdeal.Att

end
-- ==== Proof.Blocks.lean ====
/- The kernel's eight stored blocks are the model's at the query blocks 0 … 7. -/
module
public import proofs.«01_k».proof.Proof.Model

@[expose] public section

set_option maxRecDepth 16384

noncomputable section

namespace Cert.KernelIdeal.Att

open Cert.KernelIdeal Cert.KernelIdeal.Gen Idealize.ShloMosaic Idealize.ShloMosaic.TcCoe Idealize.SL.Sem Idealize.ShloMosaic.WordCmp

/-- A row spreads over any number of rows. -/
theorem broadcasts_rows (q : ℕ) : S1x256.Broadcasts ⟨2, ![q, 256]⟩ :=
  ⟨le_rfl, fun a => by fin_cases a <;> simp⟩

/-- Row numbers of any number of rows. -/
theorem iotas_rows (q : ℕ) : (⟨2, ![q, 256]⟩ : Shape).Iotas .tc 32 [0] :=
  ⟨by simp, fun _ => ⟨.inr rfl, le_rfl⟩, fun h => absurd rfl h⟩

/-- The rows of an array of any number of rows add up to one row. -/
theorem reduces_rows (q : ℕ) : (⟨2, ![q, 256]⟩ : Shape).Reduces [0] S256 :=
  ⟨rfl, by decide, fun b => by fin_cases b; rfl⟩

/-- The masked scores of query block `q` for block `n`, from the scores `s` and the gates `g`. -/
def masked (q : ℕ) (hq : q < 8) (g : FVec Ideal S8x2048 .f32) (s : FVec Ideal ⟨2, ![(q + 1) * 256, 256]⟩ .f32) (n : ℕ) : Sq :=
  if h : n < q then
    if 3 < q then
      maskCols (kept (extractStridedSlice ⟨2, ![q, 256]⟩ ![0, q * 256] g (slices2 (by omega) (by omega))) n h (BitVec.ofNat 32 n)
        (broadcasts_rows q) (iotas_rows q) (reduces_rows q)) (blkOf q n (by omega) s)
    else blkOf q n (by omega) s
  else maskDiag (blkOf q q (by omega) s)

/-- One or more blocks under the first make up the rows of the weights. -/
theorem concatenates_wts (q : ℕ) (hq : 0 < q) (S : ℕ → Sq) :
    Shape.Concatenates ((List.ofFn fun n : Fin (q + 1) =>
      (⟨S256x256, wt (topOf q S) (S n)⟩ : (s : Shape) × (s.Idx → Ideal .bf16))).map (·.1)) ⟨2, ![(q + 1) * 256, 256]⟩ 0 := by
  have h : ((List.ofFn fun n : Fin (q + 1) => (⟨S256x256, wt (topOf q S) (S n)⟩ : (s : Shape) × (s.Idx → Ideal .bf16))).map (·.1))
      = List.replicate (q + 1) S256x256 := by
    rw [List.map_ofFn, ← List.ofFn_const]; rfl
  rw [h]
  refine ⟨by simp; omega, ?_, ?_⟩
  · intro s hs
    rw [List.eq_of_mem_replicate hs]
    exact ⟨rfl, fun b hb => by fin_cases b <;> first | exact absurd rfl hb | rfl⟩
  · rw [List.map_replicate, List.sum_replicate]; rfl

/-- The masked scores of query block `q` from the keys, the queries and the gates. -/
def mblk (q : ℕ) (hq : q < 8) (kb : FVec Ideal ⟨2, ![(q + 1) * 256, 128]⟩ .bf16) (qt : FVec Ideal S128x2048 .bf16) (g : FVec Ideal S8x2048 .f32) :
    ℕ → Sq := masked q hq g (scores q hq kb qt)

/-- The block the kernel stores for query block `q`, `0 < q`, from the keys and the values of the blocks `0 … q`. -/
def stored (q : ℕ) (h0 : 0 < q) (hq : q < 8) (kb : FVec Ideal ⟨2, ![(q + 1) * 256, 128]⟩ .bf16) (qt : FVec Ideal S128x2048 .bf16)
    (g : FVec Ideal S8x2048 .f32) (vt : FVec Ideal ⟨2, ![144, (q + 1) * 256]⟩ .bf16) : FVec Ideal S256x128 .f32 :=
  quot q vt (wts q (mblk q hq kb qt g) (concatenates_wts q h0 _))

/-- The keys of the blocks `0 … q`. -/
def keysTo (q : ℕ) (hq : q < 8) (kb : FVec Ideal S2048x128 .bf16) : FVec Ideal ⟨2, ![(q + 1) * 256, 128]⟩ .bf16 :=
  extractStridedSlice ⟨2, ![(q + 1) * 256, 128]⟩ ![0, 0] kb (slices2 (by omega) (by omega))

/-- The values of the blocks `0 … q`, features by keys. -/
def valsTo (q : ℕ) (hq : q < 8) (vt : FVec Ideal S144x2048 .bf16) : FVec Ideal ⟨2, ![144, (q + 1) * 256]⟩ .bf16 :=
  extractStridedSlice ⟨2, ![144, (q + 1) * 256]⟩ ![0, 0] vt (slices2 (by omega) (by omega))

variable (x0 x1 x2 : Vec Ideal S2048x128 .f32)

/-- The masked scores of the first query block: its own keys only. -/
def mblk0 (kb : FVec Ideal S2048x128 .bf16) (qt : FVec Ideal S128x2048 .bf16) : Sq :=
  maskDiag (scores 0 (by omega) (keysTo 0 (by omega) kb) qt)

/-- What is stored for query block 0. -/
theorem piece0 :
    k0_pay13 (F := Ideal) (k0_pay120 x0 x1 x2) (k0_pay121 x0 x1 x2) (k0_pay122 x0 x1 x2)
      = quot 0 (valsTo 0 (by omega) (k0_pay121 x0 x1 x2)) (wt (rowMax (mblk0 (k0_pay120 x0 x1 x2) (k0_pay122 x0 x1 x2)))
        (mblk0 (k0_pay120 x0 x1 x2) (k0_pay122 x0 x1 x2))) := by sl_kernel_rfl

/-- What is stored for query block 1. -/
theorem piece1 :
    k0_pay18 (F := Ideal) (k0_pay121 x0 x1 x2) (k0_pay15 (k0_pay120 x0 x1 x2) (k0_pay122 x0 x1 x2)) (k0_pay16 (k0_pay120 x0 x1 x2) (k0_pay122 x0 x1 x2)) (k0_pay17 (k0_pay120 x0 x1 x2) (k0_pay122 x0 x1 x2))
      = stored 1 (by omega) (by omega) (keysTo 1 (by omega) (k0_pay120 x0 x1 x2)) (k0_pay122 x0 x1 x2) (k0_pay123 x0 x1 x2) (valsTo 1 (by omega) (k0_pay121 x0 x1 x2)) := by sl_kernel_rfl

/-- What is stored for query block 2. -/
theorem piece2 :
    k0_pay26 (F := Ideal) (k0_pay121 x0 x1 x2) (k0_pay22 (k0_pay124 x0 x1 x2) (k0_pay125 x0 x1 x2)) (k0_pay23 (k0_pay124 x0 x1 x2) (k0_pay125 x0 x1 x2)) (k0_pay24 (k0_pay124 x0 x1 x2) (k0_pay125 x0 x1 x2)) (k0_pay25 (k0_pay124 x0 x1 x2) (k0_pay125 x0 x1 x2))
      = stored 2 (by omega) (by omega) (keysTo 2 (by omega) (k0_pay120 x0 x1 x2)) (k0_pay122 x0 x1 x2) (k0_pay123 x0 x1 x2) (valsTo 2 (by omega) (k0_pay121 x0 x1 x2)) := by sl_kernel_rfl

/-- What is stored for query block 3. -/
theorem piece3 :
    k0_pay35 (F := Ideal) (k0_pay121 x0 x1 x2) (k0_pay30 (k0_pay126 x0 x1 x2)) (k0_pay31 (k0_pay124 x0 x1 x2) (k0_pay126 x0 x1 x2)) (k0_pay32 (k0_pay124 x0 x1 x2) (k0_pay126 x0 x1 x2)) (k0_pay33 (k0_pay124 x0 x1 x2) (k0_pay126 x0 x1 x2)) (k0_pay34 (k0_pay124 x0 x1 x2) (k0_pay126 x0 x1 x2))
      = stored 3 (by omega) (by omega) (keysTo 3 (by omega) (k0_pay120 x0 x1 x2)) (k0_pay122 x0 x1 x2) (k0_pay123 x0 x1 x2) (valsTo 3 (by omega) (k0_pay121 x0 x1 x2)) := by sl_kernel_rfl

/-- What is stored for query block 4. -/
theorem piece4 :
    k0_pay50 (F := Ideal) (k0_pay121 x0 x1 x2) (k0_pay133 x0 x1 x2) (k0_pay44 (k0_pay130 x0 x1 x2) (k0_pay128 x0 x1 x2) (k0_pay134 x0 x1 x2)) (k0_pay45 (k0_pay124 x0 x1 x2) (k0_pay127 x0 x1 x2)) (k0_pay46 (k0_pay124 x0 x1 x2) (k0_pay127 x0 x1 x2) (k0_pay130 x0 x1 x2) (k0_pay128 x0 x1 x2) (k0_pay131 x0 x1 x2) (k0_pay132 x0 x1 x2) (k0_pay133 x0 x1 x2) (k0_pay134 x0 x1 x2)) (k0_pay47 (k0_pay124 x0 x1 x2) (k0_pay127 x0 x1 x2) (k0_pay130 x0 x1 x2) (k0_pay128 x0 x1 x2) (k0_pay131 x0 x1 x2) (k0_pay132 x0 x1 x2) (k0_pay133 x0 x1 x2) (k0_pay134 x0 x1 x2)) (k0_pay48 (k0_pay124 x0 x1 x2) (k0_pay127 x0 x1 x2) (k0_pay130 x0 x1 x2) (k0_pay128 x0 x1 x2) (k0_pay131 x0 x1 x2) (k0_pay132 x0 x1 x2) (k0_pay133 x0 x1 x2) (k0_pay134 x0 x1 x2)) (k0_pay49 (F := Ideal))
      = stored 4 (by omega) (by omega) (keysTo 4 (by omega) (k0_pay120 x0 x1 x2)) (k0_pay122 x0 x1 x2) (k0_pay123 x0 x1 x2) (valsTo 4 (by omega) (k0_pay121 x0 x1 x2)) := by sl_kernel_rfl

/-- What is stored for query block 5. -/
theorem piece5 :
    k0_pay70 (F := Ideal) (k0_pay121 x0 x1 x2) (k0_pay63 (k0_pay124 x0 x1 x2) (k0_pay143 x0 x1 x2) (Named.named κ "neg_big" 0xF149F2CA#32)) (k0_pay64 (k0_pay124 x0 x1 x2) (k0_pay138 x0 x1 x2) (k0_pay139 x0 x1 x2) (k0_pay140 x0 x1 x2) (k0_pay141 x0 x1 x2) (k0_pay142 x0 x1 x2) (k0_pay143 x0 x1 x2) (Named.named κ "neg_big" 0xF149F2CA#32)) (k0_pay65 (k0_pay124 x0 x1 x2) (k0_pay138 x0 x1 x2) (k0_pay139 x0 x1 x2) (k0_pay140 x0 x1 x2) (k0_pay141 x0 x1 x2) (k0_pay142 x0 x1 x2) (k0_pay143 x0 x1 x2) (Named.named κ "neg_big" 0xF149F2CA#32)) (k0_pay66 (k0_pay124 x0 x1 x2) (k0_pay138 x0 x1 x2) (k0_pay139 x0 x1 x2) (k0_pay140 x0 x1 x2) (k0_pay141 x0 x1 x2) (k0_pay142 x0 x1 x2) (k0_pay143 x0 x1 x2) (Named.named κ "neg_big" 0xF149F2CA#32)) (k0_pay67 (k0_pay124 x0 x1 x2) (k0_pay138 x0 x1 x2) (k0_pay139 x0 x1 x2) (k0_pay140 x0 x1 x2) (k0_pay141 x0 x1 x2) (k0_pay142 x0 x1 x2) (k0_pay143 x0 x1 x2) (Named.named κ "neg_big" 0xF149F2CA#32)) (k0_pay68 (k0_pay124 x0 x1 x2) (k0_pay138 x0 x1 x2) (k0_pay139 x0 x1 x2) (k0_pay140 x0 x1 x2) (k0_pay141 x0 x1 x2) (k0_pay142 x0 x1 x2) (k0_pay143 x0 x1 x2) (Named.named κ "neg_big" 0xF149F2CA#32)) (k0_pay69 (k0_pay124 x0 x1 x2) (k0_pay138 x0 x1 x2) (k0_pay139 x0 x1 x2) (k0_pay140 x0 x1 x2) (k0_pay141 x0 x1 x2) (k0_pay142 x0 x1 x2) (k0_pay143 x0 x1 x2) (Named.named κ "neg_big" 0xF149F2CA#32))
      = stored 5 (by omega) (by omega) (keysTo 5 (by omega) (k0_pay120 x0 x1 x2)) (k0_pay122 x0 x1 x2) (k0_pay123 x0 x1 x2) (valsTo 5 (by omega) (k0_pay121 x0 x1 x2)) := by sl_kernel_rfl

/-- What is stored for query block 6. -/
theorem piece6 :
    k0_pay95 (F := Ideal) (k0_pay121 x0 x1 x2) (k0_pay150 x0 x1 x2) (k0_pay151 x0 x1 x2) (k0_pay88 (k0_pay152 x0 x1 x2) (k0_pay153 x0 x1 x2) (Scalar.ofBits .f32 0x40400000#32)) (k0_pay89 (k0_pay124 x0 x1 x2) (k0_pay136 x0 x1 x2)) (k0_pay90 (k0_pay124 x0 x1 x2) (k0_pay136 x0 x1 x2) (k0_pay147 x0 x1 x2) (k0_pay148 x0 x1 x2) (k0_pay149 x0 x1 x2) (k0_pay150 x0 x1 x2) (k0_pay151 x0 x1 x2) (k0_pay152 x0 x1 x2) (k0_pay153 x0 x1 x2) (Scalar.ofBits .f32 0x40400000#32)) (k0_pay91 (k0_pay124 x0 x1 x2) (k0_pay136 x0 x1 x2) (k0_pay147 x0 x1 x2) (k0_pay148 x0 x1 x2) (k0_pay149 x0 x1 x2) (k0_pay150 x0 x1 x2) (k0_pay151 x0 x1 x2) (k0_pay152 x0 x1 x2) (k0_pay153 x0 x1 x2) (Scalar.ofBits .f32 0x40400000#32)) (k0_pay92 (k0_pay124 x0 x1 x2) (k0_pay136 x0 x1 x2) (k0_pay147 x0 x1 x2) (k0_pay148 x0 x1 x2) (k0_pay149 x0 x1 x2) (k0_pay150 x0 x1 x2) (k0_pay151 x0 x1 x2) (k0_pay152 x0 x1 x2) (k0_pay153 x0 x1 x2) (Scalar.ofBits .f32 0x40400000#32)) (k0_pay93 (k0_pay124 x0 x1 x2) (k0_pay136 x0 x1 x2) (k0_pay147 x0 x1 x2) (k0_pay148 x0 x1 x2) (k0_pay149 x0 x1 x2) (k0_pay150 x0 x1 x2) (k0_pay151 x0 x1 x2) (k0_pay152 x0 x1 x2) (k0_pay153 x0 x1 x2) (Scalar.ofBits .f32 0x40400000#32)) (k0_pay94 (k0_pay124 x0 x1 x2) (k0_pay136 x0 x1 x2) (k0_pay147 x0 x1 x2) (k0_pay148 x0 x1 x2) (k0_pay149 x0 x1 x2) (k0_pay150 x0 x1 x2) (k0_pay151 x0 x1 x2) (k0_pay152 x0 x1 x2) (k0_pay153 x0 x1 x2) (Scalar.ofBits .f32 0x40400000#32))
      = stored 6 (by omega) (by omega) (keysTo 6 (by omega) (k0_pay120 x0 x1 x2)) (k0_pay122 x0 x1 x2) (k0_pay123 x0 x1 x2) (valsTo 6 (by omega) (k0_pay121 x0 x1 x2)) := by sl_kernel_rfl

/-- What is stored for query block 7. -/
theorem piece7 :
    k0_pay1 (F := Ideal) (k0_pay121 x0 x1 x2) (k0_pay161 x0 x1 x2) (k0_pay162 x0 x1 x2) (k0_pay163 x0 x1 x2) (k0_pay114 (k0_pay158 x0 x1 x2) (k0_pay159 x0 x1 x2) (k0_pay160 x0 x1 x2) (k0_pay161 x0 x1 x2) (k0_pay162 x0 x1 x2) (k0_pay163 x0 x1 x2) (k0_pay164 x0 x1 x2) (k0_pay165 x0 x1 x2)) (k0_pay115 (k0_pay156 x0 x1 x2) (k0_pay158 x0 x1 x2) (k0_pay159 x0 x1 x2) (k0_pay160 x0 x1 x2) (k0_pay161 x0 x1 x2) (k0_pay162 x0 x1 x2) (k0_pay163 x0 x1 x2) (k0_pay164 x0 x1 x2) (k0_pay165 x0 x1 x2)) (k0_pay116 (k0_pay157 x0 x1 x2) (k0_pay158 x0 x1 x2) (k0_pay159 x0 x1 x2) (k0_pay160 x0 x1 x2) (k0_pay161 x0 x1 x2) (k0_pay162 x0 x1 x2) (k0_pay163 x0 x1 x2) (k0_pay164 x0 x1 x2) (k0_pay165 x0 x1 x2)) (k0_pay117 (k0_pay158 x0 x1 x2) (k0_pay159 x0 x1 x2) (k0_pay160 x0 x1 x2) (k0_pay161 x0 x1 x2) (k0_pay162 x0 x1 x2) (k0_pay163 x0 x1 x2) (k0_pay164 x0 x1 x2) (k0_pay165 x0 x1 x2)) (k0_pay118 (k0_pay158 x0 x1 x2) (k0_pay159 x0 x1 x2) (k0_pay160 x0 x1 x2) (k0_pay161 x0 x1 x2) (k0_pay162 x0 x1 x2) (k0_pay163 x0 x1 x2) (k0_pay164 x0 x1 x2) (k0_pay165 x0 x1 x2)) (k0_pay119 (k0_pay158 x0 x1 x2) (k0_pay159 x0 x1 x2) (k0_pay160 x0 x1 x2) (k0_pay161 x0 x1 x2) (k0_pay162 x0 x1 x2) (k0_pay163 x0 x1 x2) (k0_pay164 x0 x1 x2) (k0_pay165 x0 x1 x2))
      = stored 7 (by omega) (by omega) (k0_pay120 x0 x1 x2) (k0_pay122 x0 x1 x2) (k0_pay123 x0 x1 x2) (k0_pay121 x0 x1 x2) := by sl_kernel_rfl

end Cert.KernelIdeal.Att

end
-- ==== Proof.KVal.lean ====
/- What the kernel's body stores, read at an index: the attention's result at the block's rows, the inputs reals. -/
module
public import proofs.«01_k».proof.Proof.Blocks

@[expose] public section

set_option maxRecDepth 16384

noncomputable section

namespace Cert.KernelIdeal.Att

open Cert.KernelIdeal Cert.KernelIdeal.Gen Idealize.ShloMosaic Idealize.ShloMosaic.TcCoe Idealize.SL.Sem Idealize.ShloMosaic.WordCmp
open Moba

/-- A 2048 by 128 array holds the reals of a function of row and column. -/
def Holds (x : Vec Ideal S2048x128 .f32) (f : ℕ → ℕ → ℝ) : Prop := ∀ (i : Fin 2048) (e : Fin 128), x (ix2 i e) = ((f i e : ℝ) : EReal)

variable (x0 x1 x2 : Vec Ideal S2048x128 .f32) {Q K V : ℕ → ℕ → ℝ}

theorem ofBits_two56th : Ideal.ofBits .f32 0x3B800000#32 = ((1 / 256 : ℝ) : EReal) := by
  simp [Ideal.ofBits, Ideal.ieee, -EReal.coe_mul]; norm_num

theorem keys_apply (h : Holds x1 K) (i : Fin 2048) (e : Fin 128) : k0_pay120 x0 x1 x2 (ix2 i e) = ((K i e : ℝ) : EReal) := by
  rw [← h i e]
  pointwise [k0_pay120, k0_pay2]

theorem queries_apply (h : Holds x0 Q) (i : Fin 2048) (e : Fin 128) : k0_pay122 x0 x1 x2 (ix2 e i) = ((Q i e : ℝ) : EReal) := by
  rw [← h i e]
  pointwise [k0_pay122, k0_pay5, k0_pay4]

theorem values_apply (h : Holds x2 V) (i : Fin 2048) (d : Fin 128) (hd : d.val < 144) :
    k0_pay121 x0 x1 x2 (ix2 ⟨d.val, hd⟩ i) = ((V i d : ℝ) : EReal) := by
  rw [← h i d]
  pointwise [k0_pay121, k0_pay3]

theorem ones_apply (i : Fin 2048) : k0_pay121 x0 x1 x2 (ix2 128 i) = 1 := by
  pointwise [k0_pay121, k0_pay3]

theorem kmean_apply (hK : Holds x1 K) (n : Fin 8) (e : Fin 128) :
    k0_pay6 (F := Ideal) (View.ld x1 r0_0) (ix2 n e) = ((kmean K n e : ℝ) : EReal) := by
  have hs : ∀ (o : ℕ) (ho : o + 256 ≤ 2048), ∑ x : Fin 256, x1 (ix2 ⟨o + x.val, by omega⟩ e) = ((∑ x : Fin 256, K (o + x.val) e : ℝ) : EReal) :=
    fun o ho => by simp only [hK _ _, coe_sum]
  have h0 : ∑ x : Fin 256, x1 (ix2 ⟨x.val, by omega⟩ e) = ((∑ x : Fin 256, K x.val e : ℝ) : EReal) := by simp only [hK _ _, coe_sum]
  have e1 : Ideal.ofBits FTy.f32 998244352#32 = ((1 / 256 : ℝ) : EReal) := ofBits_two56th
  pointwise [k0_pay6]
  rw [e1, kmean]
  have := hs 256 (by omega)
  fin_cases n
  · simp [h0]
  · simp [hs 256 (by omega)]
  · simp [hs 512 (by omega)]
  · simp [hs 768 (by omega)]
  · simp [hs 1024 (by omega)]
  · simp [hs 1280 (by omega)]
  · simp [hs 1536 (by omega)]
  · simp [hs 1792 (by omega)]

theorem gates_apply (hQ : Holds x0 Q) (hK : Holds x1 K) (n : Fin 8) (j : Fin 2048) :
    k0_pay123 x0 x1 x2 (ix2 n j) = ((gate Q K n j : ℝ) : EReal) := by
  have hz : ∀ a : ℝ, (a : EReal) - (a : EReal) = 0 := fun a => by rw [← EReal.coe_sub, sub_self, EReal.coe_zero]
  pointwise [k0_pay123, k0_pay10, k0_pay4, k0_pay7, k0_pay8, k0_pay9]
  simp only [kmean_apply x1 hK, hQ j, hz, zero_mul, mul_zero, Finset.sum_const_zero, add_zero, ← EReal.coe_mul, coe_sum]
  rfl

/-- The masked scores at an index are the formula's. -/
theorem mblk_apply (hQ : Holds x0 Q) (hK : Holds x1 K) (q : ℕ) (hq : q < 8) (kb : FVec Ideal ⟨2, ![(q + 1) * 256, 128]⟩ .bf16)
    (hkb : ∀ (i : Fin ((q + 1) * 256)) (e : Fin 128), kb (ix2 i e) = ((K i e : ℝ) : EReal))
    (n : ℕ) (hn : n ≤ q) (x r : Fin 256) :
    mblk q hq kb (k0_pay122 x0 x1 x2) (k0_pay123 x0 x1 x2) n (ix2 x r) = mscore Q K q r n x := by
  classical
  have hb : ∀ (n : ℕ) (hn : n * 256 + 256 ≤ (q + 1) * 256), blkOf q n hn (scores q hq kb (k0_pay122 x0 x1 x2)) (ix2 x r)
      = ((dotp Q K (n * 256 + x) (q * 256 + r) : ℝ) : EReal) := by
    intro n hn
    rw [blkOf_apply]
    simp only [hkb, queries_apply x0 x1 x2 hQ, ← EReal.coe_mul, coe_sum]
    rfl
  rw [mblk, masked]
  split
  next h =>
    have hne : n ≠ q := by omega
    have hal : allow Q K q r n x ↔ rank Q K q (q * 256 + r) n < 3 := by simp [allow, hne, h]
    split
    next h3 =>
      rw [maskCols_apply, hb, mscore]
      refine if_congr ?_ rfl rfl
      rw [kept_apply _ n h _ _ _ r (fun m => gate Q K m (q * 256 + r)) (by omega), hal, rank]
      · refine Iff.of_eq (congrArg (fun s : Finset (Fin q) => s.card < 3) (Finset.ext fun m => ?_))
        rw [Finset.mem_filter, Finset.mem_filter]
        exact Iff.rfl
      · intro m
        rw [slice_apply _ _ m r (by omega) (by omega), gates_apply x0 x1 x2 hQ hK]
        simp
    next h3 =>
      rw [hb, mscore, if_pos]
      rw [hal, rank]
      refine lt_of_le_of_lt (Finset.card_le_card (t := Finset.univ.erase ⟨n, h⟩) fun m hm => ?_) ?_
      · rw [Finset.mem_filter] at hm
        refine Finset.mem_erase.2 ⟨?_, Finset.mem_univ _⟩
        rintro rfl
        rcases hm.2 with h | h
        · exact lt_irrefl _ h
        · exact lt_irrefl _ h.2
      · rw [Finset.card_erase_of_mem (Finset.mem_univ _), Finset.card_univ, Fintype.card_fin]; omega
  next h =>
    obtain rfl : n = q := by omega
    rw [maskDiag_apply, hb, mscore]
    refine if_congr ?_ rfl rfl
    simp [allow]

/-- The largest entry of a column is real when every entry is below the top and one is above the bottom. -/
theorem topOf_real (q : ℕ) (S : ℕ → Sq) (r : Fin 256) (ht : ∀ n, n ≤ q → ∀ x, S n (ix2 x r) < ⊤)
    (hb : ∃ x, ⊥ < S q (ix2 x r)) : ∃ μ : ℝ, topOf q S (ix2 0 r) = (μ : EReal) := by
  have hlt : ∀ s : Sq, (∀ x, s (ix2 x r) < ⊤) → rowMax s (ix2 0 r) < ⊤ := fun s h => by
    rw [rowMax_apply, Finset.fold_max_lt]; exact ⟨bot_lt_top, fun x _ => h x⟩
  have h1 : ∀ p, p ≤ q → topOf p S (ix2 0 r) < ⊤ := by
    intro p
    induction p with
    | zero => exact fun _ => hlt _ (ht 0 (by omega))
    | succ p ih =>
      intro hp
      exact max_lt (ih (by omega)) (hlt _ (ht _ hp))
  have h2 : rowMax (S q) (ix2 0 r) ≤ topOf q S (ix2 0 r) := by
    cases q with
    | zero => exact le_rfl
    | succ p => exact le_max_right _ _
  obtain ⟨x, hx⟩ := hb
  refine exists_real (ne_of_gt (lt_of_lt_of_le ?_ h2)) (h1 q le_rfl).ne
  rw [rowMax_apply, Finset.lt_fold_max]
  exact .inr ⟨x, Finset.mem_univ _, hx⟩

/-- A sum over the keys of the blocks `0 … q` is a sum over the blocks and over each one's keys. -/
theorem sum_blocks (q : ℕ) (f : Fin ((q + 1) * 256) → EReal) :
    ∑ k, f k = ∑ n : Fin (q + 1), ∑ x : Fin 256, f ⟨n * 256 + x, by omega⟩ := by
  rw [← Equiv.sum_comp finProdFinEquiv, Fintype.sum_prod_type]
  refine Finset.sum_congr rfl fun n _ => Finset.sum_congr rfl fun x _ => congrArg f (Fin.ext ?_)
  simp [finProdFinEquiv]; omega

/-- The quotient at an index, the weights those of masked scores under a real maximum: the attention's result. -/
theorem quot_att (q : ℕ) (hq : q < 8) (vt : FVec Ideal ⟨2, ![144, (q + 1) * 256]⟩ .bf16) (p : FVec Ideal ⟨2, ![(q + 1) * 256, 256]⟩ .bf16)
    (m : FVec Ideal S1x256 .f32) (S : ℕ → Sq) (r : Fin 256) (d : Fin 128) (μ : ℝ) (hm : m (ix2 0 r) = (μ : EReal))
    (hp : ∀ (n : ℕ) (hn : n ≤ q) (x : Fin 256), p (ix2 ⟨n * 256 + x, by omega⟩ r) = wt m (S n) (ix2 x r))
    (hS : ∀ n, n ≤ q → ∀ x : Fin 256, S n (ix2 x r) = mscore Q K q r n x)
    (hv : ∀ i, vt (ix2 ⟨d.val, by omega⟩ i) = ((V i d : ℝ) : EReal)) (h1 : ∀ i, vt (ix2 128 i) = 1) :
    quot q vt p (ix2 r d) = ((att Q K V q r d : ℝ) : EReal) := by
  rw [quot_apply, sum_blocks, sum_blocks]
  have hn : ∀ n : Fin (q + 1), n.val ≤ q := fun n => Nat.lt_succ_iff.1 n.isLt
  simp only [h1, one_mul, hv, hp _ (hn _)]
  refine quot_eq Q K V q r d μ (fun n x => ((V (n * 256 + x) d : ℝ) : EReal)) (fun n x => wt m (S n) (ix2 x r)) (fun _ _ _ => rfl) ?_
  intro n hn x
  rw [wt_apply, hm, hS n hn]

theorem mscore_lt (q r n x : ℕ) : mscore Q K q r n x < ⊤ := by
  unfold mscore; split
  · exact EReal.coe_lt_top _
  · exact bot_lt_top

theorem bot_lt_mscore (q r : ℕ) : ⊥ < mscore Q K q r q r := by
  rw [mscore, if_pos (allow_self ..)]; exact EReal.bot_lt_coe _

theorem keysTo_apply (hK : Holds x1 K) (q : ℕ) (hq : q < 8) (i : Fin ((q + 1) * 256)) (e : Fin 128) :
    keysTo q hq (k0_pay120 x0 x1 x2) (ix2 i e) = ((K i e : ℝ) : EReal) := by
  rw [keysTo, slice_apply _ _ i e (by omega) (by omega), keys_apply x0 x1 x2 hK]
  simp

theorem valsTo_apply (hV : Holds x2 V) (q : ℕ) (hq : q < 8) (d : Fin 128) (i : Fin ((q + 1) * 256)) :
    valsTo q hq (k0_pay121 x0 x1 x2) (ix2 ⟨d.val, by omega⟩ i) = ((V i d : ℝ) : EReal) := by
  rw [valsTo, slice_apply _ _ _ i (by simp; omega) (by omega)]
  simp only [zero_add]
  exact values_apply x0 x1 x2 hV _ d _

theorem onesTo_apply (q : ℕ) (hq : q < 8) (i : Fin ((q + 1) * 256)) :
    valsTo q hq (k0_pay121 x0 x1 x2) (ix2 128 i) = 1 := by
  rw [valsTo, slice_apply _ _ _ i (by simp) (by omega)]
  exact ones_apply x0 x1 x2 _

/-- What is stored for query block `q`, `0 < q`, is the attention's result. -/
theorem stored_apply (hQ : Holds x0 Q) (hK : Holds x1 K) (q : ℕ) (h0 : 0 < q) (hq : q < 8)
    (kb : FVec Ideal ⟨2, ![(q + 1) * 256, 128]⟩ .bf16)
    (hkb : ∀ (i : Fin ((q + 1) * 256)) (e : Fin 128), kb (ix2 i e) = ((K i e : ℝ) : EReal))
    (vt : FVec Ideal ⟨2, ![144, (q + 1) * 256]⟩ .bf16)
    (r : Fin 256) (d : Fin 128) (hv : ∀ i, vt (ix2 ⟨d.val, by omega⟩ i) = ((V i d : ℝ) : EReal)) (h1 : ∀ i, vt (ix2 128 i) = 1) :
    stored q h0 hq kb (k0_pay122 x0 x1 x2) (k0_pay123 x0 x1 x2) vt (ix2 r d) = ((att Q K V q r d : ℝ) : EReal) := by
  have hS := fun n hn x => mblk_apply x0 x1 x2 hQ hK q hq kb hkb n hn x r
  obtain ⟨μ, hμ⟩ := topOf_real q (mblk q hq kb (k0_pay122 x0 x1 x2) (k0_pay123 x0 x1 x2)) r
    (fun n hn x => by rw [hS n hn]; exact mscore_lt ..) ⟨r, by rw [hS q le_rfl]; exact bot_lt_mscore ..⟩
  refine quot_att q hq vt _ _ (mblk q hq kb (k0_pay122 x0 x1 x2) (k0_pay123 x0 x1 x2)) r d μ hμ ?_ hS hv h1
  intro n hn x
  rw [wts]
  exact concatenate_ofFn_apply (t := ⟨2, ![(q + 1) * 256, 256]⟩) (s₁ := S256x256) 0
    (fun n : Fin (q + 1) => wt _ (mblk q hq kb (k0_pay122 x0 x1 x2) (k0_pay123 x0 x1 x2) n)) _ rfl 256 rfl
    (ix2 (⟨n * 256 + x, by omega⟩ : Fin ((q + 1) * 256)) r) ⟨n, by omega⟩ (show (n * 256 + x.val) / 256 = n by omega) (ix2 x r)
    (show x.val = (n * 256 + x.val) % 256 by omega) (fun b hb => by fin_cases b <;> first | exact absurd rfl hb | rfl)

/-- What is stored for the first query block is the attention's result. -/
theorem stored0_apply (hQ : Holds x0 Q) (hK : Holds x1 K) (hV : Holds x2 V) (r : Fin 256) (d : Fin 128) :
    k0_pay13 (F := Ideal) (k0_pay120 x0 x1 x2) (k0_pay121 x0 x1 x2) (k0_pay122 x0 x1 x2) (ix2 r d) = ((att Q K V 0 r d : ℝ) : EReal) := by
  classical
  have hS : ∀ x : Fin 256, mblk0 (k0_pay120 x0 x1 x2) (k0_pay122 x0 x1 x2) (ix2 x r) = mscore Q K 0 r 0 x := by
    intro x
    have e : scores 0 (by omega) (keysTo 0 (by omega) (k0_pay120 x0 x1 x2)) (k0_pay122 x0 x1 x2) (ix2 x r)
        = blkOf 0 0 (by omega) (scores 0 (by omega) (keysTo 0 (by omega) (k0_pay120 x0 x1 x2)) (k0_pay122 x0 x1 x2)) (ix2 x r) :=
      ((slice_apply _ _ x r (by omega) (by omega)).trans (congrArg _ (by simp))).symm
    rw [mblk0, maskDiag_apply, e, blkOf_apply, mscore]
    refine if_congr (by simp [allow]) ?_ rfl
    simp only [keysTo_apply x0 x1 x2 hK, queries_apply x0 x1 x2 hQ, ← EReal.coe_mul, coe_sum]
    rfl
  rw [piece0]
  obtain ⟨μ, hμ⟩ := topOf_real 0 (fun _ => mblk0 (k0_pay120 x0 x1 x2) (k0_pay122 x0 x1 x2)) r
    (fun n hn x => by rw [hS]; exact mscore_lt ..) ⟨r, by rw [hS]; exact bot_lt_mscore ..⟩
  refine quot_att 0 (by omega) _ _ _ (fun _ => mblk0 (k0_pay120 x0 x1 x2) (k0_pay122 x0 x1 x2)) r d μ hμ ?_ ?_
    (valsTo_apply x0 x1 x2 hV _ _ d) (onesTo_apply x0 x1 x2 _ _)
  · intro n hn x
    obtain rfl : n = 0 := by omega
    exact congrArg _ (by simp)
  · intro n hn x
    obtain rfl : n = 0 := by omega
    exact hS x

theorem ix2_rows {i : S2048x128.Idx} : i = ix2 ⟨(i 0).val, (i 0).isLt⟩ ⟨(i 1).val, (i 1).isLt⟩ := by
  funext z; fin_cases z <;> rfl

/-- The block the body leaves in its output: row `q * 256 + r`, column `d` holds the attention's result there. -/
theorem out_apply (hQ : Holds x0 Q) (hK : Holds x1 K) (hV : Holds x2 V) (i : S2048x128.Idx) :
    out0_3 (F := Ideal) x0 x1 x2 i = ((att Q K V ((i 0).val / 256) ((i 0).val % 256) (i 1).val : ℝ) : EReal) := by
  have key : ∀ (q : ℕ) (p : FVec Ideal S256x128 .f32) (h : ∀ a, ![q * 256, 0] a + S256x128.size a ≤ S2048x128.size a),
      (∀ (r : Fin 256) (d : Fin 128), p (ix2 r d) = ((att Q K V q r d : ℝ) : EReal)) →
      ∀ x : S256x128.Idx, p x = (fun i : S2048x128.Idx => ((att Q K V ((i 0).val / 256) ((i 0).val % 256) (i 1).val : ℝ) : EReal))
        ((Rect.unit (s := S2048x128) ![q * 256, 0] S256x128.size h).emb x) := by
    intro q p h hp x
    have e0 : (((Rect.unit (s := S2048x128) ![q * 256, 0] S256x128.size h).emb x) 0 : ℕ) = q * 256 + 1 * (x 0).val := rfl
    have e1 : (((Rect.unit (s := S2048x128) ![q * 256, 0] S256x128.size h).emb x) 1 : ℕ) = 0 + 1 * (x 1).val := rfl
    have hx : x = ix2 ⟨(x 0).val, (x 0).isLt⟩ ⟨(x 1).val, (x 1).isLt⟩ := by funext z; fin_cases z <;> rfl
    have hlt : (x 0).val < 256 := (x 0).isLt
    simp only [e0, e1]
    rw [show (q * 256 + 1 * (x 0).val) / 256 = q by omega, show (q * 256 + 1 * (x 0).val) % 256 = (x 0).val by omega,
      show 0 + 1 * (x 1).val = (x 1).val by omega]
    conv_lhs => rw [hx]
    exact hp _ _
  have st : ∀ (q : ℕ) (h0 : 0 < q) (hq : q < 8) (r : Fin 256) (d : Fin 128),
      stored q h0 hq (keysTo q hq (k0_pay120 x0 x1 x2)) (k0_pay122 x0 x1 x2) (k0_pay123 x0 x1 x2) (valsTo q hq (k0_pay121 x0 x1 x2)) (ix2 r d)
        = ((att Q K V q r d : ℝ) : EReal) := fun q h0 hq r d =>
    stored_apply x0 x1 x2 hQ hK q h0 hq _ (keysTo_apply x0 x1 x2 hK q hq) _ r d (valsTo_apply x0 x1 x2 hV q hq d) (onesTo_apply x0 x1 x2 q hq)
  unfold out0_3
  rw [piece1, piece2, piece3, piece4, piece5, piece6, piece7]
  refine View.canon_apply_of_pieces (Val := Elt Ideal) (S := S2048x128) (e := .f32) (fun i : S2048x128.Idx => ((att Q K V ((i 0).val / 256) ((i 0).val % 256) (i 1).val : ℝ) : EReal)) _ ?_ i
    (cover0_3 ..)
  intro p hp
  simp only [List.mem_cons, List.not_mem_nil, or_false] at hp
  rcases hp with rfl | rfl | rfl | rfl | rfl | rfl | rfl | rfl
  · exact key 7 _ (by decide) (fun r d => stored_apply x0 x1 x2 hQ hK 7 (by omega) (by omega) _ (keys_apply x0 x1 x2 hK) _ r d (fun i => values_apply x0 x1 x2 hV i d _) (ones_apply x0 x1 x2))
  · exact key 6 _ (by decide) ((st 6 (by omega) (by omega)))
  · exact key 5 _ (by decide) ((st 5 (by omega) (by omega)))
  · exact key 4 _ (by decide) ((st 4 (by omega) (by omega)))
  · exact key 3 _ (by decide) ((st 3 (by omega) (by omega)))
  · exact key 2 _ (by decide) ((st 2 (by omega) (by omega)))
  · exact key 1 _ (by decide) ((st 1 (by omega) (by omega)))
  · exact key 0 _ (by decide) ((stored0_apply x0 x1 x2 hQ hK hV))

end Cert.KernelIdeal.Att

end
-- ==== Proof.KArr.lean ====
/- The kernel's result array, read at an index: every row and column holds the attention's result, the argument's elements reals. -/
module
public import proofs.«01_k».proof.Proof.KVal
public import proofs.«01_k».proof.Proof.Gen.KernelIdeal.Value
public import Idealize.ShloMosaic.Lib.Pipeline.ValueKit

@[expose] public section

set_option maxRecDepth 16384

noncomputable section

namespace Moba

/-- The part of a matrix whose first row is `o` and whose first column is `p`. -/
def part (A : ℕ → ℕ → ℝ) (o p : ℕ) : ℕ → ℕ → ℝ := fun i e => A (o + i) (p + e)

/-- The attention of sequence `b` and head `h` at query block `q`, row `r`, feature `d`, from the whole projection: the queries start at column
    3584, the keys at 4608, the values at 5632. -/
def attAt (A : ℕ → ℕ → ℝ) (b h q r d : ℕ) : ℝ :=
  att (part A (b * 2048) ((28 + h) * 128)) (part A (b * 2048) ((36 + h) * 128)) (part A (b * 2048) ((44 + h) * 128)) q r d

end Moba

namespace Cert.KernelIdeal.Att

open Cert.KernelIdeal Cert.KernelIdeal.Gen Idealize.ShloMosaic Idealize.ShloMosaic.TcCoe Idealize.SL.Sem
open Moba
open Idealize.ShloMosaic.Pipeline (Dat)

/-- The block of each window at a grid point: the sequence and the head, the heads of the keys and the values counted on. -/
theorem index_facts : ∀ t : Fin cfg0.N, win0_0.index t = ![(grid0.coords t 0).val, 28 + (grid0.coords t 1).val]
    ∧ win0_1.index t = ![(grid0.coords t 0).val, 36 + (grid0.coords t 1).val]
    ∧ win0_2.index t = ![(grid0.coords t 0).val, 44 + (grid0.coords t 1).val]
    ∧ win0_3.index t = ![(grid0.coords t 0).val, (grid0.coords t 1).val] :=
  (by decide +kernel : ∀ t : Fin grid0.N, _)

variable (m : (ℓ : Loc nD τ sig) → Buf (Elt Ideal) ℓ) {A : ℕ → ℕ → ℝ}

/-- The result array, as one function of the argument's elements. -/
def result (A : ℕ → ℕ → ℝ) : Vec Ideal S16384x1024 .f32 := fun i =>
  ((attAt A ((i 0).val / 2048) ((i 1).val / 128) ((i 0).val % 2048 / 256) ((i 0).val % 256) ((i 1).val % 128) : ℝ) : EReal)

theorem final (c : Dev nD) (hA : ∀ i : S16384x6656.Idx, m ((c : Thread nD τ).loc main_arg0) i = ((A (i 0).val (i 1).val : ℝ) : EReal)) :
    (dats m 0 c).arrAt 3 cfg0.N = result A := by
  refine (dats m 0 c).arrAt_eq_of_covers 3 _ (by decide +kernel) fun t hf y => ?_
  blk_simp
  rw [after0_3]
  have h0 : Holds (iblk m c 0 t) (part A ((grid0.coords t 0).val * 2048) ((28 + (grid0.coords t 1).val) * 128)) := by
    intro i e
    refine (hA _).trans ?_
    blk_simp [index_facts t]
    rfl
  have h1 : Holds (iblk m c 1 t) (part A ((grid0.coords t 0).val * 2048) ((36 + (grid0.coords t 1).val) * 128)) := by
    intro i e
    refine (hA _).trans ?_
    blk_simp [index_facts t]
    rfl
  have h2 : Holds (iblk m c 2 t) (part A ((grid0.coords t 0).val * 2048) ((44 + (grid0.coords t 1).val) * 128)) := by
    intro i e
    refine (hA _).trans ?_
    blk_simp [index_facts t]
    rfl
  rw [out_apply _ _ _ h0 h1 h2, result]
  blk_simp [index_facts t]
  have y0 : (y 0).val < 2048 := (y 0).isLt
  have y1 : (y 1).val < 128 := (y 1).isLt
  generalize (grid0.coords t 0).val = b
  generalize (grid0.coords t 1).val = h
  have e0 : (b * 2048 + (y 0).val) / 2048 = b := by omega
  have e1 : (b * 2048 + (y 0).val) % 2048 / 256 = (y 0).val / 256 := by omega
  have e2 : (b * 2048 + (y 0).val) % 256 = (y 0).val % 256 := by omega
  have e3 : (h * 128 + (y 1).val) / 128 = h := by omega
  have e4 : (h * 128 + (y 1).val) % 128 = (y 1).val := by omega
  rw [attAt, e0, e1, e2, e3, e4]

end Cert.KernelIdeal.Att

end
-- ==== Proof.RefVal.lean ====
/- The reference's result, read at an index: every row and column holds the attention's result, the argument's elements reals. -/
module
public import proofs.«01_k».proof.Proof.RefRead
public import proofs.«01_k».proof.Proof.KArr

@[expose] public section

set_option maxRecDepth 16384

noncomputable section

namespace Cert.ReferenceIdeal.Att

open Cert.ReferenceIdeal Cert.ReferenceIdeal.Gen Idealize.ShloMosaic Idealize.ShloMosaic.TcCoe Idealize.SL.Sem
open Cert.ReferenceIdeal.Value
open Moba

variable (x : FVec Ideal S16384x6656 .f32) {b h : Fin 8} {Q K V : ℕ → ℕ → ℝ}

/-- The gates of a row as a function of the block. -/
theorem gates_row (hq : Has (qs x) b h Q) (hk : Has (ks x) b h K) (o : Fin 8) (r : Fin 256) :
    (fun m : Fin 8 => (allGates x (ix5 b h o r m) : EReal)) = masked8 (fun m => gate Q K m (o.val * 256 + r.val)) o :=
  funext fun n => gates_apply hq hk o r n

/-- The three blocks the sort puts first are the selection of the masked gates. -/
theorem place_sel (hq : Has (qs x) b h Q) (hk : Has (ks x) b h K) (o : Fin 8) (r : Fin 256) (n : Fin 3) :
    place (allGates x) b h o r n = sel (fun m => gate Q K m (o.val * 256 + r.val)) o n := by
  rw [place, gates_row x hq hk, sel]

/-- A masked gate is finite exactly before the query's own block. -/
theorem live_iff (G : ℕ → ℝ) (o : ℕ) (m : Fin 8) : max (masked8 G o m) (-(masked8 G o m)) < ⊤ ↔ m.val < o := by
  unfold masked8
  split
  · next hm =>
    refine ⟨fun _ => hm, fun _ => max_lt (EReal.coe_lt_top _) ?_⟩
    rw [← EReal.coe_neg]
    exact EReal.coe_lt_top _
  · next hm => simp [hm]

/-- The score of a key of a selected block. -/
theorem allScores_sel (hq : Has (qs x) b h Q) (hk : Has (ks x) b h K) (o : Fin 8) (r : Fin 256) (n : Fin 3) (z : Fin 256) :
    allScores x (ix5 b h o r (⟨n.val * 256 + z.val, by omega⟩ : Fin 1024))
      = rscore Q K o r (place (allGates x) b h o r n) z ((place (allGates x) b h o r n).val < o.val) := by
  rw [allScores, scores_sel]
  refine selScore_apply hq _ o r n z _ (fun d => ?_) ?_
  · rw [pickRows_apply (ks x) _ b h o r n z d _ (topIdx_apply _ b h o r n)]
    exact hk _ z d
  · rw [topVal_apply]
    have e : allGates x (ix5 b h o r (place (allGates x) b h o r n)) = masked8 (fun m => gate Q K m (o.val * 256 + r.val)) o (place (allGates x) b h o r n) :=
      gates_apply hq hk o r _
    rw [e]
    exact live_iff _ _ _

/-- The score of a key of the query's own block. -/
theorem allScores_own (hq : Has (qs x) b h Q) (hk : Has (ks x) b h K) (o : Fin 8) (r : Fin 256) (z : Fin 256) :
    allScores x (ix5 b h o r (⟨768 + z.val, by omega⟩ : Fin 1024)) = rscore Q K o r o z (z.val ≤ r.val) := by
  rw [allScores, scores_own]
  exact ownScore_apply hq hk o r z

theorem rscore_lt (q r n y : ℕ) (p : Prop) [Decidable p] : rscore Q K q r n y p < ⊤ := by
  unfold rscore; split
  · exact EReal.coe_lt_top _
  · exact bot_lt_top

/-- A place in a row of scores is one of a selected block or one of the own block. -/
theorem place_cases (z : Fin 1024) : (∃ (n : Fin 3) (y : Fin 256), z = ⟨n.val * 256 + y.val, by omega⟩) ∨ ∃ y : Fin 256, z = ⟨768 + y.val, by omega⟩ := by
  by_cases hz : z.val < 768
  · exact .inl ⟨⟨z.val / 256, by omega⟩, ⟨z.val % 256, by omega⟩, Fin.ext (by show z.val = z.val / 256 * 256 + z.val % 256; omega)⟩
  · exact .inr ⟨⟨z.val - 768, by omega⟩, Fin.ext (by show z.val = 768 + (z.val - 768); omega)⟩

/-- A sum over a row of scores is the sum over the selected blocks and the sum over the own block. -/
theorem sum_row (f : Fin 1024 → EReal) :
    ∑ z, f z = (∑ n : Fin 3, ∑ y : Fin 256, f ⟨n.val * 256 + y.val, by omega⟩) + ∑ y : Fin 256, f ⟨768 + y.val, by omega⟩ := by
  have e := Cert.KernelIdeal.Att.sum_blocks 3 f
  refine e.trans ?_
  rw [Fin.sum_univ_castSucc]
  rfl

/-- The largest score of a row is a real. -/
theorem allLargest (hq : Has (qs x) b h Q) (hk : Has (ks x) b h K) (o : Fin 8) (r : Fin 256) :
    ∃ μ : ℝ, largest (allScores x) (ix4 b h o r) = (μ : EReal) := by
  refine largest_real (allScores x) b h o r (fun z => ?_) ⟨768 + r.val, by omega⟩ ?_
  · rcases place_cases z with ⟨n, y, rfl⟩ | ⟨y, rfl⟩
    · rw [allScores_sel x hq hk]; exact rscore_lt _ _ _ _ _
    · rw [allScores_own x hq hk]; exact rscore_lt _ _ _ _ _
  · rw [allScores_own x hq hk, rscore, if_pos le_rfl]
    exact EReal.bot_lt_coe _

/-- The weighted values are the attention's result. -/
theorem mix_att (hq : Has (qs x) b h Q) (hk : Has (ks x) b h K) (hv : Has (vs x) b h V) (o : Fin 8) (r : Fin 256) (d : Fin 128) :
    mix (probs (allExpo x) (total (allExpo x))) (pickRows (vs x) (topIdx (allGates x))) (vs x) (ix5 b h o r d) = ((att Q K V o r d : ℝ) : EReal) := by
  obtain ⟨μ, hμ⟩ := allLargest x hq hk o r
  rw [mix_apply, Finset.sum_comm]
  have hv' : ∀ (n : Fin 3) (y : Fin 256), pickRows (vs x) (topIdx (allGates x)) (ix7 b h o r n y d)
      = ((V ((place (allGates x) b h o r n).val * 256 + y) d : ℝ) : EReal) := fun n y => by
    rw [pickRows_apply (vs x) _ b h o r n y d _ (topIdx_apply _ b h o r n)]
    exact hv _ y d
  have hp : ∀ z, probs (allExpo x) (total (allExpo x)) (ix5 b h o r z)
      = Ideal.div (Ideal.exp (allScores x (ix5 b h o r z) - largest (allScores x) (ix4 b h o r))) (total (allExpo x) (ix4 b h o r)) := fun z => by
    rw [probs_apply]
    exact congrArg (fun v => Ideal.div v _) (expo_apply _ _ b h o r z)
  simp only [hp, hv', hv o _ d]
  refine soft_att Q K V o r d o.isLt (place (allGates x) b h o r) (funext fun n => place_sel x hq hk o r n) _ _ μ hμ
    (fun n y => allScores x (ix5 b h o r (⟨n.val * 256 + y.val, by omega⟩ : Fin 1024))) (fun n y => allScores_sel x hq hk o r n y)
    (fun y => allScores x (ix5 b h o r (⟨768 + y.val, by omega⟩ : Fin 1024))) (fun y => allScores_own x hq hk o r y) ?_
  have hE : ∀ z, allExpo x (ix5 b h o r z) = Ideal.exp (allScores x (ix5 b h o r z) - largest (allScores x) (ix4 b h o r)) :=
    fun z => expo_apply _ _ b h o r z
  rw [total_apply, sum_row]
  simp only [hE]

/-- The reference's result at an index. -/
theorem staged_att {A : ℕ → ℕ → ℝ} (hA : ∀ i : S16384x6656.Idx, x i = ((A (i 0).val (i 1).val : ℝ) : EReal)) :
    staged x = Cert.KernelIdeal.Att.result A := by
  funext i
  have hi : i = ix2 (⟨(i 0).val, (i 0).isLt⟩ : Fin 16384) (⟨(i 1).val, (i 1).isLt⟩ : Fin 1024) := by
    funext a
    fin_cases a <;> rfl
  rw [hi, staged, layout_apply]
  have h0 : (i 0).val < 16384 := (i 0).isLt
  have h1 : (i 1).val < 1024 := (i 1).isLt
  refine (mix_att x (Q := part A ((i 0).val / 2048 * 2048) ((28 + (i 1).val / 128) * 128)) (K := part A ((i 0).val / 2048 * 2048) ((36 + (i 1).val / 128) * 128))
    (V := part A ((i 0).val / 2048 * 2048) ((44 + (i 1).val / 128) * 128)) ?_ ?_ ?_ _ _ _).trans ?_
  · intro o q d
    rw [qs_apply, hA]
    rfl
  · intro o q d
    rw [ks_apply, hA]
    rfl
  · intro o q d
    rw [vs_apply, hA]
    rfl
  · rw [Cert.KernelIdeal.Att.result, attAt]
    have e : (i 0).val / 256 % 8 = (i 0).val % 2048 / 256 := by omega
    simp only [e]
    rfl

end Cert.ReferenceIdeal.Att

end
-- ==== Proof.Finite.lean ====
/- The precondition, read at an index: every element of the argument is a real. -/
module
public import proofs.«01_k».proof.Pre_finite
public import proofs.«01_k».proof.Proof.Spec
public import proofs.«01_k».proof.Proof.Model

@[expose] public section

noncomputable section

namespace Cert.Pre_finite

open Idealize.ShloMosaic

/-- The reduction of bits by conjunction is one where every bit is. -/
theorem and_all {s t : Shape} {axes : List (Fin s.rank)} (x : IVec s 1) (v : IVec S_ 1) (hr : s.ReducesTo axes t) (hu : 0 < S_.numel) (j : t.Idx)
    (e : Host.reduce IntOp.andi x v hr hu j = 1#1) (i : s.Idx) (hi : hr.drop i = j) : x i = 1#1 := by
  rw [Host.reduce_eq_fold] at e
  have h2 : ∀ b c : BitVec 1, IntOp.andi b c = 1#1 ↔ b = 1#1 ∧ c = 1#1 := by decide
  exact ((Finset.fold_op_rel_iff_and (op := IntOp.andi) (r := fun _ y : BitVec 1 => y = 1#1) (fun {_ b c} => h2 b c) (c := 1#1)).1 e).2 i
    (Finset.mem_filter.2 ⟨Finset.mem_univ _, hi⟩)

theorem bits_top : Ideal.ofBits .f32 0x7F800000#32 = ⊤ := by
  simp [Ideal.ofBits, Ideal.ieee]

/-- An extended real whose absolute value is below the top is a real. -/
theorem real_of_abs (v : EReal) (h : max v (-v) < ⊤) : ∃ a : ℝ, v = (a : EReal) := by
  obtain ⟨a, ha⟩ := Moba.exists_real (x := v) (fun e => by simp [e] at h) (fun e => by simp [e] at h)
  exact ⟨a, ha⟩

/-- A comparison bit of a general shape, read as an order. -/
theorem lt_of_bit {s : Shape} (x y : FVec Ideal s .f32) (i : s.Idx) (e : cmpf .olt (Host.absf x) y i = 1#1) : max (x i : EReal) (-(x i)) < y i := by
  have e' : BitVec.ofBool (decide ((max (x i : EReal) (-(x i))) < y i)) = 1#1 := e
  by_contra h
  simp [h] at e'

variable [Facts]
open Facts

/-- Under the precondition every element is a real. -/
theorem real_of_fn (x : FVec Ideal S16384x6656 .f32) (h : fn (F := Ideal) x = fun _ => 1#1) (i : S16384x6656.Idx) : ∃ a : ℝ, x i = (a : EReal) := by
  have e := congrFun h ix0
  unfold fn at e
  have e2 := lt_of_bit _ _ i (and_all _ _ _ _ _ e i (funext fun a => a.elim0))
  refine real_of_abs _ (lt_of_lt_of_le e2 le_top)

/-- Under the precondition the argument is a matrix of reals. -/
theorem matrix_of_fn (x : FVec Ideal S16384x6656 .f32) (h : fn (F := Ideal) x = fun _ => 1#1) :
    ∃ A : ℕ → ℕ → ℝ, ∀ i : S16384x6656.Idx, x i = ((A (i 0).val (i 1).val : ℝ) : EReal) := by
  choose a ha using real_of_fn x h
  classical
  refine ⟨fun p q => if e : p < 16384 ∧ q < 6656 then a (ix2 ⟨p, e.1⟩ ⟨q, e.2⟩) else 0, fun i => ?_⟩
  have hi : i = ix2 (⟨(i 0).val, (i 0).isLt⟩ : Fin 16384) (⟨(i 1).val, (i 1).isLt⟩ : Fin 6656) := by
    funext k
    fin_cases k <;> rfl
  dsimp only
  rw [dif_pos (show (i 0).val < 16384 ∧ (i 1).val < 6656 from ⟨(i 0).isLt, (i 1).isLt⟩), ha]
  exact congrArg (fun v => ((a v : ℝ) : EReal)) hi

end Cert.Pre_finite

end
-- ==== Proof.Proj.lean ====
/- The input projection: the kernel's result array and the reference's, read at an index as one formula. -/
module
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

namespace Proj

open Idealize.ShloMosaic

/-- The normalised row `x` scaled by `g`, against the column `w`. -/
def normDot (x g w : Fin 2048 → EReal) : EReal :=
  ∑ k, x k * Ideal.rsqrt (Ideal.div (∑ l, x l * x l) (Ideal.ofBits .f32 0x45000000#32) + Ideal.ofBits .f32 0x358637BD#32) * g k * w k

/-- Equal rows, scales and columns give equal products. -/
theorem normDot_congr {x x' g g' w w' : Fin 2048 → EReal} (hx : x = x') (hg : g = g') (hw : w = w') : normDot x g w = normDot x' g' w' := by
  rw [hx, hg, hw]

end Proj

namespace Cert.Kernel2Ideal.Proj

open Cert.Kernel2Ideal Cert.Kernel2Ideal.Gen Idealize.ShloMosaic Idealize.ShloMosaic.TcCoe Idealize.SL.Sem
open _root_.Proj
open Idealize.ShloMosaic.Pipeline (Dat)

/-- The block the body leaves in its output. -/
theorem out_apply (x0 : Vec Ideal S512x2048 .f32) (x1 : Vec Ideal S1x2048 .f32) (x2 : Vec Ideal S2048x3328 .bf16) (i : Fin 512) (j : Fin 3328) :
    out0_3 x0 x1 x2 (ix2 i j) = normDot (fun k => x0 (ix2 i k)) (fun k => x1 (ix2 0 k)) (fun k => x2 (ix2 k j)) := by
  frame_out
  pointwise [k0_pay1, normDot]

/-- The same at an index of the block. -/
theorem out_read (x0 : Vec Ideal S512x2048 .f32) (x1 : Vec Ideal S1x2048 .f32) (x2 : Vec Ideal S2048x3328 .bf16) (y : S512x3328.Idx) :
    out0_3 x0 x1 x2 y = normDot (fun k => x0 (ix2 (y 0) k)) (fun k => x1 (ix2 0 k)) (fun k => x2 (ix2 k (y 1))) := by
  have hy : y = ix2 (y 0) (y 1) := by
    funext a; fin_cases a <;> rfl
  exact (congrArg (out0_3 x0 x1 x2) hy).trans (out_apply x0 x1 x2 (y 0) (y 1))

/-- The block of each window at a grid point: the rows' number is the point's second coordinate, the columns' its first. -/
theorem index_facts : ∀ t : Fin cfg0.N, win0_0.index t = ![(grid0.coords t 1).val, 0]
    ∧ win0_1.index t = ![0, 0]
    ∧ win0_2.index t = ![0, (grid0.coords t 0).val]
    ∧ win0_3.index t = ![(grid0.coords t 1).val, (grid0.coords t 0).val] :=
  (by decide +kernel : ∀ t : Fin grid0.N, _)

variable (m : (ℓ : Loc nD τ sig) → Buf (Elt Ideal) ℓ)

/-- The weights the region reads are the argument's: the conversion to the narrower type is the identity on extended reals. -/
theorem weights (c : Dev nD) : V m c main_v0 = fun i : S2048x6656.Idx => m ((c : Thread nD τ).loc main_arg2) i := by
  rfl

/-- The result array, as one function of the three arguments. -/
def result (x : Vec Ideal S16384x2048 .f32) (g : Vec Ideal S1x2048 .f32) (w : Vec Ideal S2048x6656 .f32) : Vec Ideal S16384x6656 .f32 := fun i =>
  normDot (fun k => x (ix2 (i 0) k)) (fun k => g (ix2 0 k)) (fun k => w (ix2 k (i 1)))

/-- The kernel's array once every block is stored. -/
theorem final (c : Dev nD) : (dats m 0 c).arrAt 3 cfg0.N = result (m ((c : Thread nD τ).loc main_arg0)) (m ((c : Thread nD τ).loc main_arg1))
    (m ((c : Thread nD τ).loc main_arg2)) := by
  refine (dats m 0 c).arrAt_eq_of_covers 3 _ (by decide +kernel) fun t hf y => ?_
  blk_simp
  rw [after0_3]
  refine (out_read _ _ _ y).trans ?_
  rw [result]
  refine normDot_congr ?_ ?_ ?_
  · funext k
    blk_ext [iblk, V, V_main_arg0 m c, index_facts t]
  · funext k
    blk_ext [iblk, V, V_main_arg1 m c, index_facts t]
  · funext k
    blk_ext [iblk, V, weights m c, index_facts t]

end Cert.Kernel2Ideal.Proj

namespace Cert.Reference2Ideal.Proj

open Cert.Reference2Ideal Cert.Reference2Ideal.Gen Idealize.ShloMosaic Idealize.ShloMosaic.TcCoe Idealize.SL.Sem
open _root_.Proj

/-- The reference's result at a row and a column. -/
theorem ref_apply (x : FVec Ideal S16384x2048 .f32) (g : FVec Ideal S1x2048 .f32) (w : FVec Ideal S2048x6656 .f32) (i : Fin 16384) (j : Fin 6656) :
    Host.dotGeneral dot_S16384x2048_S2048x6656_S16384x6656_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) w (ix2 i j)
      = normDot (fun k => x (ix2 i k)) (fun k => g (ix2 0 k)) (fun k => w (ix2 k j)) := by
  pointwise [normDot]

/-- The reference's result is the kernel's formula of the same arguments. -/
theorem ref_read (x : FVec Ideal S16384x2048 .f32) (g : FVec Ideal S1x2048 .f32) (w : FVec Ideal S2048x6656 .f32) :
    Host.dotGeneral dot_S16384x2048_S2048x6656_S16384x6656_1_0_0_1_n_n none (mulf (mulf x (broadcastInDim S16384x2048 ![0, 1] bcast_S16384x1_S16384x2048_0_1 (Host.rsqrt (addf (Host.divf (broadcastInDim S16384x1 ![0] bcast_S16384_S16384x1_0 (Host.reduceAdd (mulf x x) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x358637BD#32)))))) (broadcastInDim S16384x2048 ![0, 1] bcast_S1x2048_S16384x2048_0_1 g)) w = Cert.Kernel2Ideal.Proj.result x g w := by
  funext y
  have hy : y = ix2 (y 0) (y 1) := by
    funext a; fin_cases a <;> rfl
  rw [hy]
  exact ref_apply x g w (y 0) (y 1)

end Cert.Reference2Ideal.Proj

end
-- ==== Proof.OutBits.lean ====
/-
  The output projection's call, program `Kernel3`, from its launch to its end: at every grid point the body takes the staged
  blocks of its ten inputs and stores into its four outputs' buffers. The
  outputs are not: the frame reads none of them, and the run is
  stated with those windows' contents left open. The proof data, the obligation and the launch follow the plain
  pipeline's set-up.
-/
module

public import proofs.«01_k».proof.Proof.Gen.Kernel3.Frame
public import Idealize.ShloMosaic.Lib.Pipeline.FrameBody
public import Idealize.ShloMosaic.Lib.Claim
public import Idealize.ShloMosaic.Lib.Tactic

@[expose] public section

set_option maxRecDepth 16384

noncomputable section

namespace Cert.Kernel3.Out

open Cert.Kernel3 Cert.Kernel3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

local notation "𝕄" => MT nD τ sig Unit (Elt F) ℕ (UR sig nD τ) ℕ

variable (m : (ℓ : Loc nD τ sig) → Buf (Elt F) ℓ) (ρ : Dev nD → PrngReg)

/-! ## The body -/

set_option maxHeartbeats 4000000 in
/-- The body at a grid point, on staging buffers holding `x0 … x9` and on output buffers holding anything, runs to its
    end with the inputs as they were and the outputs at some contents. -/
theorem body_runs (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x128 .f32) (harg10 : arg10.IsWhole) (arg11 : Memref sig .tc .vmem S512x2048 .f32) (harg11 : arg11.IsWhole) (arg12 : Memref sig .tc .vmem S4096x128 .i32) (harg12 : arg12.IsWhole) (arg13 : Memref sig .tc .vmem S512x128 .f32) (harg13 : arg13.IsWhole) (arg14 : Memref sig .tc .vmem S1x128 .f32) (harg14 : arg14.IsWhole)
    (x0 : Vec F S512x1024 .f32) (x1 : Vec F S512x1024 .f32) (x2 : Vec F S512x2048 .f32) (x3 : Vec F S1x1024 .f32) (x4 : Vec F S1024x2048 .bf16) (x5 : Vec F S1024x2048 .bf16) (x6 : Vec F S1x2048 .f32) (x7 : Vec F S2048x128 .bf16) (x8 : Vec F S2048x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  unfold cc0_out_proj
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

/-! ## The proof data -/

/-- The windows whose contents are left open. -/
def open_ : Fin 14 → Bool := ![false, false, false, false, false, false, false, false, false, false, true, true, true, true]

/-- The proof data on a core: the arrays as the region finds them; after the body at a point each input's buffer at its
    block, the open windows unnamed; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- Input 0 is left at its block. -/
theorem after_0 (c : Dev nD) (t : Fin cfg0.N) : (dats m 0 c).after 0 t = iblk m c 0 t := by dsimp only [dats]
/-- Input 1 is left at its block. -/
theorem after_1 (c : Dev nD) (t : Fin cfg0.N) : (dats m 0 c).after 1 t = iblk m c 1 t := by dsimp only [dats]
/-- Input 2 is left at its block. -/
theorem after_2 (c : Dev nD) (t : Fin cfg0.N) : (dats m 0 c).after 2 t = iblk m c 2 t := by dsimp only [dats]
/-- Input 3 is left at its block. -/
theorem after_3 (c : Dev nD) (t : Fin cfg0.N) : (dats m 0 c).after 3 t = iblk m c 3 t := by dsimp only [dats]
/-- Input 4 is left at its block. -/
theorem after_4 (c : Dev nD) (t : Fin cfg0.N) : (dats m 0 c).after 4 t = iblk m c 4 t := by dsimp only [dats]
/-- Input 5 is left at its block. -/
theorem after_5 (c : Dev nD) (t : Fin cfg0.N) : (dats m 0 c).after 5 t = iblk m c 5 t := by dsimp only [dats]
/-- Input 6 is left at its block. -/
theorem after_6 (c : Dev nD) (t : Fin cfg0.N) : (dats m 0 c).after 6 t = iblk m c 6 t := by dsimp only [dats]
/-- Input 7 is left at its block. -/
theorem after_7 (c : Dev nD) (t : Fin cfg0.N) : (dats m 0 c).after 7 t = iblk m c 7 t := by dsimp only [dats]
/-- Input 8 is left at its block. -/
theorem after_8 (c : Dev nD) (t : Fin cfg0.N) : (dats m 0 c).after 8 t = iblk m c 8 t := by dsimp only [dats]
/-- Input 9 is left at its block. -/
theorem after_9 (c : Dev nD) (t : Fin cfg0.N) : (dats m 0 c).after 9 t = iblk m c 9 t := by dsimp only [dats]

/-- Input 0 is found at its block at every point. -/
theorem before_0 (c : Dev nD) (t : Fin cfg0.N) (d) : (dats m 0 c).before 0 t d = iblk m c 0 t :=
  before0_0_of m (dats m 0 c) (A_eq m c 0) (after_0 m c) t d
/-- Input 1 is found at its block at every point. -/
theorem before_1 (c : Dev nD) (t : Fin cfg0.N) (d) : (dats m 0 c).before 1 t d = iblk m c 1 t :=
  before0_1_of m (dats m 0 c) (A_eq m c 1) (after_1 m c) t d
/-- Input 2 is found at its block at every point. -/
theorem before_2 (c : Dev nD) (t : Fin cfg0.N) (d) : (dats m 0 c).before 2 t d = iblk m c 2 t :=
  before0_2_of m (dats m 0 c) (A_eq m c 2) (after_2 m c) t d
/-- Input 3 is found at its block at every point. -/
theorem before_3 (c : Dev nD) (t : Fin cfg0.N) (d) : (dats m 0 c).before 3 t d = iblk m c 3 t :=
  before0_3_of m (dats m 0 c) (A_eq m c 3) (after_3 m c) t d
/-- Input 4 is found at its block at every point. -/
theorem before_4 (c : Dev nD) (t : Fin cfg0.N) (d) : (dats m 0 c).before 4 t d = iblk m c 4 t :=
  before0_4_of m (dats m 0 c) (A_eq m c 4) (after_4 m c) t d
/-- Input 5 is found at its block at every point. -/
theorem before_5 (c : Dev nD) (t : Fin cfg0.N) (d) : (dats m 0 c).before 5 t d = iblk m c 5 t :=
  before0_5_of m (dats m 0 c) (A_eq m c 5) (after_5 m c) t d
/-- Input 6 is found at its block at every point. -/
theorem before_6 (c : Dev nD) (t : Fin cfg0.N) (d) : (dats m 0 c).before 6 t d = iblk m c 6 t :=
  before0_6_of m (dats m 0 c) (A_eq m c 6) (after_6 m c) t d
/-- Input 7 is found at its block at every point. -/
theorem before_7 (c : Dev nD) (t : Fin cfg0.N) (d) : (dats m 0 c).before 7 t d = iblk m c 7 t :=
  before0_7_of m (dats m 0 c) (A_eq m c 7) (after_7 m c) t d
/-- Input 8 is found at its block at every point. -/
theorem before_8 (c : Dev nD) (t : Fin cfg0.N) (d) : (dats m 0 c).before 8 t d = iblk m c 8 t :=
  before0_8_of m (dats m 0 c) (A_eq m c 8) (after_8 m c) t d
/-- Input 9 is found at its block at every point. -/
theorem before_9 (c : Dev nD) (t : Fin cfg0.N) (d) : (dats m 0 c).before 9 t d = iblk m c 9 t :=
  before0_9_of m (dats m 0 c) (A_eq m c 9) (after_9 m c) t d

/-! ## The obligation at a point -/

/-- What the body is called with at a point. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ (∃ d, owns (c : Thread nD τ) (st0_10 t) fullShare d)
    ∗ (∃ d, owns (c : Thread nD τ) (st0_11 t) fullShare d)
    ∗ (∃ d, owns (c : Thread nD τ) (st0_12 t) fullShare d)
    ∗ (∃ d, owns (c : Thread nD τ) (st0_13 t) fullShare d))

set_option maxHeartbeats 1000000 in
/-- The body at any point: the inputs' buffers hold their blocks, so `body_runs` applies; the rest passes through unread. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_runs c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a point is the body as the pipeline calls it. -/
theorem table_row (t : Fin cfg0.N) : defs₀ (F := F) .tc cfg0.body (cfg0.bodyArgs t (cfg0.slots t)) = bodyAt0 t := by
  unfold defs₀; rw [Defs.onTc_tc]

/-- The pipeline's obligation with the open windows left open. -/
theorem obligation (c : Dev nD) :
    BodyObligation (dats (F := F) m 0 c) (defs₀ (F := F)) Variants.none () Set.univ open_ := fun t => by
  rw [bigSep_W0, bigSep_W0, table_row]
  exact triple_restated (body_at m c t) rfl .rfl fun _ => .rfl

/-! ## The run -/

-- the launch theorem's implicit arguments are found by unfolding plain definitions in a metavariable's type
set_option backward.isDefEq.respectTransparency.types false in
set_option maxHeartbeats 800000 in
/-- Every fair execution from a memory with zero counters ends, the arrays in the proof data's relation to what the
    region found, every other buffer as found, every counter at zero. -/
theorem runs : θ_run defs (onTc (τ := τ) (main (F := F))) (s₀ m ρ)
    (fun r => Pipeline.RDat.FramePost (cfgs 0) (fun c => (dats m 0 c).toRForget open_) (V m) r ∧ r.2.sem = fun _ => 0) :=
  Pipeline.θ_run_frame_forget (Q' := _) cfgs (dats m) (0 : Fin 1) launch0 defs₀ Variants.none open_ m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- After the run the eight arguments hold what they held at launch. -/
theorem arguments_kept {r : PUnit × MemSt nD τ sig (Elt F)} (h : Pipeline.RDat.FramePost (cfgs 0) (fun c => (dats m 0 c).toRForget open_) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    (h.arr_in c 3 rfl).trans ((A_eq m c 3).trans (V_main_arg3 m c)),
    ((h c).2 main_arg4 (Pipeline.mem_restRefs_of main_arg4 (by decide) (by decide))).trans (V_main_arg4 m c),
    (h.arr_in c 6 rfl).trans ((A_eq m c 6).trans (V_main_arg5 m c)),
    ((h c).2 main_arg6 (Pipeline.mem_restRefs_of main_arg6 (by decide) (by decide))).trans (V_main_arg6 m c),
    (h.arr_in c 9 rfl).trans ((A_eq m c 9).trans (V_main_arg7 m c))⟩

/-- The frame: every fair execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => arguments_kept m h.1 c, h.2⟩) (runs m ρ)

end Cert.Kernel3.Out

end
-- ==== Proof.OutIdeal.lean ====
/-
  The output projection's call, program `Kernel3Ideal`, from its launch to its end: at every grid point the body takes the staged
  blocks of its ten inputs and stores into its four outputs' buffers. The first output, the residual sum, is named; the other
  three (the packed rows, the routing row and the expert counts) are not: nothing claimed reads them, and the run is
  stated with those windows' contents left open. The proof data, the obligation and the launch follow the plain
  pipeline's set-up.
-/
module

public import proofs.«01_k».proof.Proof.Gen.Kernel3Ideal.Frame
public import Idealize.ShloMosaic.Lib.Pipeline.FrameBody
public import Idealize.ShloMosaic.Lib.Claim
public import Idealize.ShloMosaic.Lib.Tactic

@[expose] public section

set_option maxRecDepth 16384

noncomputable section

namespace Cert.Kernel3Ideal.Out

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The residual sum -/

/-- A whole block of the residual stream, as a rectangle of its buffer. -/
abbrev wholeBlock : Rect S512x2048 := Rect.unit (s := S512x2048) ![0, 0] S512x2048.size inb_S512x2048_S512x2048_0_0

/-- What the body stores in its first output from the six inputs it reads first: the normalised attention times the
    upper half of the weights, plus the other heads times the lower half, plus the residual stream. -/
def sumBlock (a : Vec F S512x1024 .f32) (b : Vec F S512x1024 .f32) (x : Vec F S512x2048 .f32) (g : Vec F S1x1024 .f32)
    (wa : Vec F S1024x2048 .bf16) (wb : Vec F S1024x2048 .bf16) : FVec F S512x2048 .f32 :=
  addf x (addf
    (matmul dot_S512x1024_S1024x2048_S512x2048_1_0_0_1_n_n none
      (truncf .bf16
        (mulf
          (mulf a (broadcastTo S512x1024
            (rsqrt (addf
              (divf (shapeCast S512x1 (multiReduction .add [1] S512 (mulf a a) 0x00000000#32 reduces_S512x1024_S512 (.inl rfl) rfl) shapeCasts_S512_S512x1)
                (broadcast S512x1 (Scalar.ofBits .f32 0x44800000#32 : F .f32)))
              (broadcast S512x1 (Scalar.ofBits .f32 0x358637BD#32 : F .f32))))
            broadcasts_S512x1_S512x1024))
          (broadcastTo S512x1024 g broadcasts_S1x1024_S512x1024))
        bitsLt_bf16_f32)
      (shapeCast S1024x2048 wa shapeCasts_S1024x2048_S1024x2048) (constant S512x2048 .f32 0x00000000#32))
    (matmul dot_S512x1024_S1024x2048_S512x2048_1_0_0_1_n_n none (truncf .bf16 b bitsLt_bf16_f32)
      (shapeCast S1024x2048 wb shapeCasts_S1024x2048_S1024x2048) (constant S512x2048 .f32 0x00000000#32)))

/-- The first output's buffer after the body: its one store, of `sumBlock` of what the six loads read. -/
def sum (x0 : Vec F S512x1024 .f32) (x1 : Vec F S512x1024 .f32) (x2 : Vec F S512x2048 .f32) (x3 : Vec F S1x1024 .f32)
    (x4 : Vec F S1024x2048 .bf16) (x5 : Vec F S1024x2048 .bf16) : Vec F S512x2048 .f32 :=
  View.canon [⟨wholeBlock, sumBlock
    (View.ld x0 (Rect.unit (s := S512x1024) ![0, 0] S512x1024.size inb_S512x1024_S512x1024_0_0))
    (View.ld x1 (Rect.unit (s := S512x1024) ![0, 0] S512x1024.size inb_S512x1024_S512x1024_0_0))
    (View.ld x2 wholeBlock)
    (View.ld x3 (Rect.unit (s := S1x1024) ![0, 0] S1x1024.size inb_S1x1024_S1x1024_0_0))
    (View.ld x4 (Rect.unit (s := S1024x2048) ![0, 0] S1024x2048.size inb_S1024x2048_S1024x2048_0_0))
    (View.ld x5 (Rect.unit (s := S1024x2048) ![0, 0] S1024x2048.size inb_S1024x2048_S1024x2048_0_0))⟩]

/-- The one store covers the buffer. -/
theorem covered (p : Vec F S512x2048 .f32) (y : S512x2048.Idx) :
    ∃ pc ∈ ([⟨wholeBlock, p⟩] : List (View.Piece (Elt F) S512x2048 .f32)), y ∈ pc.1.set :=
  View.cover_of_tiled [⟨wholeBlock, p⟩] S512x2048.size (by rfl) y

/-! ## The body -/

set_option maxHeartbeats 4000000 in
/-- The body at a grid point, on staging buffers holding `x0 … x9` and on output buffers holding anything, runs to its
    end with the inputs as they were, the first output at `sum` and the other outputs at some contents. -/
theorem body_runs (c : Dev nD) (E : Set ℕ) (i : grid0.Coords) (arg1 : Memref sig .tc .vmem S512x1024 .f32) (harg1 : arg1.IsWhole) (arg2 : Memref sig .tc .vmem S512x1024 .f32) (harg2 : arg2.IsWhole) (arg3 : Memref sig .tc .vmem S512x2048 .f32) (harg3 : arg3.IsWhole) (arg4 : Memref sig .tc .vmem S1x1024 .f32) (harg4 : arg4.IsWhole) (arg5 : Memref sig .tc .vmem S1024x2048 .bf16) (harg5 : arg5.IsWhole) (arg6 : Memref sig .tc .vmem S1024x2048 .bf16) (harg6 : arg6.IsWhole) (arg7 : Memref sig .tc .vmem S1x2048 .f32) (harg7 : arg7.IsWhole) (arg8 : Memref sig .tc .vmem S2048x128 .bf16) (harg8 : arg8.IsWhole) (arg9 : Memref sig .tc .vmem S2048x128 .bf16) (harg9 : arg9.IsWhole) (arg10 : Memref sig .tc .vmem S1x128 .f32) (harg10 : arg10.IsWhole) (arg11 : Memref sig .tc .vmem S512x2048 .f32) (harg11 : arg11.IsWhole) (arg12 : Memref sig .tc .vmem S4096x2x128 .bf16) (harg12 : arg12.IsWhole) (arg13 : Memref sig .tc .vmem S512x128 .f32) (harg13 : arg13.IsWhole) (arg14 : Memref sig .tc .vmem S1x128 .f32) (harg14 : arg14.IsWhole)
    (x0 : Vec F S512x1024 .f32) (x1 : Vec F S512x1024 .f32) (x2 : Vec F S512x2048 .f32) (x3 : Vec F S1x1024 .f32) (x4 : Vec F S1024x2048 .bf16) (x5 : Vec F S1024x2048 .bf16) (x6 : Vec F S1x2048 .f32) (x7 : Vec F S2048x128 .bf16) (x8 : Vec F S2048x128 .bf16) (x9 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare (sum x0 x1 x2 x3 x4 x5) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_out_proj i arg1 harg1 arg2 harg2 arg3 harg3 arg4 harg4 arg5 harg5 arg6 harg6 arg7 harg7 arg8 harg8 arg9 harg9 arg10 harg10 arg11 harg11 arg12 harg12 arg13 harg13 arg14 harg14) K := by
  unfold cc0_out_proj
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, Hk⟩
  subst hf0 hf1 hf2 hf3 hf4 hf5 hf6 hf7 hf8 hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists _; isplitr
    swap; · iexact H10
    ipureintro
    exact View.read_writes_eq_canon _ _ _ (covered _)
  isplitl [H11]
  · iexists _, _; isplitr; swap; · iexact H11
    ipureintro; rfl
  isplitl [H12]
  · iexists _, _; isplitr; swap; · iexact H12
    ipureintro; rfl
  iexists _, _; isplitr; swap; · iexact H13
  ipureintro; rfl

/-! ## The proof data -/

/-- The windows whose contents are left open. -/
def open_ : Fin 14 → Bool := ![false, false, false, false, false, false, false, false, false, false, false, true, true, true]

/-- The proof data on a core: the arrays as the region finds them; after the body at a point each input's buffer at its
    block, the first output's at `sum` of the blocks, the open windows unnamed; full shares; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => sum (iblk m c 0 t) (iblk m c 1 t) (iblk m c 2 t) (iblk m c 3 t) (iblk m c 4 t) (iblk m c 5 t)
    | ⟨11, _⟩ => Pipeline.Dat.unnamed (cfg := cfg0) 11 t
    | ⟨12, _⟩ => Pipeline.Dat.unnamed (cfg := cfg0) 12 t
    | ⟨13, _⟩ => Pipeline.Dat.unnamed (cfg := cfg0) 13 t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- Input 0 is left at its block. -/
theorem after_0 (c : Dev nD) (t : Fin cfg0.N) : (dats m 0 c).after 0 t = iblk m c 0 t := by dsimp only [dats]
/-- Input 1 is left at its block. -/
theorem after_1 (c : Dev nD) (t : Fin cfg0.N) : (dats m 0 c).after 1 t = iblk m c 1 t := by dsimp only [dats]
/-- Input 2 is left at its block. -/
theorem after_2 (c : Dev nD) (t : Fin cfg0.N) : (dats m 0 c).after 2 t = iblk m c 2 t := by dsimp only [dats]
/-- Input 3 is left at its block. -/
theorem after_3 (c : Dev nD) (t : Fin cfg0.N) : (dats m 0 c).after 3 t = iblk m c 3 t := by dsimp only [dats]
/-- Input 4 is left at its block. -/
theorem after_4 (c : Dev nD) (t : Fin cfg0.N) : (dats m 0 c).after 4 t = iblk m c 4 t := by dsimp only [dats]
/-- Input 5 is left at its block. -/
theorem after_5 (c : Dev nD) (t : Fin cfg0.N) : (dats m 0 c).after 5 t = iblk m c 5 t := by dsimp only [dats]
/-- Input 6 is left at its block. -/
theorem after_6 (c : Dev nD) (t : Fin cfg0.N) : (dats m 0 c).after 6 t = iblk m c 6 t := by dsimp only [dats]
/-- Input 7 is left at its block. -/
theorem after_7 (c : Dev nD) (t : Fin cfg0.N) : (dats m 0 c).after 7 t = iblk m c 7 t := by dsimp only [dats]
/-- Input 8 is left at its block. -/
theorem after_8 (c : Dev nD) (t : Fin cfg0.N) : (dats m 0 c).after 8 t = iblk m c 8 t := by dsimp only [dats]
/-- Input 9 is left at its block. -/
theorem after_9 (c : Dev nD) (t : Fin cfg0.N) : (dats m 0 c).after 9 t = iblk m c 9 t := by dsimp only [dats]
/-- The first output is left at `sum` of the blocks. -/
theorem after_10 (c : Dev nD) (t : Fin cfg0.N) : (dats m 0 c).after 10 t = sum (iblk m c 0 t) (iblk m c 1 t) (iblk m c 2 t) (iblk m c 3 t) (iblk m c 4 t) (iblk m c 5 t) := by dsimp only [dats]

/-- Input 0 is found at its block at every point. -/
theorem before_0 (c : Dev nD) (t : Fin cfg0.N) (d) : (dats m 0 c).before 0 t d = iblk m c 0 t :=
  before0_0_of m (dats m 0 c) (A_eq m c 0) (after_0 m c) t d
/-- Input 1 is found at its block at every point. -/
theorem before_1 (c : Dev nD) (t : Fin cfg0.N) (d) : (dats m 0 c).before 1 t d = iblk m c 1 t :=
  before0_1_of m (dats m 0 c) (A_eq m c 1) (after_1 m c) t d
/-- Input 2 is found at its block at every point. -/
theorem before_2 (c : Dev nD) (t : Fin cfg0.N) (d) : (dats m 0 c).before 2 t d = iblk m c 2 t :=
  before0_2_of m (dats m 0 c) (A_eq m c 2) (after_2 m c) t d
/-- Input 3 is found at its block at every point. -/
theorem before_3 (c : Dev nD) (t : Fin cfg0.N) (d) : (dats m 0 c).before 3 t d = iblk m c 3 t :=
  before0_3_of m (dats m 0 c) (A_eq m c 3) (after_3 m c) t d
/-- Input 4 is found at its block at every point. -/
theorem before_4 (c : Dev nD) (t : Fin cfg0.N) (d) : (dats m 0 c).before 4 t d = iblk m c 4 t :=
  before0_4_of m (dats m 0 c) (A_eq m c 4) (after_4 m c) t d
/-- Input 5 is found at its block at every point. -/
theorem before_5 (c : Dev nD) (t : Fin cfg0.N) (d) : (dats m 0 c).before 5 t d = iblk m c 5 t :=
  before0_5_of m (dats m 0 c) (A_eq m c 5) (after_5 m c) t d
/-- Input 6 is found at its block at every point. -/
theorem before_6 (c : Dev nD) (t : Fin cfg0.N) (d) : (dats m 0 c).before 6 t d = iblk m c 6 t :=
  before0_6_of m (dats m 0 c) (A_eq m c 6) (after_6 m c) t d
/-- Input 7 is found at its block at every point. -/
theorem before_7 (c : Dev nD) (t : Fin cfg0.N) (d) : (dats m 0 c).before 7 t d = iblk m c 7 t :=
  before0_7_of m (dats m 0 c) (A_eq m c 7) (after_7 m c) t d
/-- Input 8 is found at its block at every point. -/
theorem before_8 (c : Dev nD) (t : Fin cfg0.N) (d) : (dats m 0 c).before 8 t d = iblk m c 8 t :=
  before0_8_of m (dats m 0 c) (A_eq m c 8) (after_8 m c) t d
/-- Input 9 is found at its block at every point. -/
theorem before_9 (c : Dev nD) (t : Fin cfg0.N) (d) : (dats m 0 c).before 9 t d = iblk m c 9 t :=
  before0_9_of m (dats m 0 c) (A_eq m c 9) (after_9 m c) t d

/-! ## The obligation at a point -/

/-- What the body is called with at a point. -/
def given (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare d)
    ∗ (∃ d, owns (c : Thread nD τ) (st0_13 t) fullShare d))

/-- What it hands back. -/
def returned (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (∃ d, owns (c : Thread nD τ) (st0_12 t) fullShare d)
    ∗ (∃ d, owns (c : Thread nD τ) (st0_13 t) fullShare d))

set_option maxHeartbeats 1000000 in
/-- The body at any point: the inputs' buffers hold their blocks, so `body_runs` applies; the rest passes through unread. -/
theorem body_at (c : Dev nD) (t : Fin cfg0.N) :
    given m c t ⊢ wp frame (wpE (defs₀ (F := F)) Variants.none c none) Set.univ (bodyAt0 t) (fun _ => returned m c t) := by
  unfold given returned bodyAt0
  simp only [before_0, before_1, before_2, before_3, before_4, before_5, before_6, before_7, before_8, before_9]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (body_runs c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at a point is the body as the pipeline calls it. -/
theorem table_row (t : Fin cfg0.N) : defs₀ (F := F) .tc cfg0.body (cfg0.bodyArgs t (cfg0.slots t)) = bodyAt0 t := by
  unfold defs₀; rw [Defs.onTc_tc]

/-- The pipeline's obligation with the open windows left open. -/
theorem obligation (c : Dev nD) :
    BodyObligation (dats (F := F) m 0 c) (defs₀ (F := F)) Variants.none () Set.univ open_ := fun t => by
  rw [bigSep_W0, bigSep_W0, table_row]
  exact triple_restated (body_at m c t) rfl .rfl fun _ => .rfl

/-! ## The run -/

-- the launch theorem's implicit arguments are found by unfolding plain definitions in a metavariable's type
set_option backward.isDefEq.respectTransparency.types false in
set_option maxHeartbeats 800000 in
/-- Every fair execution from a memory with zero counters ends, the arrays in the proof data's relation to what the
    region found, every other buffer as found, every counter at zero. -/
theorem runs : θ_run defs (onTc (τ := τ) (main (F := F))) (s₀ m ρ)
    (fun r => Pipeline.RDat.FramePost (cfgs 0) (fun c => (dats m 0 c).toRForget open_) (V m) r ∧ r.2.sem = fun _ => 0) :=
  Pipeline.θ_run_frame_forget (Q' := _) cfgs (dats m) (0 : Fin 1) launch0 defs₀ Variants.none open_ m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- After the run the eight arguments hold what they held at launch. -/
theorem arguments_kept {r : PUnit × MemSt nD τ sig (Elt F)} (h : Pipeline.RDat.FramePost (cfgs 0) (fun c => (dats m 0 c).toRForget open_) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(h.arr_in c 0 rfl).trans ((A_eq m c 0).trans (V_main_arg0 m c)),
    (h.arr_in c 1 rfl).trans ((A_eq m c 1).trans (V_main_arg1 m c)),
    (h.arr_in c 2 rfl).trans ((A_eq m c 2).trans (V_main_arg2 m c)),
    (h.arr_in c 3 rfl).trans ((A_eq m c 3).trans (V_main_arg3 m c)),
    ((h c).2 main_arg4 (Pipeline.mem_restRefs_of main_arg4 (by decide) (by decide))).trans (V_main_arg4 m c),
    (h.arr_in c 6 rfl).trans ((A_eq m c 6).trans (V_main_arg5 m c)),
    ((h c).2 main_arg6 (Pipeline.mem_restRefs_of main_arg6 (by decide) (by decide))).trans (V_main_arg6 m c),
    (h.arr_in c 9 rfl).trans ((A_eq m c 9).trans (V_main_arg7 m c))⟩

/-- The frame: every fair execution ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => arguments_kept m h.1 c, h.2⟩) (runs m ρ)

/-- After the run the first result is what the proof data name. -/
theorem result_named {r : PUnit × MemSt nD τ sig (Elt F)} (h : Pipeline.RDat.FramePost (cfgs 0) (fun c => (dats m 0 c).toRForget open_) (V m) r) (c : Dev nD) :
    r.2.mem ((cfg0.win 10).arr.view.loc (c.tc : Thread nD τ)) = (dats m 0 c).arrAt 10 cfg0.N :=
  ((dats m 0 c).toRForget_arrAt_iff (fgt := open_) (w := 10) rfl cfg0.N _).mp ((h c).1 10)

end Cert.Kernel3Ideal.Out

end
-- ==== Proof.OutVal.lean ====
/- The output projection: the kernel's first result and the reference's, read at an index as one formula. -/
module
public import proofs.«01_k».proof.Proof.OutIdeal
public import proofs.«01_k».proof.Proof.Gen.Reference3Ideal.Run
public import Idealize.ShloMosaic.Lib.Pipeline.ValueKit
public import Idealize.ShloMosaic.Lib.Pointwise

@[expose] public section

set_option maxRecDepth 16384

noncomputable section

namespace OutProj

open Idealize.ShloMosaic

/-- An entry of a normalised row: the row's entry over the root of its mean square, times the entry's scale. -/
def normed (a g : Fin 1024 → EReal) (k : Fin 1024) : EReal :=
  a k * Ideal.rsqrt (Ideal.div (∑ l, a l * a l) (Ideal.ofBits .f32 0x44800000#32) + Ideal.ofBits .f32 0x358637BD#32) * g k

/-- The residual entry plus the normalised attention row and the other heads' row, each against its half of the column. -/
def entry (x : EReal) (a b g wa wb : Fin 1024 → EReal) : EReal :=
  x + (∑ k, normed a g k * wa k + ∑ k, b k * wb k)

/-- Equal ingredients give equal entries. -/
theorem entry_congr {x x' : EReal} {a a' b b' g g' wa wa' wb wb' : Fin 1024 → EReal} (hx : x = x') (ha : a = a') (hb : b = b')
    (hg : g = g') (hwa : wa = wa') (hwb : wb = wb') : entry x a b g wa wb = entry x' a' b' g' wa' wb' := by
  rw [hx, ha, hb, hg, hwa, hwb]

end OutProj

namespace Cert.Kernel3Ideal.Out

open Cert.Kernel3Ideal Cert.Kernel3Ideal.Gen Idealize.ShloMosaic Idealize.ShloMosaic.TcCoe Idealize.SL.Sem
open _root_.OutProj
open Idealize.ShloMosaic.Pipeline (Dat)

/-- The block the body leaves in its first output. -/
theorem sum_apply (x0 : Vec Ideal S512x1024 .f32) (x1 : Vec Ideal S512x1024 .f32) (x2 : Vec Ideal S512x2048 .f32) (x3 : Vec Ideal S1x1024 .f32)
    (x4 : Vec Ideal S1024x2048 .bf16) (x5 : Vec Ideal S1024x2048 .bf16) (i : Fin 512) (j : Fin 2048) :
    sum x0 x1 x2 x3 x4 x5 (ix2 i j) = entry (x2 (ix2 i j)) (fun k => x0 (ix2 i k)) (fun k => x1 (ix2 i k)) (fun k => x3 (ix2 0 k))
      (fun k => x4 (ix2 k j)) (fun k => x5 (ix2 k j)) := by
  unfold sum
  frame_out
  pointwise [sumBlock, entry, normed]

/-- The same at an index of the block. -/
theorem sum_read (x0 : Vec Ideal S512x1024 .f32) (x1 : Vec Ideal S512x1024 .f32) (x2 : Vec Ideal S512x2048 .f32) (x3 : Vec Ideal S1x1024 .f32)
    (x4 : Vec Ideal S1024x2048 .bf16) (x5 : Vec Ideal S1024x2048 .bf16) (y : S512x2048.Idx) :
    sum x0 x1 x2 x3 x4 x5 y = entry (x2 (ix2 (y 0) (y 1))) (fun k => x0 (ix2 (y 0) k)) (fun k => x1 (ix2 (y 0) k)) (fun k => x3 (ix2 0 k))
      (fun k => x4 (ix2 k (y 1))) (fun k => x5 (ix2 k (y 1))) := by
  have hy : y = ix2 (y 0) (y 1) := by
    funext a; fin_cases a <;> rfl
  exact (congrArg (sum x0 x1 x2 x3 x4 x5) hy).trans (sum_apply x0 x1 x2 x3 x4 x5 (y 0) (y 1))

/-- The block of each window at a grid point: the rows move with the point, the scale and the weights stay. -/
theorem index_facts : ∀ t : Fin cfg0.N, win0_0.index t = ![(grid0.coords t 0).val, 0]
    ∧ win0_1.index t = ![(grid0.coords t 0).val, 0]
    ∧ win0_2.index t = ![(grid0.coords t 0).val, 0]
    ∧ win0_3.index t = ![0, 0]
    ∧ win0_4.index t = ![0, 0]
    ∧ win0_5.index t = ![0, 0]
    ∧ win0_10.index t = ![(grid0.coords t 0).val, 0] :=
  (by decide +kernel : ∀ t : Fin grid0.N, _)

variable (m : (ℓ : Loc nD τ sig) → Buf (Elt Ideal) ℓ)

/-- The first half of the weights the region reads: the argument's upper rows. -/
theorem upper (c : Dev nD) : V m c main_v5 = fun i : S1024x2048.Idx => (m ((c : Thread nD τ).loc main_arg4) : Vec Ideal S2048x2048 .f32)
    (ix2 (⟨(i 0).val, by have := (i 0).isLt; exact Nat.lt_of_lt_of_le this (by decide)⟩ : Fin 2048) (i 1)) := by
  funext i
  refine (show V m c main_v5 i = extractStridedSlice S1024x2048 ![0, 0] (m ((c : Thread nD τ).loc main_arg4) : Vec Ideal S2048x2048 .f32) slices_S2048x2048_S1024x2048_0_0 i from rfl).trans ?_
  have hi : i = ix2 (i 0) (i 1) := by
    funext a; fin_cases a <;> rfl
  rw [hi]
  pointwise []

/-- The second half: the argument's lower rows. -/
theorem lower (c : Dev nD) : V m c main_v6 = fun i : S1024x2048.Idx => (m ((c : Thread nD τ).loc main_arg4) : Vec Ideal S2048x2048 .f32)
    (ix2 (⟨1024 + (i 0).val, by have h : (i 0).val < 1024 := (i 0).isLt; omega⟩ : Fin 2048) (i 1)) := by
  funext i
  refine (show V m c main_v6 i = extractStridedSlice S1024x2048 ![1024, 0] (m ((c : Thread nD τ).loc main_arg4) : Vec Ideal S2048x2048 .f32) slices_S2048x2048_S1024x2048_1024_0 i from rfl).trans ?_
  have hi : i = ix2 (i 0) (i 1) := by
    funext a; fin_cases a <;> rfl
  rw [hi]
  pointwise []

/-- The first result, as one function of the arguments. -/
def result (a : Vec Ideal S16384x1024 .f32) (b : Vec Ideal S16384x1024 .f32) (x : Vec Ideal S16384x2048 .f32) (g : Vec Ideal S1x1024 .f32)
    (w : Vec Ideal S2048x2048 .f32) : Vec Ideal S16384x2048 .f32 := fun i =>
  entry (x (ix2 (i 0) (i 1))) (fun k => a (ix2 (i 0) k)) (fun k => b (ix2 (i 0) k)) (fun k => g (ix2 0 k))
    (fun k => w (ix2 (k.castAdd 1024) (i 1))) (fun k => w (ix2 (k.natAdd 1024) (i 1)))

/-- The kernel's array once every block is stored. -/
theorem final (c : Dev nD) : (dats m 0 c).arrAt 10 cfg0.N = result (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 10 _ (by decide +kernel) fun t hf y => ?_
  blk_simp
  rw [after_10]
  refine (sum_read _ _ _ _ _ _ y).trans ?_
  rw [result]
  refine entry_congr ?_ ?_ ?_ ?_ ?_ ?_
  · blk_ext [iblk, V, V_main_arg2 m c, index_facts t]
  · funext k
    blk_ext [iblk, V, V_main_arg0 m c, index_facts t]
  · funext k
    blk_ext [iblk, V, V_main_arg1 m c, index_facts t]
  · funext k
    blk_ext [iblk, V, V_main_arg3 m c, index_facts t]
  · funext k
    blk_ext [iblk, V, upper m c, index_facts t]
    rfl
  · funext k
    blk_ext [iblk, V, lower m c, index_facts t]
    rfl

end Cert.Kernel3Ideal.Out

namespace Cert.Reference3Ideal.Out

open Cert.Reference3Ideal Cert.Reference3Ideal.Gen Idealize.ShloMosaic Idealize.ShloMosaic.TcCoe Idealize.SL.Sem
open _root_.OutProj

/-- The reference's normalised attention at a row and a column. -/
theorem normed_apply (a : FVec Ideal S16384x1024 .f32) (g : FVec Ideal S1x1024 .f32) (i : Fin 16384) (k : Fin 1024) :
    mulf (mulf a (broadcastInDim S16384x1024 ![0, 1] bcast_S16384x1_S16384x1024_0_1 (Host.rsqrt (addf (Host.divf (broadcastInDim S16384x1 ![0] bcast_S16384_S16384x1_0 (Host.reduceAdd (mulf a a) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g) (ix2 i k)
      = normed (fun l => a (ix2 i l)) (fun l => g (ix2 0 l)) k := by
  pointwise [normed]

/-- Two arrays side by side, at a column of the first. -/
theorem side_left (p q : FVec Ideal S16384x1024 .f32) (i : Fin 16384) (k : Fin 1024) :
    concatenate S16384x2048 1 [⟨S16384x1024, p⟩, ⟨S16384x1024, q⟩] concatenates_S16384x1024_S16384x1024_S16384x2048_d1 (ix2 i (k.castAdd 1024)) = p (ix2 i k) := by
  pointwise []
  exact dif_pos k.isLt

/-- Two arrays side by side, at a column of the second. -/
theorem side_right (p q : FVec Ideal S16384x1024 .f32) (i : Fin 16384) (k : Fin 1024) :
    concatenate S16384x2048 1 [⟨S16384x1024, p⟩, ⟨S16384x1024, q⟩] concatenates_S16384x1024_S16384x1024_S16384x2048_d1 (ix2 i (k.natAdd 1024)) = q (ix2 i k) := by
  pointwise []
  refine (dif_neg (by simp)).trans (congrArg (fun l => q (ix2 i l)) (Fin.ext ?_))
  simp

/-- The reference's product of rows given side by side, plus the residual. -/
theorem product_apply (x : FVec Ideal S16384x2048 .f32) (p q : FVec Ideal S16384x1024 .f32) (w : FVec Ideal S2048x2048 .f32) (i : Fin 16384) (j : Fin 2048) :
    addf x (Host.dotGeneral dot_S16384x2048_S2048x2048_S16384x2048_1_0_0_1_n_n none (concatenate S16384x2048 1 [⟨S16384x1024, p⟩, ⟨S16384x1024, q⟩] concatenates_S16384x1024_S16384x1024_S16384x2048_d1) w) (ix2 i j)
      = x (ix2 i j) + (∑ k : Fin 1024, p (ix2 i k) * w (ix2 (k.castAdd 1024) j) + ∑ k : Fin 1024, q (ix2 i k) * w (ix2 (k.natAdd 1024) j)) := by
  have whole : ∀ y : FVec Ideal S16384x2048 .f32, addf x (Host.dotGeneral dot_S16384x2048_S2048x2048_S16384x2048_1_0_0_1_n_n none y w) (ix2 i j)
      = x (ix2 i j) + ∑ k : Fin 2048, y (ix2 i k) * w (ix2 k j) := fun y => by
    pointwise []
  refine (whole _).trans (congrArg (x (ix2 i j) + ·) ?_)
  refine (Fin.sum_univ_add (a := 1024) (b := 1024) _).trans ?_
  refine congr (congrArg HAdd.hAdd ?_) ?_
  · exact Finset.sum_congr rfl fun k _ => congrArg (· * _) (side_left p q i k)
  · exact Finset.sum_congr rfl fun k _ => congrArg (· * _) (side_right p q i k)

/-- The reference's result is the kernel's formula of the same arguments. -/
theorem ref_read (a b : FVec Ideal S16384x1024 .f32) (x : FVec Ideal S16384x2048 .f32) (g : FVec Ideal S1x1024 .f32) (w : FVec Ideal S2048x2048 .f32) :
    addf x (Host.dotGeneral dot_S16384x2048_S2048x2048_S16384x2048_1_0_0_1_n_n none (concatenate S16384x2048 1 [⟨S16384x1024, (mulf (mulf a (broadcastInDim S16384x1024 ![0, 1] bcast_S16384x1_S16384x1024_0_1 (Host.rsqrt (addf (Host.divf (broadcastInDim S16384x1 ![0] bcast_S16384_S16384x1_0 (Host.reduceAdd (mulf a a) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 g))⟩, ⟨S16384x1024, b⟩] concatenates_S16384x1024_S16384x1024_S16384x2048_d1) w)
      = Cert.Kernel3Ideal.Out.result a b x g w := by
  funext y
  have hy : y = ix2 (y 0) (y 1) := by
    funext a; fin_cases a <;> rfl
  rw [hy]
  refine (product_apply x _ b w (y 0) (y 1)).trans ?_
  unfold Cert.Kernel3Ideal.Out.result entry
  refine congrArg (x (ix2 (y 0) (y 1)) + ·) (congrArg (· + _) ?_)
  exact Finset.sum_congr rfl fun k _ => congrArg (· * _) (normed_apply a g (y 0) k)

end Cert.Reference3Ideal.Out

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel.Frame
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Reference4Ideal.Run
public import proofs.«01_k».proof.Proof.Gen.Pre_scheduled
public import proofs.«01_k».proof.Proof.ExpertOut
public import proofs.«01_k».proof.Proof.ExpertOutBits
public import proofs.«01_k».proof.Proof.ExpertPlan
public import proofs.«01_k».proof.Proof.ExpertVal
public import proofs.«01_k».proof.Proof.ExpertRef
public import proofs.«01_k».proof.Proof.Gen.KernelIdeal.Frame
public import proofs.«01_k».proof.Proof.Gen.Pre_finite
public import proofs.«01_k».proof.Proof.RefVal
public import proofs.«01_k».proof.Proof.Finite
public import proofs.«01_k».proof.Proof.Proj
public import proofs.«01_k».proof.Proof.OutBits
public import proofs.«01_k».proof.Proof.OutVal
public import Idealize.ShloMosaic.Lib.Bf16Pair
public import Idealize.ShloMosaic.Lib.Bf16PairInverse
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.SL.Sem

/-- The reference runs, keeps its argument and declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD, r.2.mem ((c.tc : Thread Cert.ReferenceIdeal.nD Cert.ReferenceIdeal.τ).loc Cert.ReferenceIdeal.main_arg0)
        = m ((c.tc : Thread Cert.ReferenceIdeal.nD Cert.ReferenceIdeal.τ).loc Cert.ReferenceIdeal.main_arg0)) ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two rewritten constants: the mask's large negative number and the scale of the exponent. -/
theorem preserves : Cert.preserves_Kernel_KernelIdeal :=
  ⟨IdealRules.named_const.statement Cert.KernelIdeal.κ "neg_big" .f32 0xF149F2CA#32 ⊥ rfl,
    IdealRules.named_const.statement Cert.KernelIdeal.κ "exp_scale" .f32 0x3E0293EE#32 (((Real.sqrt 128)⁻¹ * (Real.log 2)⁻¹ : ℝ) : EReal) rfl⟩

/-- From a finite argument the kernel and the reference end with the same result: both hold `Att.result A`, `A` the argument as a
    matrix of reals. -/
theorem algebraic : Cert.algebraic_KernelIdeal_ReferenceIdeal_pre_finite := by
  intro m ρ m' ρ' hpre hagree
  choose A hA using fun c : Dev Cert.KernelIdeal.nD => Cert.Pre_finite.matrix_of_fn _ (hpre c)
  refine ⟨fun c => Cert.KernelIdeal.Att.result (A c), ?_, ?_⟩
  · exact (θ_run Cert.KernelIdeal.defs _ _).mono
      (fun _ h c => ⟨(h c).1.trans (Cert.KernelIdeal.Att.final m c (hA c)), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    refine (Cert.ReferenceIdeal.Att.res_eq m' c).trans ?_
    refine Cert.ReferenceIdeal.Att.staged_att _ fun i => ?_
    exact (congrFun (hagree c) i).trans (hA c i)

/-- The projection's reference runs, keeps its arguments and declares no semaphore. -/
theorem frame_reference2 (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2)
          = m ((c.tc : Thread Cert.Reference2Ideal.nD Cert.Reference2Ideal.τ).loc Cert.Reference2Ideal.main_arg2)) ∧ r.2.sem = fun _ => 0) :=
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The projection and its reference end with the same result from any arguments: both hold `Proj.result` of them. -/
theorem algebraic2 : Cert.algebraic_Kernel2Ideal_Reference2Ideal := by
  intro m ρ m' ρ' _ hagree
  refine ⟨fun c => Cert.Kernel2Ideal.Proj.result (m (c, Proc.devRef .tc Cert.Kernel2Ideal.main_arg0)) (m (c, Proc.devRef .tc Cert.Kernel2Ideal.main_arg1))
    (m (c, Proc.devRef .tc Cert.Kernel2Ideal.main_arg2)), ?_, ?_⟩
  · exact (θ_run Cert.Kernel2Ideal.defs _ _).mono
      (fun _ h c => ⟨(h c).1.trans (Cert.Kernel2Ideal.Proj.final m c), (h c).2⟩)
      (Cert.Kernel2Ideal.Value.run_blocks (F := Ideal) m ρ)
  · refine (θ_run Cert.Reference2Ideal.defs _ _).mono (fun _ h c => ⟨(h c).1.trans ?_, (h c).2⟩) (Cert.Reference2Ideal.Value.run (F := Ideal) m' ρ')
    obtain ⟨h0, h1, h2⟩ := hagree c
    refine (Cert.Reference2Ideal.Proj.ref_read _ _ _).trans ?_
    exact congr (congr (congrArg Cert.Kernel2Ideal.Proj.result h0) h1) h2

/-- The output projection's reference runs, keeps its arguments and declares no semaphore. -/
theorem frame_reference3 (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0)
          = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1)
          = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2)
          = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3)
          = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4)
          = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5)
          = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6)
          = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7)
          = m ((c.tc : Thread Cert.Reference3Ideal.nD Cert.Reference3Ideal.τ).loc Cert.Reference3Ideal.main_arg7)) ∧ r.2.sem = fun _ => 0) :=
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The rewrites of the output projection: its packed words as pairs of halves, the array and the block that hold them. -/
theorem preserves3 : Cert.preserves_Kernel3_Kernel3Ideal :=
  ⟨IdealRules.bf16_pair.bufferStatement Cert.Kernel3Ideal.S131072x2x128 Cert.Kernel3Ideal.S131072x1x128,
    IdealRules.bf16_pair.bufferStatement Cert.Kernel3Ideal.S4096x2x128 Cert.Kernel3Ideal.S4096x1x128,
    IdealRules.bf16_pair.halfStatement Cert.Kernel3Ideal.S512x2048,
    IdealRules.bf16_pair.statement Cert.Kernel3Ideal.S512x2x128 Cert.Kernel3Ideal.S512x1x128⟩

/-- The output projection and its reference end with the same first result from any arguments: both hold `Out.result` of them. -/
theorem algebraic3 : Cert.algebraic_Kernel3Ideal_Reference3Ideal := by
  intro m ρ m' ρ' _ hagree
  refine ⟨fun c => Cert.Kernel3Ideal.Out.result (m (c, Proc.devRef .tc Cert.Kernel3Ideal.main_arg0)) (m (c, Proc.devRef .tc Cert.Kernel3Ideal.main_arg1))
    (m (c, Proc.devRef .tc Cert.Kernel3Ideal.main_arg2)) (m (c, Proc.devRef .tc Cert.Kernel3Ideal.main_arg3))
    (m (c, Proc.devRef .tc Cert.Kernel3Ideal.main_arg4)), ?_, ?_⟩
  · exact (θ_run Cert.Kernel3Ideal.defs _ _).mono
      (fun _ h c => ⟨(Cert.Kernel3Ideal.Out.result_named m h.1 c).trans (Cert.Kernel3Ideal.Out.final m c), Cert.Kernel3Ideal.Out.arguments_kept m h.1 c⟩)
      (Cert.Kernel3Ideal.Out.runs m ρ)
  · refine (θ_run Cert.Reference3Ideal.defs _ _).mono (fun _ h c => ⟨(h c).1.trans ?_, (h c).2⟩) (Cert.Reference3Ideal.Value.run (F := Ideal) m' ρ')
    obtain ⟨h0, h1, h2, h3, h4, -⟩ := hagree c
    refine (Cert.Reference3Ideal.Out.ref_read _ _ _ _ _).trans ?_
    exact congr (congr (congr (congr (congrArg Cert.Kernel3Ideal.Out.result h0) h1) h2) h3) h4

/-- What the precondition says of `Kernel4`'s tables, at a device. -/
theorem sched_Kernel4 (m : (ℓ : Loc Cert.Kernel4.nD Cert.Kernel4.τ Cert.Kernel4.sig) → Buf (Elt Bits) ℓ) (h : Cert.Pre_Kernel4 m) (c : Dev Cert.Kernel4.nD) :
    Cert.Kernel4.Run.Sched (m ((c.tc : Thread Cert.Kernel4.nD Cert.Kernel4.τ).loc Cert.Kernel4.main_arg0))
      (m ((c.tc : Thread Cert.Kernel4.nD Cert.Kernel4.τ).loc Cert.Kernel4.main_arg1))
      (m ((c.tc : Thread Cert.Kernel4.nD Cert.Kernel4.τ).loc Cert.Kernel4.main_arg2))
      (m ((c.tc : Thread Cert.Kernel4.nD Cert.Kernel4.τ).loc Cert.Kernel4.main_arg3)) := by
  have p := Cert.Pre_scheduled.plan_of_fn _ _ _ _ _ _ _ _ (h c)
  have e : Cert.Pre_scheduled.sole = Cert.Kernel4.Run.only := Subsingleton.elim (α := Cert.Pre_scheduled.S1.Idx) _ _
  obtain ⟨lo, hi, first, expert, next, turn, keep, last⟩ := p
  rw [e] at lo hi expert next turn keep last
  exact ⟨lo, hi, first, expert, next, turn, keep, last⟩

/-- What the precondition says of `Kernel4Ideal`'s tables, at a device. -/
theorem sched_Kernel4Ideal (m : (ℓ : Loc Cert.Kernel4Ideal.nD Cert.Kernel4Ideal.τ Cert.Kernel4Ideal.sig) → Buf (Elt Ideal) ℓ) (h : Cert.Pre_Kernel4Ideal m) (c : Dev Cert.Kernel4Ideal.nD) :
    Cert.Kernel4Ideal.Run.Sched (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3)) := by
  have p := Cert.Pre_scheduled.plan_of_fn _ _ _ _ _ _ _ _ (h c)
  have e : Cert.Pre_scheduled.sole = Cert.Kernel4Ideal.Run.only := Subsingleton.elim (α := Cert.Pre_scheduled.S1.Idx) _ _
  obtain ⟨lo, hi, first, expert, next, turn, keep, last⟩ := p
  rw [e] at lo hi expert next turn keep last
  exact ⟨lo, hi, first, expert, next, turn, keep, last⟩

/-- The experts' reference runs, keeps its arguments and declares no semaphore. -/
theorem frame_reference4 (m : (ℓ : Loc Cert.Reference4Ideal.nD Cert.Reference4Ideal.τ Cert.Reference4Ideal.sig) → Buf (Elt Ideal) ℓ)
    (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0)
          = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1)
          = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2)
          = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3)
          = m ((c.tc : Thread Cert.Reference4Ideal.nD Cert.Reference4Ideal.τ).loc Cert.Reference4Ideal.main_arg3)
        ∧ r.2.mem ((c.tc : Thread Cert.Reference4Ideal.nD Cert.Reference4Ideal.τ).loc Cert.Reference4Ideal.main_arg4)
          = m ((c.tc : Thread Cert.Reference4Ideal.nD Cert.Reference4Ideal.τ).loc Cert.Reference4Ideal.main_arg4)
        ∧ r.2.mem ((c.tc : Thread Cert.Reference4Ideal.nD Cert.Reference4Ideal.τ).loc Cert.Reference4Ideal.main_arg5)
          = m ((c.tc : Thread Cert.Reference4Ideal.nD Cert.Reference4Ideal.τ).loc Cert.Reference4Ideal.main_arg5)
        ∧ r.2.mem ((c.tc : Thread Cert.Reference4Ideal.nD Cert.Reference4Ideal.τ).loc Cert.Reference4Ideal.main_arg6)
          = m ((c.tc : Thread Cert.Reference4Ideal.nD Cert.Reference4Ideal.τ).loc Cert.Reference4Ideal.main_arg6)
        ∧ r.2.mem ((c.tc : Thread Cert.Reference4Ideal.nD Cert.Reference4Ideal.τ).loc Cert.Reference4Ideal.main_arg7)
          = m ((c.tc : Thread Cert.Reference4Ideal.nD Cert.Reference4Ideal.τ).loc Cert.Reference4Ideal.main_arg7)) ∧ r.2.sem = fun _ => 0) :=
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The experts' call and its reference end with the same result from a schedule's tables: both hold `Run.result` of the arguments. -/
theorem algebraic4 : Cert.algebraic_Kernel4Ideal_Reference4Ideal := by
  intro m ρ m' ρ' hpre hagree
  have hS := fun c => sched_Kernel4Ideal m hpre c
  refine ⟨fun c => Cert.Kernel4Ideal.Run.result (Cert.Kernel4Ideal.Run.V m c Cert.Kernel4Ideal.main_arg0) (Cert.Kernel4Ideal.Run.V m c Cert.Kernel4Ideal.main_arg3)
    (Cert.Kernel4Ideal.Run.V m c Cert.Kernel4Ideal.main_arg4) (Cert.Kernel4Ideal.Run.V m c Cert.Kernel4Ideal.main_arg5)
    (Cert.Kernel4Ideal.Run.V m c Cert.Kernel4Ideal.main_arg6) (Cert.Kernel4Ideal.Run.V m c Cert.Kernel4Ideal.main_arg7), ?_, ?_⟩
  · refine (θ_run Cert.Kernel4Ideal.defs _ _).mono (fun r h c => ⟨((h.1 c).1 1).trans ?_, Cert.Kernel4Ideal.Run.arguments_kept m (Cert.Kernel4Ideal.Run.adm m hS) h.1 c⟩)
      (Cert.Kernel4Ideal.Run.runs m ρ (Cert.Kernel4Ideal.Run.adm m hS) (fun c k => Cert.Kernel4Ideal.Run.tabs_at m c k) hS)
    exact Cert.Kernel4Ideal.Run.final m (Cert.Kernel4Ideal.Run.adm m hS) (hS 0).lo (hS 0).hi c (Cert.Kernel4Ideal.Run.tabs_at m c 3)
  · refine (θ_run Cert.Reference4Ideal.defs _ _).mono (fun _ h c => ⟨(h c).1.trans ?_, (h c).2⟩) (Cert.Reference4Ideal.Value.run (F := Ideal) m' ρ')
    obtain ⟨h0, -, -, h3, h4, h5, h6, h7⟩ := hagree c
    exact Cert.Reference4Ideal.Value.ref_read m' c _ _ _ _ _ _ h0 h3 h4 h5 h6 h7 (hS c).hi (hS c).expert

/-- The certificate: the frames, the rewrites and the equality of the results, of the attention, of the input projection, of
    the output projection and of the experts. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Gen.facts, Cert.Pre_scheduled.Gen.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.Kernel2.Gen.frame m ρ, fun m ρ _ => Cert.Kernel2Ideal.Gen.frame m ρ, fun m ρ _ => frame_reference2 m ρ,
  fun m ρ _ => Cert.Kernel3.Out.frame m ρ, fun m ρ _ => Cert.Kernel3Ideal.Out.frame m ρ, fun m ρ _ => frame_reference3 m ρ,
  fun m ρ h => Cert.Kernel4.Run.frame m ρ (sched_Kernel4 m h), fun m ρ h => Cert.Kernel4Ideal.Run.frame m ρ (sched_Kernel4Ideal m h),
  fun m ρ _ => frame_reference4 m ρ, fun m ρ _ => frame_reference4 m ρ,
  preserves, algebraic, trivial, algebraic2, preserves3, algebraic3, trivial, algebraic4⟩

end Cert.Proof

end
